-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "exp2_scale" .f32 0x3CB8AA3B#32 (((1 / 64) * (Real.log 2)⁻¹ : ℝ) : EReal)
  ∧ IdealRules.named_const.Statement Cert.KernelIdeal.κ "mask" .f32 0xFF61B1E6#32 ⊥
  ∧ IdealRules.named_const.Statement Cert.KernelIdeal.κ "log2_e" .f32 0x3FB8AA3B#32 (((Real.log 2)⁻¹ : ℝ) : EReal)
  ∧ IdealRules.named_const.Statement Cert.KernelIdeal.κ "ln_2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x14x65536x64 : Shape := ⟨4, ![6, 14, 65536, 64]⟩
abbrev S6x14x65536 : Shape := ⟨3, ![6, 14, 65536]⟩
abbrev S6x2x65536x64 : Shape := ⟨4, ![6, 2, 65536, 64]⟩
abbrev S6x2x65536 : Shape := ⟨3, ![6, 2, 65536]⟩
abbrev S6x14x64x65536 : Shape := ⟨4, ![6, 14, 64, 65536]⟩
abbrev S84x64x65536 : Shape := ⟨3, ![84, 64, 65536]⟩
abbrev S84x64x8x16x8 : Shape := ⟨5, ![84, 64, 8, 16, 8]⟩
abbrev S84x64x8x128 : Shape := ⟨4, ![84, 64, 8, 128]⟩
abbrev S84x512x8192 : Shape := ⟨3, ![84, 512, 8192]⟩
abbrev S1x64x1024 : Shape := ⟨3, ![1, 64, 1024]⟩
abbrev S1x1x8x128 : Shape := ⟨4, ![1, 1, 8, 128]⟩
abbrev S1x512x128 : Shape := ⟨3, ![1, 512, 128]⟩
abbrev S64x1024 : Shape := ⟨2, ![64, 1024]⟩
abbrev S64x128 : Shape := ⟨2, ![64, 128]⟩
abbrev S1x1x1x128 : Shape := ⟨4, ![1, 1, 1, 128]⟩
abbrev S1x128 : Shape := ⟨2, ![1, 128]⟩
abbrev S512x128 : Shape := ⟨2, ![512, 128]⟩
abbrev S6x2x64x65536 : Shape := ⟨4, ![6, 2, 64, 65536]⟩
abbrev S12x64x65536 : Shape := ⟨3, ![12, 64, 65536]⟩
abbrev S12x64x8x16x8 : Shape := ⟨5, ![12, 64, 8, 16, 8]⟩
abbrev S12x64x8x128 : Shape := ⟨4, ![12, 64, 8, 128]⟩
abbrev S12x8192x512 : Shape := ⟨3, ![12, 8192, 512]⟩
abbrev S1x128x512 : Shape := ⟨3, ![1, 128, 512]⟩
abbrev S128x512 : Shape := ⟨2, ![128, 512]⟩
abbrev S84x512x512 : Shape := ⟨3, ![84, 512, 512]⟩
abbrev S84x32x1x256 : Shape := ⟨4, ![84, 32, 1, 256]⟩
abbrev S1x512x256 : Shape := ⟨3, ![1, 512, 256]⟩
abbrev S1x8192x512 : Shape := ⟨3, ![1, 8192, 512]⟩
abbrev S1x16x512 : Shape := ⟨3, ![1, 16, 512]⟩
abbrev S1x1x1x256 : Shape := ⟨4, ![1, 1, 1, 256]⟩
abbrev S512x256 : Shape := ⟨2, ![512, 256]⟩
abbrev S1x256x512 : Shape := ⟨3, ![1, 256, 512]⟩
abbrev S256x512 : Shape := ⟨2, ![256, 512]⟩
abbrev S256x256 : Shape := ⟨2, ![256, 256]⟩
abbrev S2x16x8x256 : Shape := ⟨4, ![2, 16, 8, 256]⟩
abbrev S2x8x256 : Shape := ⟨3, ![2, 8, 256]⟩
abbrev S2x1x8x256 : Shape := ⟨4, ![2, 1, 8, 256]⟩
abbrev S16x256 : Shape := ⟨2, ![16, 256]⟩
abbrev S256 : Shape := ⟨1, ![256]⟩
abbrev S1x256 : Shape := ⟨2, ![1, 256]⟩
abbrev S2x16x8x512 : Shape := ⟨4, ![2, 16, 8, 512]⟩
abbrev S2x8x512 : Shape := ⟨3, ![2, 8, 512]⟩
abbrev S16x512 : Shape := ⟨2, ![16, 512]⟩
abbrev S6x14x64x16x8 : Shape := ⟨5, ![6, 14, 64, 16, 8]⟩
abbrev S6x14x64x8x16 : Shape := ⟨5, ![6, 14, 64, 8, 16]⟩
abbrev S6x14x8192 : Shape := ⟨3, ![6, 14, 8192]⟩
abbrev S6x14x512x512 : Shape := ⟨4, ![6, 14, 512, 512]⟩

abbrev nBuf : Space → Nat
  | .hbm => 22
  | .vmem => 23
  | .smem => 0
  | _ => 0

abbrev bufTy : (tb : Table) → Fin (tcTables nBuf tb) → BufTy
  | .hbm, ⟨0, _⟩ => ⟨S6x14x65536x64, .fp8e4m3⟩
  | .hbm, ⟨1, _⟩ => ⟨S6x14x65536, .f32⟩
  | .hbm, ⟨2, _⟩ => ⟨S6x2x65536x64, .fp8e4m3⟩
  | .hbm, ⟨3, _⟩ => ⟨S6x2x65536, .f32⟩
  | .hbm, ⟨4, _⟩ => ⟨S6x14x64x65536, .fp8e4m3⟩
  | .hbm, ⟨5, _⟩ => ⟨S84x64x65536, .fp8e4m3⟩
  | .hbm, ⟨6, _⟩ => ⟨S84x64x8x16x8, .f32⟩
  | .hbm, ⟨7, _⟩ => ⟨S84x64x8x16x8, .f32⟩
  | .hbm, ⟨8, _⟩ => ⟨S84x64x8x128, .f32⟩
  | .hbm, ⟨9, _⟩ => ⟨S84x512x8192, .bf16⟩
  | .hbm, ⟨10, _⟩ => ⟨S6x2x64x65536, .fp8e4m3⟩
  | .hbm, ⟨11, _⟩ => ⟨S12x64x65536, .fp8e4m3⟩
  | .hbm, ⟨12, _⟩ => ⟨S12x64x8x16x8, .f32⟩
  | .hbm, ⟨13, _⟩ => ⟨S12x64x8x16x8, .f32⟩
  | .hbm, ⟨14, _⟩ => ⟨S12x64x8x128, .f32⟩
  | .hbm, ⟨15, _⟩ => ⟨S12x8192x512, .bf16⟩
  | .hbm, ⟨16, _⟩ => ⟨S84x512x512, .f32⟩
  | .hbm, ⟨17, _⟩ => ⟨S84x32x1x256, .f32⟩
  | .hbm, ⟨18, _⟩ => ⟨S6x14x64x16x8, .f32⟩
  | .hbm, ⟨19, _⟩ => ⟨S6x14x64x8x16, .f32⟩
  | .hbm, ⟨20, _⟩ => ⟨S6x14x8192, .f32⟩
  | .hbm, ⟨21, _⟩ => ⟨S6x14x512x512, .f32⟩
  | .local _ .vmem, ⟨0, _⟩ => ⟨S1x64x1024, .fp8e4m3⟩
  | .local _ .vmem, ⟨1, _⟩ => ⟨S1x64x1024, .fp8e4m3⟩
  | .local _ .vmem, ⟨2, _⟩ => ⟨S1x1x8x128, .f32⟩
  | .local _ .vmem, ⟨3, _⟩ => ⟨S1x1x8x128, .f32⟩
  | .local _ .vmem, ⟨4, _⟩ => ⟨S1x512x128, .bf16⟩
  | .local _ .vmem, ⟨5, _⟩ => ⟨S1x512x128, .bf16⟩
  | .local _ .vmem, ⟨6, _⟩ => ⟨S1x64x1024, .fp8e4m3⟩
  | .local _ .vmem, ⟨7, _⟩ => ⟨S1x64x1024, .fp8e4m3⟩
  | .local _ .vmem, ⟨8, _⟩ => ⟨S1x1x8x128, .f32⟩
  | .local _ .vmem, ⟨9, _⟩ => ⟨S1x1x8x128, .f32⟩
  | .local _ .vmem, ⟨10, _⟩ => ⟨S1x128x512, .bf16⟩
  | .local _ .vmem, ⟨11, _⟩ => ⟨S1x128x512, .bf16⟩
  | .local _ .vmem, ⟨12, _⟩ => ⟨S1x512x256, .bf16⟩
  | .local _ .vmem, ⟨13, _⟩ => ⟨S1x512x256, .bf16⟩
  | .local _ .vmem, ⟨14, _⟩ => ⟨S1x8192x512, .bf16⟩
  | .local _ .vmem, ⟨15, _⟩ => ⟨S1x8192x512, .bf16⟩
  | .local _ .vmem, ⟨16, _⟩ => ⟨S1x16x512, .f32⟩
  | .local _ .vmem, ⟨17, _⟩ => ⟨S1x16x512, .f32⟩
  | .local _ .vmem, ⟨18, _⟩ => ⟨S1x1x1x256, .f32⟩
  | .local _ .vmem, ⟨19, _⟩ => ⟨S1x1x1x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | _, _ => ⟨S6x14x65536x64, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_scratch0 : Ref sig .tc := ⟨.vmem, 20, rfl⟩
abbrev cc2_scratch1 : Ref sig .tc := ⟨.vmem, 21, rfl⟩
abbrev cc2_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨2, ![84, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x64x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![12, 64], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x64x1024 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![84, 32], ![false, false]⟩

@[reducible] def k2_t1_loop (i : grid2.Coords) : Scf.Loop 32 :=
  let c0_i32_4 : BitVec 32 := 0#32
  let arg1 : BitVec 32 := BitVec.ofNat 32 (i 1).val
  let c0_i32 : BitVec 32 := 0#32
  let v0 : BitVec 32 := Scalar.subi arg1 c0_i32
  let c1_i32 : BitVec 32 := 1#32
  let c1_i32_0 : BitVec 32 := 1#32
  let v1 : BitVec 32 := Scalar.subi c1_i32 c1_i32_0
  let v2 : BitVec 32 := Scalar.addi v0 v1
  let c1_i32_1 : BitVec 32 := 1#32
  let v3 : BitVec 32 := Scalar.divsi v2 c1_i32_1
  let v4 : BitVec 32 := Scalar.subi v3 c0_i32_4
  let c1_i32_5 : BitVec 32 := 1#32
  let v6 : BitVec 32 := Scalar.divsi v4 c1_i32_5
  let v7 : BitVec 32 := Scalar.muli v6 c1_i32_5
  let v8 : BitVec 32 := Scalar.addi c0_i32_4 v7
  let c1_i32_6 : BitVec 32 := 1#32
  ⟨c0_i32_4, v8, c1_i32_6⟩
def k2_off1 (i : grid2.Coords) (k2_t1 : Fin (k2_t1_loop i).trips) : Fin 3 → Nat :=
  let c0_114 : Index := 0#32
  let c0_i32_3 : BitVec 32 := 0#32
  let c0_i32_4 : BitVec 32 := 0#32
  let c1_i32_6 : BitVec 32 := 1#32
  let arg9 : BitVec 32 := Scf.iv c0_i32_4 c1_i32_6 k2_t1
  let c1_i32_2 : BitVec 32 := 1#32
  let v282 : BitVec 32 := Scalar.muli arg9 c1_i32_2
  let v283 : BitVec 32 := Scalar.addi c0_i32_3 v282
  let c256_i32_113 : BitVec 32 := 256#32
  let v284 : BitVec 32 := Scalar.muli v283 c256_i32_113
  let v285 : Index := Scalar.indexCast v284
  let c0_115 : Index := 0#32
  ![0, v285.toNat, 0]
def k2_off2 (i : grid2.Coords) (k2_t1 : Fin (k2_t1_loop i).trips) : Fin 2 → Nat :=
  let c0_i32_3 : BitVec 32 := 0#32
  let c0_i32_4 : BitVec 32 := 0#32
  let c1_i32_6 : BitVec 32 := 1#32
  let arg9 : BitVec 32 := Scf.iv c0_i32_4 c1_i32_6 k2_t1
  let c1_i32_2 : BitVec 32 := 1#32
  let v282 : BitVec 32 := Scalar.muli arg9 c1_i32_2
  let v283 : BitVec 32 := Scalar.addi c0_i32_3 v282
  let c16_i32_123 : BitVec 32 := 16#32
  let v301 : BitVec 32 := Scalar.muli v283 c16_i32_123
  let v302 : Index := Scalar.indexCast v301
  let c0_124 : Index := 0#32
  ![v302.toNat, 0]
@[reducible] def k2_t2_loop (i : grid2.Coords) : Scf.Loop 32 :=
  let c0_i32_4 : BitVec 32 := 0#32
  let arg1 : BitVec 32 := BitVec.ofNat 32 (i 1).val
  let c0_i32 : BitVec 32 := 0#32
  let v0 : BitVec 32 := Scalar.subi arg1 c0_i32
  let c1_i32 : BitVec 32 := 1#32
  let c1_i32_0 : BitVec 32 := 1#32
  let v1 : BitVec 32 := Scalar.subi c1_i32 c1_i32_0
  let v2 : BitVec 32 := Scalar.addi v0 v1
  let c1_i32_1 : BitVec 32 := 1#32
  let v3 : BitVec 32 := Scalar.divsi v2 c1_i32_1
  let v4 : BitVec 32 := Scalar.subi v3 c0_i32_4
  let c1_i32_5 : BitVec 32 := 1#32
  let v6 : BitVec 32 := Scalar.divsi v4 c1_i32_5
  let v7 : BitVec 32 := Scalar.muli v6 c1_i32_5
  let v8 : BitVec 32 := Scalar.addi c0_i32_4 v7
  let v5 : BitVec 32 := Scalar.addi c0_i32_4 v4
  let c1_i32_7 : BitVec 32 := 1#32
  ⟨v8, v5, c1_i32_7⟩
def k2_off3 (i : grid2.Coords) (k2_t2 : Fin (k2_t2_loop i).trips) : Fin 3 → Nat :=
  let c0_114 : Index := 0#32
  let c0_i32_3 : BitVec 32 := 0#32
  let c0_i32_4 : BitVec 32 := 0#32
  let arg1 : BitVec 32 := BitVec.ofNat 32 (i 1).val
  let c0_i32 : BitVec 32 := 0#32
  let v0 : BitVec 32 := Scalar.subi arg1 c0_i32
  let c1_i32 : BitVec 32 := 1#32
  let c1_i32_0 : BitVec 32 := 1#32
  let v1 : BitVec 32 := Scalar.subi c1_i32 c1_i32_0
  let v2 : BitVec 32 := Scalar.addi v0 v1
  let c1_i32_1 : BitVec 32 := 1#32
  let v3 : BitVec 32 := Scalar.divsi v2 c1_i32_1
  let v4 : BitVec 32 := Scalar.subi v3 c0_i32_4
  let c1_i32_5 : BitVec 32 := 1#32
  let v6 : BitVec 32 := Scalar.divsi v4 c1_i32_5
  let v7 : BitVec 32 := Scalar.muli v6 c1_i32_5
  let v8 : BitVec 32 := Scalar.addi c0_i32_4 v7
  let c1_i32_7 : BitVec 32 := 1#32
  let arg9 : BitVec 32 := Scf.iv v8 c1_i32_7 k2_t2
  let c1_i32_2 : BitVec 32 := 1#32
  let v282 : BitVec 32 := Scalar.muli arg9 c1_i32_2
  let v283 : BitVec 32 := Scalar.addi c0_i32_3 v282
  let c256_i32_113 : BitVec 32 := 256#32
  let v284 : BitVec 32 := Scalar.muli v283 c256_i32_113
  let v285 : Index := Scalar.indexCast v284
  let c0_115 : Index := 0#32
  ![0, v285.toNat, 0]
def k2_off4 (i : grid2.Coords) (k2_t2 : Fin (k2_t2_loop i).trips) : Fin 2 → Nat :=
  let c0_i32_3 : BitVec 32 := 0#32
  let c0_i32_4 : BitVec 32 := 0#32
  let arg1 : BitVec 32 := BitVec.ofNat 32 (i 1).val
  let c0_i32 : BitVec 32 := 0#32
  let v0 : BitVec 32 := Scalar.subi arg1 c0_i32
  let c1_i32 : BitVec 32 := 1#32
  let c1_i32_0 : BitVec 32 := 1#32
  let v1 : BitVec 32 := Scalar.subi c1_i32 c1_i32_0
  let v2 : BitVec 32 := Scalar.addi v0 v1
  let c1_i32_1 : BitVec 32 := 1#32
  let v3 : BitVec 32 := Scalar.divsi v2 c1_i32_1
  let v4 : BitVec 32 := Scalar.subi v3 c0_i32_4
  let c1_i32_5 : BitVec 32 := 1#32
  let v6 : BitVec 32 := Scalar.divsi v4 c1_i32_5
  let v7 : BitVec 32 := Scalar.muli v6 c1_i32_5
  let v8 : BitVec 32 := Scalar.addi c0_i32_4 v7
  let c1_i32_7 : BitVec 32 := 1#32
  let arg9 : BitVec 32 := Scf.iv v8 c1_i32_7 k2_t2
  let c1_i32_2 : BitVec 32 := 1#32
  let v282 : BitVec 32 := Scalar.muli arg9 c1_i32_2
  let v283 : BitVec 32 := Scalar.addi c0_i32_3 v282
  let c16_i32_123 : BitVec 32 := 16#32
  let v301 : BitVec 32 := Scalar.muli v283 c16_i32_123
  let v302 : Index := Scalar.indexCast v301
  let c0_124 : Index := 0#32
  ![v302.toNat, 0]
def k2_off5 (i : grid2.Coords) : Fin 3 → Nat :=
  let c0 : Index := 0#32
  let arg1 : BitVec 32 := BitVec.ofNat 32 (i 1).val
  let c256_i32 : BitVec 32 := 256#32
  let v9 : BitVec 32 := Scalar.muli arg1 c256_i32
  let v10 : Index := Scalar.indexCast v9
  let c0_8 : Index := 0#32
  ![0, v10.toNat, 0]
def k2_off6 (i : grid2.Coords) : Fin 2 → Nat :=
  let arg1 : BitVec 32 := BitVec.ofNat 32 (i 1).val
  let c16_i32_43 : BitVec 32 := 16#32
  let v125 : BitVec 32 := Scalar.muli arg1 c16_i32_43
  let v126 : Index := Scalar.indexCast v125
  let c0_44 : Index := 0#32
  ![v126.toNat, 0]
@[reducible] def k2_t3_loop (i : grid2.Coords) : Scf.Loop 32 :=
  let c0_i32_49 : BitVec 32 := 0#32
  let arg1 : BitVec 32 := BitVec.ofNat 32 (i 1).val
  let c1_i32_47 : BitVec 32 := 1#32
  let v136 : BitVec 32 := Scalar.addi arg1 c1_i32_47
  let v138 : BitVec 32 := Scalar.subi v136 c0_i32_49
  let c1_i32_50 : BitVec 32 := 1#32
  let v140 : BitVec 32 := Scalar.divsi v138 c1_i32_50
  let v141 : BitVec 32 := Scalar.muli v140 c1_i32_50
  let v142 : BitVec 32 := Scalar.addi c0_i32_49 v141
  let c1_i32_51 : BitVec 32 := 1#32
  ⟨c0_i32_49, v142, c1_i32_51⟩
def k2_off7 (i : grid2.Coords) (k2_t3 : Fin (k2_t3_loop i).trips) : Fin 2 → Nat :=
  let c0_i32_49 : BitVec 32 := 0#32
  let c1_i32_51 : BitVec 32 := 1#32
  let arg9 : BitVec 32 := Scf.iv c0_i32_49 c1_i32_51 k2_t3
  let c16_i32_113 : BitVec 32 := 16#32
  let v282 : BitVec 32 := Scalar.muli arg9 c16_i32_113
  let v283 : Index := Scalar.indexCast v282
  let c0_114 : Index := 0#32
  ![v283.toNat, 0]
@[reducible] def k2_t4_loop (i : grid2.Coords) : Scf.Loop 32 :=
  let c0_i32_49 : BitVec 32 := 0#32
  let arg1 : BitVec 32 := BitVec.ofNat 32 (i 1).val
  let c1_i32_47 : BitVec 32 := 1#32
  let v136 : BitVec 32 := Scalar.addi arg1 c1_i32_47
  let v138 : BitVec 32 := Scalar.subi v136 c0_i32_49
  let c1_i32_50 : BitVec 32 := 1#32
  let v140 : BitVec 32 := Scalar.divsi v138 c1_i32_50
  let v141 : BitVec 32 := Scalar.muli v140 c1_i32_50
  let v142 : BitVec 32 := Scalar.addi c0_i32_49 v141
  let v139 : BitVec 32 := Scalar.addi c0_i32_49 v138
  let c1_i32_52 : BitVec 32 := 1#32
  ⟨v142, v139, c1_i32_52⟩
def k2_off8 (i : grid2.Coords) (k2_t4 : Fin (k2_t4_loop i).trips) : Fin 2 → Nat :=
  let c0_i32_49 : BitVec 32 := 0#32
  let arg1 : BitVec 32 := BitVec.ofNat 32 (i 1).val
  let c1_i32_47 : BitVec 32 := 1#32
  let v136 : BitVec 32 := Scalar.addi arg1 c1_i32_47
  let v138 : BitVec 32 := Scalar.subi v136 c0_i32_49
  let c1_i32_50 : BitVec 32 := 1#32
  let v140 : BitVec 32 := Scalar.divsi v138 c1_i32_50
  let v141 : BitVec 32 := Scalar.muli v140 c1_i32_50
  let v142 : BitVec 32 := Scalar.addi c0_i32_49 v141
  let c1_i32_52 : BitVec 32 := 1#32
  let arg9 : BitVec 32 := Scf.iv v142 c1_i32_52 k2_t4
  let c16_i32_113 : BitVec 32 := 16#32
  let v282 : BitVec 32 := Scalar.muli arg9 c16_i32_113
  let v283 : Index := Scalar.indexCast v282
  let c0_114 : Index := 0#32
  ![v283.toNat, 0]
@[reducible] def k2_t5_loop (i : grid2.Coords) : Scf.Loop 32 :=
  let c0_i32_56 : BitVec 32 := 0#32
  let arg1 : BitVec 32 := BitVec.ofNat 32 (i 1).val
  let c1_i32_54 : BitVec 32 := 1#32
  let v147 : BitVec 32 := Scalar.addi arg1 c1_i32_54
  let v149 : BitVec 32 := Scalar.subi v147 c0_i32_56
  let c1_i32_57 : BitVec 32 := 1#32
  let v151 : BitVec 32 := Scalar.divsi v149 c1_i32_57
  let v152 : BitVec 32 := Scalar.muli v151 c1_i32_57
  let v153 : BitVec 32 := Scalar.addi c0_i32_56 v152
  let c1_i32_58 : BitVec 32 := 1#32
  ⟨c0_i32_56, v153, c1_i32_58⟩
def k2_off9 (i : grid2.Coords) (k2_t5 : Fin (k2_t5_loop i).trips) : Fin 2 → Nat :=
  let c0_i32_56 : BitVec 32 := 0#32
  let c1_i32_58 : BitVec 32 := 1#32
  let arg9 : BitVec 32 := Scf.iv c0_i32_56 c1_i32_58 k2_t5
  let c16_i32_113 : BitVec 32 := 16#32
  let v282 : BitVec 32 := Scalar.muli arg9 c16_i32_113
  let v283 : Index := Scalar.indexCast v282
  let c0_114 : Index := 0#32
  ![v283.toNat, 0]
@[reducible] def k2_t6_loop (i : grid2.Coords) : Scf.Loop 32 :=
  let c0_i32_56 : BitVec 32 := 0#32
  let arg1 : BitVec 32 := BitVec.ofNat 32 (i 1).val
  let c1_i32_54 : BitVec 32 := 1#32
  let v147 : BitVec 32 := Scalar.addi arg1 c1_i32_54
  let v149 : BitVec 32 := Scalar.subi v147 c0_i32_56
  let c1_i32_57 : BitVec 32 := 1#32
  let v151 : BitVec 32 := Scalar.divsi v149 c1_i32_57
  let v152 : BitVec 32 := Scalar.muli v151 c1_i32_57
  let v153 : BitVec 32 := Scalar.addi c0_i32_56 v152
  let v150 : BitVec 32 := Scalar.addi c0_i32_56 v149
  let c1_i32_59 : BitVec 32 := 1#32
  ⟨v153, v150, c1_i32_59⟩
def k2_off10 (i : grid2.Coords) (k2_t6 : Fin (k2_t6_loop i).trips) : Fin 2 → Nat :=
  let c0_i32_56 : BitVec 32 := 0#32
  let arg1 : BitVec 32 := BitVec.ofNat 32 (i 1).val
  let c1_i32_54 : BitVec 32 := 1#32
  let v147 : BitVec 32 := Scalar.addi arg1 c1_i32_54
  let v149 : BitVec 32 := Scalar.subi v147 c0_i32_56
  let c1_i32_57 : BitVec 32 := 1#32
  let v151 : BitVec 32 := Scalar.divsi v149 c1_i32_57
  let v152 : BitVec 32 := Scalar.muli v151 c1_i32_57
  let v153 : BitVec 32 := Scalar.addi c0_i32_56 v152
  let c1_i32_59 : BitVec 32 := 1#32
  let arg9 : BitVec 32 := Scf.iv v153 c1_i32_59 k2_t6
  let c16_i32_113 : BitVec 32 := 16#32
  let v282 : BitVec 32 := Scalar.muli arg9 c16_i32_113
  let v283 : Index := Scalar.indexCast v282
  let c0_114 : Index := 0#32
  ![v283.toNat, 0]
@[reducible] def k2_t7_loop (i : grid2.Coords) : Scf.Loop 32 :=
  let c0_i32_103 : BitVec 32 := 0#32
  let arg1 : BitVec 32 := BitVec.ofNat 32 (i 1).val
  let c1_i32_101 : BitVec 32 := 1#32
  let v268 : BitVec 32 := Scalar.addi arg1 c1_i32_101
  let v269 : BitVec 32 := Scalar.subi v268 c0_i32_103
  let c1_i32_104 : BitVec 32 := 1#32
  let v271 : BitVec 32 := Scalar.divsi v269 c1_i32_104
  let v272 : BitVec 32 := Scalar.muli v271 c1_i32_104
  let v273 : BitVec 32 := Scalar.addi c0_i32_103 v272
  let c1_i32_105 : BitVec 32 := 1#32
  ⟨c0_i32_103, v273, c1_i32_105⟩
def k2_off11 (i : grid2.Coords) (k2_t7 : Fin (k2_t7_loop i).trips) : Fin 2 → Nat :=
  let c0_i32_103 : BitVec 32 := 0#32
  let c1_i32_105 : BitVec 32 := 1#32
  let arg9 : BitVec 32 := Scf.iv c0_i32_103 c1_i32_105 k2_t7
  let c16_i32_113 : BitVec 32 := 16#32
  let v282 : BitVec 32 := Scalar.muli arg9 c16_i32_113
  let v283 : Index := Scalar.indexCast v282
  let c0_114 : Index := 0#32
  ![v283.toNat, 0]
@[reducible] def k2_t8_loop (i : grid2.Coords) : Scf.Loop 32 :=
  let c0_i32_103 : BitVec 32 := 0#32
  let arg1 : BitVec 32 := BitVec.ofNat 32 (i 1).val
  let c1_i32_101 : BitVec 32 := 1#32
  let v268 : BitVec 32 := Scalar.addi arg1 c1_i32_101
  let v269 : BitVec 32 := Scalar.subi v268 c0_i32_103
  let c1_i32_104 : BitVec 32 := 1#32
  let v271 : BitVec 32 := Scalar.divsi v269 c1_i32_104
  let v272 : BitVec 32 := Scalar.muli v271 c1_i32_104
  let v273 : BitVec 32 := Scalar.addi c0_i32_103 v272
  let v270 : BitVec 32 := Scalar.addi c0_i32_103 v269
  let c1_i32_106 : BitVec 32 := 1#32
  ⟨v273, v270, c1_i32_106⟩
def k2_off12 (i : grid2.Coords) (k2_t8 : Fin (k2_t8_loop i).trips) : Fin 2 → Nat :=
  let c0_i32_103 : BitVec 32 := 0#32
  let arg1 : BitVec 32 := BitVec.ofNat 32 (i 1).val
  let c1_i32_101 : BitVec 32 := 1#32
  let v268 : BitVec 32 := Scalar.addi arg1 c1_i32_101
  let v269 : BitVec 32 := Scalar.subi v268 c0_i32_103
  let c1_i32_104 : BitVec 32 := 1#32
  let v271 : BitVec 32 := Scalar.divsi v269 c1_i32_104
  let v272 : BitVec 32 := Scalar.muli v271 c1_i32_104
  let v273 : BitVec 32 := Scalar.addi c0_i32_103 v272
  let c1_i32_106 : BitVec 32 := 1#32
  let arg9 : BitVec 32 := Scf.iv v273 c1_i32_106 k2_t8
  let c16_i32_113 : BitVec 32 := 16#32
  let v282 : BitVec 32 := Scalar.muli arg9 c16_i32_113
  let v283 : Index := Scalar.indexCast v282
  let c0_114 : Index := 0#32
  ![v283.toNat, 0]
def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.divsi arg0 c7_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg0 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x512x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x8192x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x16x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x1x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]
-- ==== KernelIdeal.lean ====
variable {F : FTy → Type} [FloatOps F] [Named F]
def κ : String → Option EReal := fun
  | "exp2_scale" => some (((1 / 64) * (Real.log 2)⁻¹ : ℝ) : EReal)
  | "ln_2" => some ((Real.log 2 : ℝ) : EReal)
  | "log2_e" => some (((Real.log 2)⁻¹ : ℝ) : EReal)
  | "mask" => some ⊥
  | _ => none
-- ==== ReferenceIdeal.lean ====
abbrev S6x14x65536x64 : Shape := ⟨4, ![6, 14, 65536, 64]⟩
abbrev S6x14x65536 : Shape := ⟨3, ![6, 14, 65536]⟩
abbrev S6x2x65536x64 : Shape := ⟨4, ![6, 2, 65536, 64]⟩
abbrev S6x2x65536 : Shape := ⟨3, ![6, 2, 65536]⟩
abbrev S6x14x65536x1 : Shape := ⟨4, ![6, 14, 65536, 1]⟩
abbrev S6x2x7x8192x8x64 : Shape := ⟨6, ![6, 2, 7, 8192, 8, 64]⟩
abbrev S6x2x65536x1 : Shape := ⟨4, ![6, 2, 65536, 1]⟩
abbrev S6x2x8192x8x64 : Shape := ⟨5, ![6, 2, 8192, 8, 64]⟩
abbrev S6x2x7x8192x8192 : Shape := ⟨5, ![6, 2, 7, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S6x2x7x8192 : Shape := ⟨4, ![6, 2, 7, 8192]⟩
abbrev S6x2x7x8192x1 : Shape := ⟨5, ![6, 2, 7, 8192, 1]⟩
abbrev S6x2x7x512x16x512x16 : Shape := ⟨7, ![6, 2, 7, 512, 16, 512, 16]⟩
abbrev S6x2x7x512x512 : Shape := ⟨5, ![6, 2, 7, 512, 512]⟩
abbrev S1x1x1x8192 : Shape := ⟨4, ![1, 1, 1, 8192]⟩
abbrev S6x14x512x512 : Shape := ⟨4, ![6, 14, 512, 512]⟩
abbrev S6x14x8192 : Shape := ⟨3, ![6, 14, 8192]⟩

abbrev nBuf : Space → Nat
  | .hbm => 53
  | .vmem => 6
  | .smem => 0
  | _ => 0

abbrev bufTy : (tb : Table) → Fin (tcTables nBuf tb) → BufTy
  | .hbm, ⟨0, _⟩ => ⟨S6x14x65536x64, .fp8e4m3⟩
  | .hbm, ⟨1, _⟩ => ⟨S6x14x65536, .f32⟩
  | .hbm, ⟨2, _⟩ => ⟨S6x2x65536x64, .fp8e4m3⟩
  | .hbm, ⟨3, _⟩ => ⟨S6x2x65536, .f32⟩
  | .hbm, ⟨4, _⟩ => ⟨S6x14x65536x64, .bf16⟩
  | .hbm, ⟨5, _⟩ => ⟨S6x2x7x8192x8x64, .bf16⟩
  | .hbm, ⟨6, _⟩ => ⟨S6x2x65536x64, .bf16⟩
  | .hbm, ⟨7, _⟩ => ⟨S6x2x8192x8x64, .bf16⟩
  | .hbm, ⟨8, _⟩ => ⟨S6x2x7x8192x8x64, .bf16⟩
  | .hbm, ⟨9, _⟩ => ⟨S6x2x7x8192x8192, .f32⟩
  | .hbm, ⟨10, _⟩ => ⟨S8192, .i32⟩
  | .hbm, ⟨11, _⟩ => ⟨S8192, .i32⟩
  | .hbm, ⟨12, _⟩ => ⟨S1x8192, .i32⟩
  | .hbm, ⟨13, _⟩ => ⟨S8192x1, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S_, .f32⟩
  | .hbm, ⟨18, _⟩ => ⟨S6x2x7x8192x8192, .f32⟩
  | .hbm, ⟨19, _⟩ => ⟨S6x2x7x8192x8192, .f32⟩
  | .hbm, ⟨20, _⟩ => ⟨S_, .f32⟩
  | .hbm, ⟨21, _⟩ => ⟨S_, .f32⟩
  | .hbm, ⟨22, _⟩ => ⟨S6x2x7x8192x8192, .i1⟩
  | .hbm, ⟨23, _⟩ => ⟨S6x2x7x8192x8192, .f32⟩
  | .hbm, ⟨24, _⟩ => ⟨S6x2x7x8192x8192, .f32⟩
  | .hbm, ⟨25, _⟩ => ⟨S_, .f32⟩
  | .hbm, ⟨26, _⟩ => ⟨S6x2x7x8192, .f32⟩
  | .hbm, ⟨27, _⟩ => ⟨S6x2x7x8192x1, .f32⟩
  | .hbm, ⟨28, _⟩ => ⟨S6x2x7x8192x8192, .f32⟩
  | .hbm, ⟨29, _⟩ => ⟨S6x2x7x8192x8192, .f32⟩
  | .hbm, ⟨30, _⟩ => ⟨S6x2x7x8192x8192, .f32⟩
  | .hbm, ⟨31, _⟩ => ⟨S_, .f32⟩
  | .hbm, ⟨32, _⟩ => ⟨S6x2x7x8192, .f32⟩
  | .hbm, ⟨33, _⟩ => ⟨S6x2x7x8192x1, .f32⟩
  | .hbm, ⟨34, _⟩ => ⟨S6x2x7x8192x1, .f32⟩
  | .hbm, ⟨35, _⟩ => ⟨S6x2x7x8192x8192, .f32⟩
  | .hbm, ⟨36, _⟩ => ⟨S6x2x7x8192x8192, .f32⟩
  | .hbm, ⟨37, _⟩ => ⟨S6x2x7x8192x8192, .f32⟩
  | .hbm, ⟨38, _⟩ => ⟨S6x2x7x8192x1, .f32⟩
  | .hbm, ⟨39, _⟩ => ⟨S6x2x7x8192, .f32⟩
  | .hbm, ⟨40, _⟩ => ⟨S6x2x7x512x16x512x16, .f32⟩
  | .hbm, ⟨41, _⟩ => ⟨S_, .f32⟩
  | .hbm, ⟨42, _⟩ => ⟨S6x2x7x512x512, .f32⟩
  | .hbm, ⟨43, _⟩ => ⟨S_, .i32⟩
  | .hbm, ⟨44, _⟩ => ⟨S8192, .i32⟩
  | .hbm, ⟨45, _⟩ => ⟨S8192, .i32⟩
  | .hbm, ⟨46, _⟩ => ⟨S8192, .f32⟩
  | .hbm, ⟨47, _⟩ => ⟨S8192, .f32⟩
  | .hbm, ⟨48, _⟩ => ⟨S1x1x1x8192, .f32⟩
  | .hbm, ⟨49, _⟩ => ⟨S6x2x7x8192, .f32⟩
  | .hbm, ⟨50, _⟩ => ⟨S6x2x7x8192, .f32⟩
  | .hbm, ⟨51, _⟩ => ⟨S6x14x512x512, .f32⟩
  | .hbm, ⟨52, _⟩ => ⟨S6x14x8192, .f32⟩
  | .local _ .vmem, ⟨0, _⟩ => ⟨S6x14x65536x64, .fp8e4m3⟩
  | .local _ .vmem, ⟨1, _⟩ => ⟨S6x14x65536, .f32⟩
  | .local _ .vmem, ⟨2, _⟩ => ⟨S6x14x65536x64, .bf16⟩
  | .local _ .vmem, ⟨3, _⟩ => ⟨S6x2x65536x64, .fp8e4m3⟩
  | .local _ .vmem, ⟨4, _⟩ => ⟨S6x2x65536, .f32⟩
  | .local _ .vmem, ⟨5, _⟩ => ⟨S6x2x65536x64, .bf16⟩
  | _, _ => ⟨S6x14x65536x64, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_c : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5

abbrev nD : Nat := 1
abbrev τ : Topo := Topo.v7x

variable {F : FTy → Type} [FloatOps F]

abbrev grid0 : Pipeline.Grid := .none

abbrev stage0_0 : Fin 1 → Memref sig .tc .vmem S6x14x65536x64 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x14x65536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x14x65536x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := .none

abbrev stage1_0 : Fin 1 → Memref sig .tc .vmem S6x2x65536x64 .fp8e4m3 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S6x2x65536 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S6x2x65536x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
-- ==== Proof.BitsScoresRun.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2 (c : Dev nD) (i : grid2.Coords) (arg2 : Memref sig .tc .vmem S1x512x256 .bf16) (harg2 : arg2.IsWhole) (arg3 : Memref sig .tc .vmem S1x8192x512 .bf16) (harg3 : arg3.IsWhole) (arg4 : Memref sig .tc .vmem S1x16x512 .f32) (harg4 : arg4.IsWhole) (arg5 : Memref sig .tc .vmem S1x1x1x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole)
    (x0 : Vec F S1x512x256 .bf16) (x1 : Vec F S1x8192x512 .bf16)
    (f6 : BufTy.Contents (Elt F) arg6.view.ty) (f7 : BufTy.Contents (Elt F) arg7.view.ty) (f8 : BufTy.Contents (Elt F) arg8.view.ty) :
    Σ' (L2 : List (View.Piece (Elt F) S1x16x512 .f32)), { L3 : List (View.Piece (Elt F) S1x1x1x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} f) ∗ (∃ f, arg7.view.loc (c : Thread nD τ) ↦[arg7.view.set]{fullShare} f) ∗ (∃ f, arg8.view.loc (c : Thread nD τ) ↦[arg8.view.set]{fullShare} f)) -∗ K ⟨⟩))
          ⊢ wp frame (wpE (defs₀ (F := F)) Variants.none c none) E (cc2_scores i arg2 harg2 arg3 harg3 arg4 harg4 arg5 harg5 arg6 harg6 arg7 harg7 arg8 harg8) K } := by
  refine ⟨?_, ?_, fun E K => ?run⟩
  case run =>
    simp only [cc2_scores_eq_skeleton]; unfold cc2_scores_skel
    unfold owns
    iintro ⟨⟨%f0, %hf0, H0⟩, ⟨%f1, %hf1, H1⟩, ⟨%d2, %f2, -, H2⟩, ⟨%d3, %f3, -, H3⟩, HS0, HS1, HS2, Hk⟩
    obtain rfl := harg2.eq_unread hf0; obtain rfl := harg3.eq_unread hf1
    sl_exec_parts
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    isplitl [HS1]; · iexists _; iexact HS1
    iexists _; iexact HS2

end Cert.Kernel.Gen
-- ==== Proof.BitsScoresLoops.lean ====
module

public import Mathlib.Tactic.IntervalCases

public import proofs.«01_k».proof.Proof.BitsScoresRun

@[expose] public section

set_option maxRecDepth 16384

namespace Cert.Kernel.Gen

open Idealize.ShloMosaic

/-! ## The main body's loops and offsets, in plain numbers

The strip index `i 1` runs over 32 values; the first loop of each pair runs over the strips, the second has no trip left. -/

/-- How many trips loop 1 makes. -/
theorem trips_t1 (i : grid2.Coords) : (k2_t1_loop i).trips = (i 1).val := by
  unfold k2_t1_loop Scf.Loop.trips
  generalize (i 1) = n
  revert n
  change ∀ n : Fin 32, _
  decide

/-- How many trips loop 3 makes. -/
theorem trips_t3 (i : grid2.Coords) : (k2_t3_loop i).trips = (i 1).val + 1 := by
  unfold k2_t3_loop Scf.Loop.trips
  generalize (i 1) = n
  revert n
  change ∀ n : Fin 32, _
  decide

/-- How many trips loop 5 makes. -/
theorem trips_t5 (i : grid2.Coords) : (k2_t5_loop i).trips = (i 1).val + 1 := by
  unfold k2_t5_loop Scf.Loop.trips
  generalize (i 1) = n
  revert n
  change ∀ n : Fin 32, _
  decide

/-- How many trips loop 7 makes. -/
theorem trips_t7 (i : grid2.Coords) : (k2_t7_loop i).trips = (i 1).val + 1 := by
  unfold k2_t7_loop Scf.Loop.trips
  generalize (i 1) = n
  revert n
  change ∀ n : Fin 32, _
  decide

/-- Loop 2 makes no trip. -/
theorem trips_t2 (i : grid2.Coords) : (k2_t2_loop i).trips = 0 := by
  unfold k2_t2_loop Scf.Loop.trips
  generalize (i 1) = n
  revert n
  change ∀ n : Fin 32, _
  decide

/-- Loop 4 makes no trip. -/
theorem trips_t4 (i : grid2.Coords) : (k2_t4_loop i).trips = 0 := by
  unfold k2_t4_loop Scf.Loop.trips
  generalize (i 1) = n
  revert n
  change ∀ n : Fin 32, _
  decide

/-- Loop 6 makes no trip. -/
theorem trips_t6 (i : grid2.Coords) : (k2_t6_loop i).trips = 0 := by
  unfold k2_t6_loop Scf.Loop.trips
  generalize (i 1) = n
  revert n
  change ∀ n : Fin 32, _
  decide

/-- Loop 8 makes no trip. -/
theorem trips_t8 (i : grid2.Coords) : (k2_t8_loop i).trips = 0 := by
  unfold k2_t8_loop Scf.Loop.trips
  generalize (i 1) = n
  revert n
  change ∀ n : Fin 32, _
  decide

/-- The word of a small number times a small factor. -/
theorem word_mul (n m : ℕ) (h : n * m < 2 ^ 32) (hn : n < 2 ^ 32) (hm : m < 2 ^ 32) :
    (BitVec.ofNat 32 n * BitVec.ofNat 32 m).toNat = n * m := by
  rw [BitVec.toNat_mul, BitVec.toNat_ofNat, BitVec.toNat_ofNat, Nat.mod_eq_of_lt hn, Nat.mod_eq_of_lt hm,
    Nat.mod_eq_of_lt h]

/-- The strip coordinate of the grid is below 32. -/
theorem strip_lt (i : grid2.Coords) : (i 1).val < 32 := (i 1).isLt

/-- Where trip `k` of loop 1 reads or writes. -/
theorem off1_eq (i : grid2.Coords) (k : Fin (k2_t1_loop i).trips) : k2_off1 i k = ![0, 256 * k.val, 0] := by
  have hk : k.val < 33 := lt_of_lt_of_le k.isLt (by rw [trips_t1]; have := strip_lt i; omega)
  unfold k2_off1
  generalize k.val = m at hk
  interval_cases m <;> rfl

/-- Where trip `k` of loop 1 reads or writes. -/
theorem off2_eq (i : grid2.Coords) (k : Fin (k2_t1_loop i).trips) : k2_off2 i k = ![16 * k.val, 0] := by
  have hk : k.val < 33 := lt_of_lt_of_le k.isLt (by rw [trips_t1]; have := strip_lt i; omega)
  unfold k2_off2
  generalize k.val = m at hk
  interval_cases m <;> rfl

/-- Where trip `k` of loop 3 reads or writes. -/
theorem off7_eq (i : grid2.Coords) (k : Fin (k2_t3_loop i).trips) : k2_off7 i k = ![16 * k.val, 0] := by
  have hk : k.val < 33 := lt_of_lt_of_le k.isLt (by rw [trips_t3]; have := strip_lt i; omega)
  unfold k2_off7
  generalize k.val = m at hk
  interval_cases m <;> rfl

/-- Where trip `k` of loop 5 reads or writes. -/
theorem off9_eq (i : grid2.Coords) (k : Fin (k2_t5_loop i).trips) : k2_off9 i k = ![16 * k.val, 0] := by
  have hk : k.val < 33 := lt_of_lt_of_le k.isLt (by rw [trips_t5]; have := strip_lt i; omega)
  unfold k2_off9
  generalize k.val = m at hk
  interval_cases m <;> rfl

/-- Where trip `k` of loop 7 reads or writes. -/
theorem off11_eq (i : grid2.Coords) (k : Fin (k2_t7_loop i).trips) : k2_off11 i k = ![16 * k.val, 0] := by
  have hk : k.val < 33 := lt_of_lt_of_le k.isLt (by rw [trips_t7]; have := strip_lt i; omega)
  unfold k2_off11
  generalize k.val = m at hk
  interval_cases m <;> rfl

/-- Where the strip on the diagonal lies. -/
theorem off5_eq (i : grid2.Coords) : k2_off5 i = ![0, 256 * (i 1).val, 0] := by
  have hk := strip_lt i
  unfold k2_off5
  generalize (i 1).val = m at hk
  interval_cases m <;> rfl

/-- Where the strip on the diagonal lies. -/
theorem off6_eq (i : grid2.Coords) : k2_off6 i = ![16 * (i 1).val, 0] := by
  have hk := strip_lt i
  unfold k2_off6
  generalize (i 1).val = m at hk
  interval_cases m <;> rfl

end Cert.Kernel.Gen
-- ==== Proof.BitsScoresVal.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.BitsScoresRun
public import proofs.«01_k».proof.Proof.BitsScoresLoops
public import Idealize.ShloMosaic.Lib.Pointwise

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the main body leaves, as functions of its two input blocks

The strips of keys are numbered `k`; strip `k` of the key block is its rows `256 k … 256 k + 255`. The two work
arrays hold, for each strip up to the diagonal, the group maxima and the group sums of that strip's scores; nothing
they held before the run is read. -/

/-- Strip `k` of the key block. -/
abbrev stripRect (k : ℕ) : Rect S1x8192x512 :=
  Rect.unit ![0, 256 * (k % 32), 0] S1x256x512.size (by
    have := Nat.mod_lt k (show 0 < 32 by omega)
    intro a; fin_cases a <;> simp <;> omega)

/-- The rows of a work array that belong to strip `k`. -/
abbrev rowRect (k : ℕ) : Rect S512x256 :=
  Rect.unit ![16 * (k % 32), 0] S16x256.size (by
    have := Nat.mod_lt k (show 0 < 32 by omega)
    intro a; fin_cases a <;> simp <;> omega)

/-- The keys of strip `k`. -/
def strip (x1 : Vec F S1x8192x512 .bf16) (k : ℕ) : Vec F S1x256x512 .bf16 := View.ld x1 (stripRect k)

/-- The raw scores of the strip on the diagonal. -/
def diagRaw (x0 : Vec F S1x512x256 .bf16) (x1 : Vec F S1x8192x512 .bf16) (n : ℕ) : FVec F S2x16x8x256 .f32 :=
  k2_pay9 (strip x1 n) x0

/-- The group maxima of strip `k`, masked on the diagonal strip `n`. -/
def strM (x0 : Vec F S1x512x256 .bf16) (x1 : Vec F S1x8192x512 .bf16) (n k : ℕ) : FVec F S16x256 .f32 :=
  if k < n then k2_pay4 (strip x1 k) x0
  else k2_pay21 (k2_pay18 (diagRaw x0 x1 n) k2_pay10 kernelRun2.sl.v71 (128#32)
    (remsi kernelRun2.sl.v26 kernelRun2.sl.v43) kernelRun2.sl.v46)

/-- The group sums of strip `k`, masked on the diagonal strip `n`. -/
def strS (x0 : Vec F S1x512x256 .bf16) (x1 : Vec F S1x8192x512 .bf16) (n k : ℕ) : FVec F S16x256 .f32 :=
  if k < n then k2_pay3 (strip x1 k) x0
  else k2_pay20 (k2_pay19 (diagRaw x0 x1 n) k2_pay10 kernelRun2.sl.v71 (128#32)
    (remsi kernelRun2.sl.v26 kernelRun2.sl.v43) kernelRun2.sl.v46)

/-- The place of a work-array entry inside its strip. -/
abbrev inStrip (y : S512x256.Idx) : S16x256.Idx := ix2 (⟨(y 0).val % 16, Nat.mod_lt _ (by decide)⟩ : Fin 16) (y 1 : Fin 256)

/-- The work array of the maxima, in its used rows. -/
def arrM (x0 : Vec F S1x512x256 .bf16) (x1 : Vec F S1x8192x512 .bf16) (n : ℕ) : S512x256.Idx → Elt F .f32 :=
  fun y => strM x0 x1 n ((y 0).val / 16) (inStrip y)

/-- The work array of the sums, in its used rows. -/
def arrS (x0 : Vec F S1x512x256 .bf16) (x1 : Vec F S1x8192x512 .bf16) (n : ℕ) : S512x256.Idx → Elt F .f32 :=
  fun y => strS x0 x1 n ((y 0).val / 16) (inStrip y)

/-- The running maximum after `k` strips. -/
def accM (x0 : Vec F S1x512x256 .bf16) (x1 : Vec F S1x8192x512 .bf16) (n : ℕ) : ℕ → FVec F S16x256 .f32
  | 0 => k2_pay22
  | k + 1 => k2_pay23 (accM x0 x1 n k) (strM x0 x1 n k)

/-- The running sum after `k` strips, at the whole maximum. -/
def accL (x0 : Vec F S1x512x256 .bf16) (x1 : Vec F S1x8192x512 .bf16) (n : ℕ) : ℕ → FVec F S16x256 .f32
  | 0 => k2_pay26
  | k + 1 => k2_pay27 (accM x0 x1 n (n + 1)) (accL x0 x1 n k) (strM x0 x1 n k) (strS x0 x1 n k)

/-- The row maximum. -/
def rowM (x0 : Vec F S1x512x256 .bf16) (x1 : Vec F S1x8192x512 .bf16) (n : ℕ) : FVec F S1x256 .f32 :=
  k2_pay25 (accM x0 x1 n (n + 1))

/-- The row's total, as a base-two logarithm. -/
def rowL (x0 : Vec F S1x512x256 .bf16) (x1 : Vec F S1x8192x512 .bf16) (n : ℕ) : FVec F S1x256 .f32 :=
  k2_pay29 (accL x0 x1 n (n + 1))

/-- The third work array at the end: the block weights of each strip, zero past the diagonal. -/
def arrP (x0 : Vec F S1x512x256 .bf16) (x1 : Vec F S1x8192x512 .bf16) (n : ℕ) : Vec F S512x256 .f32 :=
  fun y => if (y 0).val / 16 ≤ n then
      k2_pay37 (rowM x0 x1 n) (rowL x0 x1 n) (strM x0 x1 n ((y 0).val / 16)) (strS x0 x1 n ((y 0).val / 16)) (inStrip y)
    else k2_pay36 y

/-- The block of weights that the body stores. -/
def outBlk (i : grid2.Coords) (x0 : Vec F S1x512x256 .bf16) (x1 : Vec F S1x8192x512 .bf16) : Vec F S1x16x512 .f32 :=
  k2_pay39 (arrP x0 x1 (i 1).val)

/-- The rows' normalisers that the body stores. -/
def outLse (i : grid2.Coords) (x0 : Vec F S1x512x256 .bf16) (x1 : Vec F S1x8192x512 .bf16) : Vec F S1x1x1x256 .f32 :=
  k2_pay35 (rowL x0 x1 (i 1).val) (kernelRun2.sl.r_5 i) (k2_pay34 (rowM x0 x1 (i 1).val)) kernelRun2.sl.cst_92

/-! ### Loads -/

/-- A load of a rectangle of a buffer of known contents. -/
theorem readAt_unread {sp : Space} {s : Shape} {e : EltTy} (m : Memref sig .tc sp s e) (h : m.IsWhole) (x : Vec F s e) (r : Rect s) :
    View.readAt (Elt F) m.view r.toLoadRect (h.unread x) = View.ld x r := by
  rw [View.readAt_eq_ld, h.read_unread]

/-- A load of the whole query block. -/
theorem ld_q (x0 : Vec F S1x512x256 .bf16) :
    View.ld x0 (Rect.unit (s := S1x512x256) ![0, 0, 0] S1x512x256.size inb_S1x512x256_S1x512x256_0_0_0) = x0 := by
  funext j
  show x0 _ = x0 j
  congr 1
  funext a
  apply Fin.ext
  fin_cases a
  · show 0 + 1 * (j 0).val = (j 0).val
    omega
  · show 0 + 1 * (j 1).val = (j 1).val
    omega
  · show 0 + 1 * (j 2).val = (j 2).val
    omega

/-- A load of strip `k`. -/
theorem ld_strip (x1 : Vec F S1x8192x512 .bf16) (o : Fin 3 → ℕ) (h : ∀ a, o a + S1x256x512.size a ≤ S1x8192x512.size a) (k : ℕ) (hk : k < 32)
    (ho : o = ![0, 256 * k, 0]) : View.ld x1 (Rect.unit (s := S1x8192x512) o S1x256x512.size h) = strip x1 k := by
  subst ho
  unfold strip stripRect
  have e : k % 32 = k := Nat.mod_eq_of_lt hk
  have key : ∀ (o o' : Fin 3 → ℕ) (h : ∀ a, o a + S1x256x512.size a ≤ S1x8192x512.size a)
      (h' : ∀ a, o' a + S1x256x512.size a ≤ S1x8192x512.size a), o = o' →
      View.ld x1 (Rect.unit (s := S1x8192x512) o S1x256x512.size h) = View.ld x1 (Rect.unit (s := S1x8192x512) o' S1x256x512.size h') := by
    rintro o o' h h' rfl; rfl
  exact key _ _ _ _ (by rw [e])

/-- Every entry of a strip's rows lies in that strip. -/
theorem emb_row (o : Fin 2 → ℕ) (h : ∀ a, o a + S16x256.size a ≤ S512x256.size a) (k : ℕ) (ho : o = ![16 * k, 0])
    (x : (Rect.unit (s := S512x256) o S16x256.size h).shape.Idx) :
    (((Rect.unit (s := S512x256) o S16x256.size h).emb x) 0).val / 16 = k ∧ inStrip ((Rect.unit (s := S512x256) o S16x256.size h).emb x) = x := by
  subst ho
  have h0 : (x 0).val < 16 := (x 0).isLt
  have e0 : (((Rect.unit (s := S512x256) ![16 * k, 0] S16x256.size h).emb x) 0).val = 16 * k + 1 * (x 0).val := rfl
  have e1 : (((Rect.unit (s := S512x256) ![16 * k, 0] S16x256.size h).emb x) 1).val = 0 + 1 * (x 1).val := rfl
  refine ⟨by omega, ?_⟩
  funext a
  apply Fin.ext
  fin_cases a
  · show (((Rect.unit (s := S512x256) ![16 * k, 0] S16x256.size h).emb x) 0).val % 16 = (x 0).val
    omega
  · show (((Rect.unit (s := S512x256) ![16 * k, 0] S16x256.size h).emb x) 1).val = (x 1).val
    omega

/-- Which entries a strip's rows hold. -/
theorem mem_row (o : Fin 2 → ℕ) (h : ∀ a, o a + S16x256.size a ≤ S512x256.size a) (k : ℕ) (ho : o = ![16 * k, 0]) (y : S512x256.Idx) :
    y ∈ (Rect.unit (s := S512x256) o S16x256.size h).set ↔ (y 0).val / 16 = k := by
  subst ho
  rw [Rect.mem_set_unit]
  have h1 : (y 1).val < 256 := (y 1).isLt
  constructor
  · intro hy
    have h0 := hy 0
    simp at h0
    omega
  · intro hy a
    fin_cases a
    · show 16 * k ≤ (y 0).val ∧ (y 0).val < 16 * k + 16
      omega
    · show 0 ≤ (y 1).val ∧ (y 1).val < 0 + 256
      omega

section Pieces

variable (c : Dev nD) (i : grid2.Coords) (arg2 : Memref sig .tc .vmem S1x512x256 .bf16) (harg2 : arg2.IsWhole) (arg3 : Memref sig .tc .vmem S1x8192x512 .bf16) (harg3 : arg3.IsWhole) (arg4 : Memref sig .tc .vmem S1x16x512 .f32) (harg4 : arg4.IsWhole) (arg5 : Memref sig .tc .vmem S1x1x1x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole)
variable (x0 : Vec F S1x512x256 .bf16) (x1 : Vec F S1x8192x512 .bf16)

/-! ### The two score loops -/

/-- What the first loop's trips store: maxima and sums of whole strips. -/
theorem pb1_agree (m : ℕ) (hm : m ≤ (i 1).val) :
    (∀ p ∈ (pb_k2_t1 (F := F) Variants.none c none i arg2 harg2 arg3 harg3 arg4 harg4 arg5 harg5 arg6 harg6 arg7 harg7 arg8 harg8 (harg2.unread x0) (harg3.unread x1) m).1,
        ∀ x : p.1.shape.Idx, p.2 x = arrS x0 x1 (i 1).val (p.1.emb x)) ∧
    (∀ p ∈ (pb_k2_t1 (F := F) Variants.none c none i arg2 harg2 arg3 harg3 arg4 harg4 arg5 harg5 arg6 harg6 arg7 harg7 arg8 harg8 (harg2.unread x0) (harg3.unread x1) m).2,
        ∀ x : p.1.shape.Idx, p.2 x = arrM x0 x1 (i 1).val (p.1.emb x)) ∧
    (∀ y : S512x256.Idx, (y 0).val / 16 < m →
      ∃ p ∈ (pb_k2_t1 (F := F) Variants.none c none i arg2 harg2 arg3 harg3 arg4 harg4 arg5 harg5 arg6 harg6 arg7 harg7 arg8 harg8 (harg2.unread x0) (harg3.unread x1) m).1, y ∈ p.1.set) ∧
    (∀ y : S512x256.Idx, (y 0).val / 16 < m →
      ∃ p ∈ (pb_k2_t1 (F := F) Variants.none c none i arg2 harg2 arg3 harg3 arg4 harg4 arg5 harg5 arg6 harg6 arg7 harg7 arg8 harg8 (harg2.unread x0) (harg3.unread x1) m).2, y ∈ p.1.set) := by
  induction m with
  | zero =>
    refine ⟨?_, ?_, ?_, ?_⟩ <;> intro p hp
    · exact absurd hp (by unfold pb_k2_t1; exact List.not_mem_nil)
    · exact absurd hp (by unfold pb_k2_t1; exact List.not_mem_nil)
    · omega
    · omega
  | succ m ih =>
    obtain ⟨ih1, ih2, ih3, ih4⟩ := ih (by omega)
    have hi := strip_lt i
    have hlt : m < (k2_t1_loop i).trips := by rw [trips_t1]; omega
    have e := pb_k2_t1_succ (F := F) Variants.none c none i arg2 harg2 arg3 harg3 arg4 harg4 arg5 harg5 arg6 harg6 arg7 harg7 arg8 harg8 (harg2.unread x0) (harg3.unread x1) ⟨m, hlt⟩
    have o1 := off1_eq i ⟨m, hlt⟩
    have o2 := off2_eq i ⟨m, hlt⟩
    have l1 : (tripL_k2_t1 (F := F) Variants.none c none i arg2 harg2 arg3 harg3 arg4 harg4 arg5 harg5 arg6 harg6 arg7 harg7 arg8 harg8 (harg2.unread x0) (harg3.unread x1) ⟨m, hlt⟩).1
        = [⟨Rect.unit (k2_off2 i ⟨m, hlt⟩) S16x256.size (k2_off2_inb i ⟨m, hlt⟩), strS x0 x1 (i 1).val m⟩] := by
      unfold tripL_k2_t1 trip_k2_t1
      dsimp only
      rw [readAt_unread, readAt_unread, ld_q, ld_strip x1 _ _ m (by omega) o1]
      simp only [strS, if_pos (show m < (i 1).val by omega)]
    have l2 : (tripL_k2_t1 (F := F) Variants.none c none i arg2 harg2 arg3 harg3 arg4 harg4 arg5 harg5 arg6 harg6 arg7 harg7 arg8 harg8 (harg2.unread x0) (harg3.unread x1) ⟨m, hlt⟩).2
        = [⟨Rect.unit (k2_off2 i ⟨m, hlt⟩) S16x256.size (k2_off2_inb i ⟨m, hlt⟩), strM x0 x1 (i 1).val m⟩] := by
      unfold tripL_k2_t1 trip_k2_t1
      dsimp only
      rw [readAt_unread, readAt_unread, ld_q, ld_strip x1 _ _ m (by omega) o1]
      simp only [strM, if_pos (show m < (i 1).val by omega)]
    change pb_k2_t1 (F := F) Variants.none c none i arg2 harg2 arg3 harg3 arg4 harg4 arg5 harg5 arg6 harg6 arg7 harg7 arg8 harg8 (harg2.unread x0) (harg3.unread x1) (m + 1) = _ at e
    rw [l1, l2] at e
    rw [e]
    refine ⟨?_, ?_, ?_, ?_⟩
    · intro p hp x
      rcases List.mem_append.mp hp with hp | hp
      · obtain rfl := List.mem_singleton.mp hp
        obtain ⟨a, b⟩ := emb_row _ (k2_off2_inb i ⟨m, hlt⟩) m o2 x
        unfold arrS
        rw [a, b]
      · exact ih1 p hp x
    · intro p hp x
      rcases List.mem_append.mp hp with hp | hp
      · obtain rfl := List.mem_singleton.mp hp
        obtain ⟨a, b⟩ := emb_row _ (k2_off2_inb i ⟨m, hlt⟩) m o2 x
        unfold arrM
        rw [a, b]
      · exact ih2 p hp x
    · intro y hy
      rcases Nat.lt_succ_iff_lt_or_eq.mp hy with h | h
      · obtain ⟨p, hp, hy⟩ := ih3 y h
        exact ⟨p, List.mem_append_right _ hp, hy⟩
      · exact ⟨_, List.mem_append_left _ (List.mem_singleton_self _), (mem_row _ (k2_off2_inb i ⟨m, hlt⟩) m o2 y).mpr h⟩
    · intro y hy
      rcases Nat.lt_succ_iff_lt_or_eq.mp hy with h | h
      · obtain ⟨p, hp, hy⟩ := ih4 y h
        exact ⟨p, List.mem_append_right _ hp, hy⟩
      · exact ⟨_, List.mem_append_left _ (List.mem_singleton_self _), (mem_row _ (k2_off2_inb i ⟨m, hlt⟩) m o2 y).mpr h⟩

/-- The diagonal strip's maxima as the run names them. -/
theorem run_diagM : k2_pay21 (kernelRun2.sl.r_1 i arg2 harg2 arg3 harg3 x0 x1) = strM x0 x1 (i 1).val (i 1).val := by
  unfold kernelRun2.sl.r_1 kernelRun2.sl.r strM diagRaw
  rw [readAt_unread, readAt_unread, ld_q, ld_strip x1 _ _ (i 1).val (strip_lt i) (off5_eq i), if_neg (lt_irrefl _)]

/-- The diagonal strip's sums as the run names them. -/
theorem run_diagS : k2_pay20 (kernelRun2.sl.r_2 i arg2 harg2 arg3 harg3 x0 x1) = strS x0 x1 (i 1).val (i 1).val := by
  unfold kernelRun2.sl.r_2 kernelRun2.sl.r strS diagRaw
  rw [readAt_unread, readAt_unread, ld_q, ld_strip x1 _ _ (i 1).val (strip_lt i) (off5_eq i), if_neg (lt_irrefl _)]

/-- The pieces of the work array of sums when the score loops are over. -/
abbrev piecesS : List (View.Piece (Elt F) S512x256 .f32) :=
  ⟨Rect.unit (k2_off6 i) S16x256.size (k2_off6_inb i), k2_pay20 (kernelRun2.sl.r_2 i arg2 harg2 arg3 harg3 x0 x1)⟩ ::
    ((pb_k2_t2 (F := F) Variants.none c none i arg2 harg2 arg3 harg3 arg4 harg4 arg5 harg5 arg6 harg6 arg7 harg7 arg8 harg8 (harg2.unread x0) (harg3.unread x1) (Scf.trips (k2_t2_loop i).lb (k2_t2_loop i).ub (k2_t2_loop i).st)).1 ++
      (pb_k2_t1 (F := F) Variants.none c none i arg2 harg2 arg3 harg3 arg4 harg4 arg5 harg5 arg6 harg6 arg7 harg7 arg8 harg8 (harg2.unread x0) (harg3.unread x1) (Scf.trips (k2_t1_loop i).lb (k2_t1_loop i).ub (k2_t1_loop i).st)).1)

/-- The pieces of the work array of maxima when the score loops are over. -/
abbrev piecesM : List (View.Piece (Elt F) S512x256 .f32) :=
  ⟨Rect.unit (k2_off6 i) S16x256.size (k2_off6_inb i), k2_pay21 (kernelRun2.sl.r_1 i arg2 harg2 arg3 harg3 x0 x1)⟩ ::
    ((pb_k2_t2 (F := F) Variants.none c none i arg2 harg2 arg3 harg3 arg4 harg4 arg5 harg5 arg6 harg6 arg7 harg7 arg8 harg8 (harg2.unread x0) (harg3.unread x1) (Scf.trips (k2_t2_loop i).lb (k2_t2_loop i).ub (k2_t2_loop i).st)).2 ++
      (pb_k2_t1 (F := F) Variants.none c none i arg2 harg2 arg3 harg3 arg4 harg4 arg5 harg5 arg6 harg6 arg7 harg7 arg8 harg8 (harg2.unread x0) (harg3.unread x1) (Scf.trips (k2_t1_loop i).lb (k2_t1_loop i).ub (k2_t1_loop i).st)).2)

/-- The work array of sums in a used row, whatever it held before. -/
theorem read_S (f6 : BufTy.Contents (Elt F) arg6.view.ty) (y : S512x256.Idx) (hy : (y 0).val / 16 ≤ (i 1).val) :
    arg6.view.read (Elt F) (arg6.view.writes (Elt F) f6 (piecesS c i arg2 harg2 arg3 harg3 arg4 harg4 arg5 harg5 arg6 harg6 arg7 harg7 arg8 harg8 x0 x1)) y = arrS x0 x1 (i 1).val y := by
  have t2 : Scf.trips (k2_t2_loop i).lb (k2_t2_loop i).ub (k2_t2_loop i).st = 0 := trips_t2 i
  have t1 : Scf.trips (k2_t1_loop i).lb (k2_t1_loop i).ub (k2_t1_loop i).st = (i 1).val := trips_t1 i
  obtain ⟨a1, -, a3, -⟩ := pb1_agree c i arg2 harg2 arg3 harg3 arg4 harg4 arg5 harg5 arg6 harg6 arg7 harg7 arg8 harg8 x0 x1 (i 1).val le_rfl
  have e2 : (pb_k2_t2 (F := F) Variants.none c none i arg2 harg2 arg3 harg3 arg4 harg4 arg5 harg5 arg6 harg6 arg7 harg7 arg8 harg8 (harg2.unread x0) (harg3.unread x1) 0).1 = [] := by unfold pb_k2_t2; rfl
  unfold piecesS
  rw [t2, t1, e2, List.nil_append, run_diagS]
  refine View.read_writes_apply_of_pieces _ _ (arrS x0 x1 (i 1).val) _ ?_ y ?_
  · intro p hp x
    rcases List.mem_cons.mp hp with rfl | hp
    · obtain ⟨a, b⟩ := emb_row _ (k2_off6_inb i) (i 1).val (off6_eq i) x
      unfold arrS
      rw [a, b]
    · exact a1 p hp x
  · rcases Nat.lt_or_eq_of_le hy with h | h
    · obtain ⟨p, hp, hy⟩ := a3 y h
      exact ⟨p, List.mem_cons_of_mem _ hp, hy⟩
    · exact ⟨_, List.mem_cons_self, (mem_row _ (k2_off6_inb i) (i 1).val (off6_eq i) y).mpr h⟩

/-- The work array of maxima in a used row, whatever it held before. -/
theorem read_M (f7 : BufTy.Contents (Elt F) arg7.view.ty) (y : S512x256.Idx) (hy : (y 0).val / 16 ≤ (i 1).val) :
    arg7.view.read (Elt F) (arg7.view.writes (Elt F) f7 (piecesM c i arg2 harg2 arg3 harg3 arg4 harg4 arg5 harg5 arg6 harg6 arg7 harg7 arg8 harg8 x0 x1)) y = arrM x0 x1 (i 1).val y := by
  have t2 : Scf.trips (k2_t2_loop i).lb (k2_t2_loop i).ub (k2_t2_loop i).st = 0 := trips_t2 i
  have t1 : Scf.trips (k2_t1_loop i).lb (k2_t1_loop i).ub (k2_t1_loop i).st = (i 1).val := trips_t1 i
  obtain ⟨-, a1, -, a3⟩ := pb1_agree c i arg2 harg2 arg3 harg3 arg4 harg4 arg5 harg5 arg6 harg6 arg7 harg7 arg8 harg8 x0 x1 (i 1).val le_rfl
  have e2 : (pb_k2_t2 (F := F) Variants.none c none i arg2 harg2 arg3 harg3 arg4 harg4 arg5 harg5 arg6 harg6 arg7 harg7 arg8 harg8 (harg2.unread x0) (harg3.unread x1) 0).2 = [] := by unfold pb_k2_t2; rfl
  unfold piecesM
  rw [t2, t1, e2, List.nil_append, run_diagM]
  refine View.read_writes_apply_of_pieces _ _ (arrM x0 x1 (i 1).val) _ ?_ y ?_
  · intro p hp x
    rcases List.mem_cons.mp hp with rfl | hp
    · obtain ⟨a, b⟩ := emb_row _ (k2_off6_inb i) (i 1).val (off6_eq i) x
      unfold arrM
      rw [a, b]
    · exact a1 p hp x
  · rcases Nat.lt_or_eq_of_le hy with h | h
    · obtain ⟨p, hp, hy⟩ := a3 y h
      exact ⟨p, List.mem_cons_of_mem _ hp, hy⟩
    · exact ⟨_, List.mem_cons_self, (mem_row _ (k2_off6_inb i) (i 1).val (off6_eq i) y).mpr h⟩

/-- A load of strip `k`'s sums. -/
theorem load_S (f6 : BufTy.Contents (Elt F) arg6.view.ty) (o : Fin 2 → ℕ) (h : ∀ a, o a + S16x256.size a ≤ S512x256.size a) (k : ℕ) (hk : k ≤ (i 1).val)
    (ho : o = ![16 * k, 0]) :
    View.readAt (Elt F) arg6.view (Rect.unit (s := S512x256) o S16x256.size h).toLoadRect
      (arg6.view.writes (Elt F) f6 (piecesS c i arg2 harg2 arg3 harg3 arg4 harg4 arg5 harg5 arg6 harg6 arg7 harg7 arg8 harg8 x0 x1)) = strS x0 x1 (i 1).val k := by
  funext x
  obtain ⟨a, b⟩ := emb_row o h k ho x
  refine (read_S c i arg2 harg2 arg3 harg3 arg4 harg4 arg5 harg5 arg6 harg6 arg7 harg7 arg8 harg8 x0 x1 f6 ((Rect.unit (s := S512x256) o S16x256.size h).emb x) (by omega)).trans ?_
  unfold arrS
  rw [a, b]

/-- A load of strip `k`'s maxima. -/
theorem load_M (f7 : BufTy.Contents (Elt F) arg7.view.ty) (o : Fin 2 → ℕ) (h : ∀ a, o a + S16x256.size a ≤ S512x256.size a) (k : ℕ) (hk : k ≤ (i 1).val)
    (ho : o = ![16 * k, 0]) :
    View.readAt (Elt F) arg7.view (Rect.unit (s := S512x256) o S16x256.size h).toLoadRect
      (arg7.view.writes (Elt F) f7 (piecesM c i arg2 harg2 arg3 harg3 arg4 harg4 arg5 harg5 arg6 harg6 arg7 harg7 arg8 harg8 x0 x1)) = strM x0 x1 (i 1).val k := by
  funext x
  obtain ⟨a, b⟩ := emb_row o h k ho x
  refine (read_M c i arg2 harg2 arg3 harg3 arg4 harg4 arg5 harg5 arg6 harg6 arg7 harg7 arg8 harg8 x0 x1 f7 ((Rect.unit (s := S512x256) o S16x256.size h).emb x) (by omega)).trans ?_
  unfold arrM
  rw [a, b]

/-! ### The maximum and the sum -/

/-- The maximum loop's carried value. -/
theorem st3_eq (f7 : BufTy.Contents (Elt F) arg7.view.ty) (w : BitVec 32) (v116 : FVec F S2x8x256 .f32) (v124 : FVec F S16x256 .f32) (m : ℕ) (hm : m ≤ (i 1).val + 1) :
    st_k2_t3 (F := F) Variants.none c none i arg2 harg2 arg3 harg3 arg4 harg4 arg5 harg5 arg6 harg6 arg7 harg7 arg8 harg8 w v116 v124 (arg7.view.writes (Elt F) f7 (piecesM c i arg2 harg2 arg3 harg3 arg4 harg4 arg5 harg5 arg6 harg6 arg7 harg7 arg8 harg8 x0 x1)) k2_pay22 m
      = accM x0 x1 (i 1).val m := by
  induction m with
  | zero => rw [st_k2_t3_zero]; unfold accM; rfl
  | succ m ih =>
    have hi := strip_lt i
    have hlt : m < (k2_t3_loop i).trips := by rw [trips_t3]; omega
    have e := st_k2_t3_succ (F := F) Variants.none c none i arg2 harg2 arg3 harg3 arg4 harg4 arg5 harg5 arg6 harg6 arg7 harg7 arg8 harg8 w v116 v124 (arg7.view.writes (Elt F) f7 (piecesM c i arg2 harg2 arg3 harg3 arg4 harg4 arg5 harg5 arg6 harg6 arg7 harg7 arg8 harg8 x0 x1)) k2_pay22 ⟨m, hlt⟩
    change st_k2_t3 (F := F) Variants.none c none i arg2 harg2 arg3 harg3 arg4 harg4 arg5 harg5 arg6 harg6 arg7 harg7 arg8 harg8 w v116 v124 _ k2_pay22 (m + 1) = _ at e
    rw [e, ih (by omega)]
    unfold tripR_k2_t3 trip_k2_t3
    dsimp only
    rw [load_M c i arg2 harg2 arg3 harg3 arg4 harg4 arg5 harg5 arg6 harg6 arg7 harg7 arg8 harg8 x0 x1 f7 _ _ m (by omega) (off7_eq i ⟨m, hlt⟩), accM]

/-- The whole maximum as the run names it. -/
theorem run_max (f7 : BufTy.Contents (Elt F) arg7.view.ty) :
    kernelRun2.sl.r_3 c i arg2 harg2 arg3 harg3 arg4 harg4 arg5 harg5 arg6 harg6 arg7 harg7 arg8 harg8 x0 x1 f7 = rowM x0 x1 (i 1).val := by
  have t4 : Scf.trips (k2_t4_loop i).lb (k2_t4_loop i).ub (k2_t4_loop i).st = 0 := trips_t4 i
  have t3 : Scf.trips (k2_t3_loop i).lb (k2_t3_loop i).ub (k2_t3_loop i).st = (i 1).val + 1 := trips_t3 i
  unfold kernelRun2.sl.r_3 rowM
  rw [t4, st_k2_t4_zero, t3, st3_eq c i arg2 harg2 arg3 harg3 arg4 harg4 arg5 harg5 arg6 harg6 arg7 harg7 arg8 harg8 x0 x1 f7 _ _ _ _ le_rfl]

/-- The sum loop's carried value. -/
theorem st5_eq (f6 : BufTy.Contents (Elt F) arg6.view.ty) (f7 : BufTy.Contents (Elt F) arg7.view.ty) (w : BitVec 32) (v116 : FVec F S2x8x256 .f32) (v124 : FVec F S16x256 .f32) (m : ℕ) (hm : m ≤ (i 1).val + 1) :
    st_k2_t5 (F := F) Variants.none c none i arg2 harg2 arg3 harg3 arg4 harg4 arg5 harg5 arg6 harg6 arg7 harg7 arg8 harg8 w v116 v124 (accM x0 x1 (i 1).val ((i 1).val + 1)) (arg6.view.writes (Elt F) f6 (piecesS c i arg2 harg2 arg3 harg3 arg4 harg4 arg5 harg5 arg6 harg6 arg7 harg7 arg8 harg8 x0 x1)) (arg7.view.writes (Elt F) f7 (piecesM c i arg2 harg2 arg3 harg3 arg4 harg4 arg5 harg5 arg6 harg6 arg7 harg7 arg8 harg8 x0 x1)) k2_pay26 m
      = accL x0 x1 (i 1).val m := by
  induction m with
  | zero => rw [st_k2_t5_zero]; unfold accL; rfl
  | succ m ih =>
    have hi := strip_lt i
    have hlt : m < (k2_t5_loop i).trips := by rw [trips_t5]; omega
    have e := st_k2_t5_succ (F := F) Variants.none c none i arg2 harg2 arg3 harg3 arg4 harg4 arg5 harg5 arg6 harg6 arg7 harg7 arg8 harg8 w v116 v124 (accM x0 x1 (i 1).val ((i 1).val + 1)) (arg6.view.writes (Elt F) f6 (piecesS c i arg2 harg2 arg3 harg3 arg4 harg4 arg5 harg5 arg6 harg6 arg7 harg7 arg8 harg8 x0 x1)) (arg7.view.writes (Elt F) f7 (piecesM c i arg2 harg2 arg3 harg3 arg4 harg4 arg5 harg5 arg6 harg6 arg7 harg7 arg8 harg8 x0 x1)) k2_pay26 ⟨m, hlt⟩
    change st_k2_t5 (F := F) Variants.none c none i arg2 harg2 arg3 harg3 arg4 harg4 arg5 harg5 arg6 harg6 arg7 harg7 arg8 harg8 w v116 v124 _ _ _ k2_pay26 (m + 1) = _ at e
    rw [e, ih (by omega)]
    unfold tripR_k2_t5 trip_k2_t5
    dsimp only
    rw [load_M c i arg2 harg2 arg3 harg3 arg4 harg4 arg5 harg5 arg6 harg6 arg7 harg7 arg8 harg8 x0 x1 f7 _ _ m (by omega) (off9_eq i ⟨m, hlt⟩), load_S c i arg2 harg2 arg3 harg3 arg4 harg4 arg5 harg5 arg6 harg6 arg7 harg7 arg8 harg8 x0 x1 f6 _ _ m (by omega) (off9_eq i ⟨m, hlt⟩), accL]

/-- The whole sum as the run names it. -/
theorem run_sum (f6 : BufTy.Contents (Elt F) arg6.view.ty) (f7 : BufTy.Contents (Elt F) arg7.view.ty) :
    kernelRun2.sl.r_4 c i arg2 harg2 arg3 harg3 arg4 harg4 arg5 harg5 arg6 harg6 arg7 harg7 arg8 harg8 x0 x1 f6 f7 = rowL x0 x1 (i 1).val := by
  have t4 : Scf.trips (k2_t4_loop i).lb (k2_t4_loop i).ub (k2_t4_loop i).st = 0 := trips_t4 i
  have t3 : Scf.trips (k2_t3_loop i).lb (k2_t3_loop i).ub (k2_t3_loop i).st = (i 1).val + 1 := trips_t3 i
  have t6 : Scf.trips (k2_t6_loop i).lb (k2_t6_loop i).ub (k2_t6_loop i).st = 0 := trips_t6 i
  have t5 : Scf.trips (k2_t5_loop i).lb (k2_t5_loop i).ub (k2_t5_loop i).st = (i 1).val + 1 := trips_t5 i
  unfold kernelRun2.sl.r_4 rowL
  rw [t6, st_k2_t6_zero]
  have e4 : ∀ (a : BitVec 32) b d g v, st_k2_t4 (F := F) Variants.none c none i arg2 harg2 arg3 harg3 arg4 harg4 arg5 harg5 arg6 harg6 arg7 harg7 arg8 harg8 a b d g v 0 = v := fun a b d g v => rfl
  rw [e4, t3, st3_eq c i arg2 harg2 arg3 harg3 arg4 harg4 arg5 harg5 arg6 harg6 arg7 harg7 arg8 harg8 x0 x1 f7 _ _ _ _ le_rfl, st5_eq c i arg2 harg2 arg3 harg3 arg4 harg4 arg5 harg5 arg6 harg6 arg7 harg7 arg8 harg8 x0 x1 f6 f7 _ _ _ _ le_rfl]

/-! ### The output loop -/

/-- What the output loop's trips store. -/
theorem pb7_agree (f6 : BufTy.Contents (Elt F) arg6.view.ty) (f7 : BufTy.Contents (Elt F) arg7.view.ty) (m : ℕ) (hm : m ≤ (i 1).val + 1) :
    (∀ p ∈ pb_k2_t7 (F := F) Variants.none c none i arg2 harg2 arg3 harg3 arg4 harg4 arg5 harg5 arg6 harg6 arg7 harg7 arg8 harg8 (rowM x0 x1 (i 1).val) (rowL x0 x1 (i 1).val) (arg6.view.writes (Elt F) f6 (piecesS c i arg2 harg2 arg3 harg3 arg4 harg4 arg5 harg5 arg6 harg6 arg7 harg7 arg8 harg8 x0 x1)) (arg7.view.writes (Elt F) f7 (piecesM c i arg2 harg2 arg3 harg3 arg4 harg4 arg5 harg5 arg6 harg6 arg7 harg7 arg8 harg8 x0 x1)) m,
        ∀ x : p.1.shape.Idx, p.2 x = arrP x0 x1 (i 1).val (p.1.emb x)) ∧
    (∀ y : S512x256.Idx, (y 0).val / 16 < m →
      ∃ p ∈ pb_k2_t7 (F := F) Variants.none c none i arg2 harg2 arg3 harg3 arg4 harg4 arg5 harg5 arg6 harg6 arg7 harg7 arg8 harg8 (rowM x0 x1 (i 1).val) (rowL x0 x1 (i 1).val) (arg6.view.writes (Elt F) f6 (piecesS c i arg2 harg2 arg3 harg3 arg4 harg4 arg5 harg5 arg6 harg6 arg7 harg7 arg8 harg8 x0 x1)) (arg7.view.writes (Elt F) f7 (piecesM c i arg2 harg2 arg3 harg3 arg4 harg4 arg5 harg5 arg6 harg6 arg7 harg7 arg8 harg8 x0 x1)) m, y ∈ p.1.set) ∧
    (∀ y : S512x256.Idx, m ≤ (y 0).val / 16 →
      ∀ p ∈ pb_k2_t7 (F := F) Variants.none c none i arg2 harg2 arg3 harg3 arg4 harg4 arg5 harg5 arg6 harg6 arg7 harg7 arg8 harg8 (rowM x0 x1 (i 1).val) (rowL x0 x1 (i 1).val) (arg6.view.writes (Elt F) f6 (piecesS c i arg2 harg2 arg3 harg3 arg4 harg4 arg5 harg5 arg6 harg6 arg7 harg7 arg8 harg8 x0 x1)) (arg7.view.writes (Elt F) f7 (piecesM c i arg2 harg2 arg3 harg3 arg4 harg4 arg5 harg5 arg6 harg6 arg7 harg7 arg8 harg8 x0 x1)) m, y ∉ p.1.set) := by
  induction m with
  | zero =>
    refine ⟨?_, ?_, ?_⟩
    · intro p hp
      exact absurd hp (by unfold pb_k2_t7; exact List.not_mem_nil)
    · intro y hy; omega
    · intro y hy p hp
      exact absurd hp (by unfold pb_k2_t7; exact List.not_mem_nil)
  | succ m ih =>
    obtain ⟨ih1, ih2, ih3⟩ := ih (by omega)
    have hi := strip_lt i
    have hlt : m < (k2_t7_loop i).trips := by rw [trips_t7]; omega
    have e := pb_k2_t7_succ (F := F) Variants.none c none i arg2 harg2 arg3 harg3 arg4 harg4 arg5 harg5 arg6 harg6 arg7 harg7 arg8 harg8 (rowM x0 x1 (i 1).val) (rowL x0 x1 (i 1).val) (arg6.view.writes (Elt F) f6 (piecesS c i arg2 harg2 arg3 harg3 arg4 harg4 arg5 harg5 arg6 harg6 arg7 harg7 arg8 harg8 x0 x1)) (arg7.view.writes (Elt F) f7 (piecesM c i arg2 harg2 arg3 harg3 arg4 harg4 arg5 harg5 arg6 harg6 arg7 harg7 arg8 harg8 x0 x1)) ⟨m, hlt⟩
    have o2 := off11_eq i ⟨m, hlt⟩
    have l1 : tripL_k2_t7 (F := F) Variants.none c none i arg2 harg2 arg3 harg3 arg4 harg4 arg5 harg5 arg6 harg6 arg7 harg7 arg8 harg8 (rowM x0 x1 (i 1).val) (rowL x0 x1 (i 1).val) (arg6.view.writes (Elt F) f6 (piecesS c i arg2 harg2 arg3 harg3 arg4 harg4 arg5 harg5 arg6 harg6 arg7 harg7 arg8 harg8 x0 x1)) (arg7.view.writes (Elt F) f7 (piecesM c i arg2 harg2 arg3 harg3 arg4 harg4 arg5 harg5 arg6 harg6 arg7 harg7 arg8 harg8 x0 x1)) ⟨m, hlt⟩
        = [⟨Rect.unit (k2_off11 i ⟨m, hlt⟩) S16x256.size (k2_off11_inb i ⟨m, hlt⟩), k2_pay37 (rowM x0 x1 (i 1).val) (rowL x0 x1 (i 1).val) (strM x0 x1 (i 1).val m) (strS x0 x1 (i 1).val m)⟩] := by
      unfold tripL_k2_t7 trip_k2_t7
      dsimp only
      rw [load_M c i arg2 harg2 arg3 harg3 arg4 harg4 arg5 harg5 arg6 harg6 arg7 harg7 arg8 harg8 x0 x1 f7 _ _ m (by omega) o2, load_S c i arg2 harg2 arg3 harg3 arg4 harg4 arg5 harg5 arg6 harg6 arg7 harg7 arg8 harg8 x0 x1 f6 _ _ m (by omega) o2]
    change pb_k2_t7 (F := F) Variants.none c none i arg2 harg2 arg3 harg3 arg4 harg4 arg5 harg5 arg6 harg6 arg7 harg7 arg8 harg8 (rowM x0 x1 (i 1).val) (rowL x0 x1 (i 1).val) _ _ (m + 1) = _ at e
    rw [l1] at e
    rw [e]
    refine ⟨?_, ?_, ?_⟩
    · intro p hp x
      rcases List.mem_append.mp hp with hp | hp
      · obtain rfl := List.mem_singleton.mp hp
        obtain ⟨a, b⟩ := emb_row _ (k2_off11_inb i ⟨m, hlt⟩) m o2 x
        unfold arrP
        rw [a, b, if_pos (by omega)]
      · exact ih1 p hp x
    · intro y hy
      rcases Nat.lt_succ_iff_lt_or_eq.mp hy with h | h
      · obtain ⟨p, hp, hy⟩ := ih2 y h
        exact ⟨p, List.mem_append_right _ hp, hy⟩
      · exact ⟨_, List.mem_append_left _ (List.mem_singleton_self _), (mem_row _ (k2_off11_inb i ⟨m, hlt⟩) m o2 y).mpr h⟩
    · intro y hy p hp
      rcases List.mem_append.mp hp with hp | hp
      · obtain rfl := List.mem_singleton.mp hp
        intro hmem
        have := (mem_row _ (k2_off11_inb i ⟨m, hlt⟩) m o2 y).mp hmem
        omega
      · exact ih3 y (by omega) p hp

/-- The third work array at the end of the run. -/
theorem run_p (f6 : BufTy.Contents (Elt F) arg6.view.ty) (f7 : BufTy.Contents (Elt F) arg7.view.ty) :
    kernelRun2.sl.v274 c i arg2 harg2 arg3 harg3 arg4 harg4 arg5 harg5 arg6 harg6 arg7 harg7 arg8 harg8 x0 x1 f6 f7 = arrP x0 x1 (i 1).val := by
  have t8 : Scf.trips (k2_t8_loop i).lb (k2_t8_loop i).ub (k2_t8_loop i).st = 0 := trips_t8 i
  have t7 : Scf.trips (k2_t7_loop i).lb (k2_t7_loop i).ub (k2_t7_loop i).st = (i 1).val + 1 := trips_t7 i
  unfold kernelRun2.sl.v274
  rw [t8, t7, run_max, run_sum]
  obtain ⟨a1, a2, a3⟩ := pb7_agree c i arg2 harg2 arg3 harg3 arg4 harg4 arg5 harg5 arg6 harg6 arg7 harg7 arg8 harg8 x0 x1 f6 f7 ((i 1).val + 1) le_rfl
  funext j
  have ej : (Rect.unit (s := S512x256) ![0, 0] S512x256.size inb_S512x256_S512x256_0_0).toLoadRect.idx j = j := by
    funext a
    apply Fin.ext
    fin_cases a
    · show 0 + 1 * (j 0).val = (j 0).val
      omega
    · show 0 + 1 * (j 1).val = (j 1).val
      omega
  have e8 : ∀ a b d g, pb_k2_t8 (F := F) Variants.none c none i arg2 harg2 arg3 harg3 arg4 harg4 arg5 harg5 arg6 harg6 arg7 harg7 arg8 harg8 a b d g 0 = [] := by intro a b d g; unfold pb_k2_t8; rfl
  unfold View.readCov
  rw [e8, List.nil_append, View.writes_append, View.readAt_apply, ej]
  by_cases hj : (j 0).val / 16 ≤ (i 1).val
  · exact View.read_writes_apply_of_pieces _ _ (arrP x0 x1 (i 1).val) _ a1 j (a2 j (by omega))
  · refine (View.read_writes_apply_of_forall_not_mem _ _ j _ (a3 j (by omega))).trans ?_
    unfold kernelRun2.sl.HS2_1 arrP
    rw [if_neg hj]
    have := View.read_writes_cons_emb (Val := Elt F) arg8.view arg8.view.junk (Rect.unit (s := S512x256) ![0, 0] S512x256.size inb_S512x256_S512x256_0_0) (k2_pay36 (F := F)) [] j
    rw [show (Rect.unit (s := S512x256) ![0, 0] S512x256.size inb_S512x256_S512x256_0_0).emb j = j from ej] at this
    exact this

/-- The stores into the two outputs, as functions of the input blocks alone. -/
theorem run_out2 (f6 : BufTy.Contents (Elt F) arg6.view.ty) (f7 : BufTy.Contents (Elt F) arg7.view.ty) (f8 : BufTy.Contents (Elt F) arg8.view.ty) :
    (kernelRun2 c i arg2 harg2 arg3 harg3 arg4 harg4 arg5 harg5 arg6 harg6 arg7 harg7 arg8 harg8 x0 x1 f6 f7 f8).1 = [⟨Rect.unit ![0, 0, 0] S1x16x512.size inb_S1x16x512_S1x16x512_0_0_0, outBlk i x0 x1⟩] := by
  unfold kernelRun2
  dsimp only
  rw [run_p]
  rfl

/-- What the body stores in its second output block. -/
theorem run_out3 (f6 : BufTy.Contents (Elt F) arg6.view.ty) (f7 : BufTy.Contents (Elt F) arg7.view.ty) (f8 : BufTy.Contents (Elt F) arg8.view.ty) :
    (kernelRun2 c i arg2 harg2 arg3 harg3 arg4 harg4 arg5 harg5 arg6 harg6 arg7 harg7 arg8 harg8 x0 x1 f6 f7 f8).2.1 = [⟨Rect.unit ![0, 0, 0, 0] S1x1x1x256.size inb_S1x1x1x256_S1x1x1x256_0_0_0_0, outLse i x0 x1⟩] := by
  unfold kernelRun2
  dsimp only
  unfold kernelRun2.sl.H3_1 kernelRun2.sl.r_6
  rw [run_max, run_sum]
  rfl

end Pieces

end Cert.Kernel.Gen
-- ==== Proof.BitsScoresOwn.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.BitsScoresVal

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A buffer owned at some read contents is held at some raw contents. -/
theorem owns_open {s : Shape} {e : EltTy} (c : Dev nD) (m : Memref sig .tc .vmem s e) :
    (iprop(∃ d, owns (c : Thread nD τ) m fullShare d) : sProp 𝕄)
      ⊢ iprop(∃ f : BufTy.Contents (Elt F) m.view.ty, (m.view.loc (c : Thread nD τ) ↦[m.view.set]{fullShare} f)) := by
  unfold owns
  iintro ⟨%d, %f, -, H⟩
  iexists f
  iexact H

/-- and conversely. -/
theorem owns_close {s : Shape} {e : EltTy} (c : Dev nD) (m : Memref sig .tc .vmem s e) :
    (iprop(∃ f : BufTy.Contents (Elt F) m.view.ty, (m.view.loc (c : Thread nD τ) ↦[m.view.set]{fullShare} f)) : sProp 𝕄)
      ⊢ iprop(∃ d, owns (c : Thread nD τ) m fullShare d) := by
  unfold owns
  iintro ⟨%f, H⟩
  iexists _
  iexists f
  isplitr
  · ipureintro; rfl
  iexact H

/-- One store of a whole block leaves exactly the block. -/
theorem owns_one {s : Shape} {e : EltTy} (c : Dev nD) (m : Memref sig .tc .vmem s e) (r : Rect s) (w : r.shape.Idx → Elt F e) (x : Vec F s e)
    (h : ∀ y, ∃ j, r.emb j = y ∧ w j = x y) :
    (iprop(∃ f : BufTy.Contents (Elt F) m.view.ty, (m.view.loc (c : Thread nD τ) ↦[m.view.set]{fullShare} m.view.writes (Elt F) f [⟨r, w⟩])) : sProp 𝕄)
      ⊢ owns (c : Thread nD τ) m fullShare x := by
  unfold owns
  iintro ⟨%f, H⟩
  iexists _
  isplitr
  swap
  · iexact H
  ipureintro
  funext y
  obtain ⟨j, rfl, e⟩ := h y
  rw [View.read_writes_cons_emb, e]

/-- The property the run has, at its two lists of stores. -/
def RunSpec (c : Dev nD) (i : grid2.Coords) (arg2 : Memref sig .tc .vmem S1x512x256 .bf16) (harg2 : arg2.IsWhole) (arg3 : Memref sig .tc .vmem S1x8192x512 .bf16) (harg3 : arg3.IsWhole) (arg4 : Memref sig .tc .vmem S1x16x512 .f32) (harg4 : arg4.IsWhole) (arg5 : Memref sig .tc .vmem S1x1x1x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole)
    (x0 : Vec F S1x512x256 .bf16) (x1 : Vec F S1x8192x512 .bf16) (f6 : BufTy.Contents (Elt F) arg6.view.ty) (f7 : BufTy.Contents (Elt F) arg7.view.ty) (f8 : BufTy.Contents (Elt F) arg8.view.ty)
    (L2 : List (View.Piece (Elt F) S1x16x512 .f32)) (L3 : List (View.Piece (Elt F) S1x1x1x256 .f32)) : Prop :=
∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} f) ∗ (∃ f, arg7.view.loc (c : Thread nD τ) ↦[arg7.view.set]{fullShare} f) ∗ (∃ f, arg8.view.loc (c : Thread nD τ) ↦[arg8.view.set]{fullShare} f)) -∗ K ⟨⟩))
          ⊢ wp frame (wpE (defs₀ (F := F)) Variants.none c none) E (cc2_scores i arg2 harg2 arg3 harg3 arg4 harg4 arg5 harg5 arg6 harg6 arg7 harg7 arg8 harg8) K

/-- The body run meets its specification. -/
theorem runSpec (c : Dev nD) (i : grid2.Coords) (arg2 : Memref sig .tc .vmem S1x512x256 .bf16) (harg2 : arg2.IsWhole) (arg3 : Memref sig .tc .vmem S1x8192x512 .bf16) (harg3 : arg3.IsWhole) (arg4 : Memref sig .tc .vmem S1x16x512 .f32) (harg4 : arg4.IsWhole) (arg5 : Memref sig .tc .vmem S1x1x1x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole)
    (x0 : Vec F S1x512x256 .bf16) (x1 : Vec F S1x8192x512 .bf16) (f6 : BufTy.Contents (Elt F) arg6.view.ty) (f7 : BufTy.Contents (Elt F) arg7.view.ty) (f8 : BufTy.Contents (Elt F) arg8.view.ty) :
    RunSpec c i arg2 harg2 arg3 harg3 arg4 harg4 arg5 harg5 arg6 harg6 arg7 harg7 arg8 harg8 x0 x1 f6 f7 f8 (kernelRun2 c i arg2 harg2 arg3 harg3 arg4 harg4 arg5 harg5 arg6 harg6 arg7 harg7 arg8 harg8 x0 x1 f6 f7 f8).1 (kernelRun2 c i arg2 harg2 arg3 harg3 arg4 harg4 arg5 harg5 arg6 harg6 arg7 harg7 arg8 harg8 x0 x1 f6 f7 f8).2.1 :=
  (kernelRun2 c i arg2 harg2 arg3 harg3 arg4 harg4 arg5 harg5 arg6 harg6 arg7 harg7 arg8 harg8 x0 x1 f6 f7 f8).2.2

/-- The body run meets its specification, stated of the values it stores. -/
theorem runSpec' (c : Dev nD) (i : grid2.Coords) (arg2 : Memref sig .tc .vmem S1x512x256 .bf16) (harg2 : arg2.IsWhole) (arg3 : Memref sig .tc .vmem S1x8192x512 .bf16) (harg3 : arg3.IsWhole) (arg4 : Memref sig .tc .vmem S1x16x512 .f32) (harg4 : arg4.IsWhole) (arg5 : Memref sig .tc .vmem S1x1x1x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole)
    (x0 : Vec F S1x512x256 .bf16) (x1 : Vec F S1x8192x512 .bf16) (f6 : BufTy.Contents (Elt F) arg6.view.ty) (f7 : BufTy.Contents (Elt F) arg7.view.ty) (f8 : BufTy.Contents (Elt F) arg8.view.ty) :
    RunSpec c i arg2 harg2 arg3 harg3 arg4 harg4 arg5 harg5 arg6 harg6 arg7 harg7 arg8 harg8 x0 x1 f6 f7 f8 [⟨Rect.unit ![0,0,0] S1x16x512.size inb_S1x16x512_S1x16x512_0_0_0, outBlk i x0 x1⟩]
      [⟨Rect.unit ![0,0,0,0] S1x1x1x256.size inb_S1x1x1x256_S1x1x1x256_0_0_0_0, outLse i x0 x1⟩] :=
  run_out2 c i arg2 harg2 arg3 harg3 arg4 harg4 arg5 harg5 arg6 harg6 arg7 harg7 arg8 harg8 x0 x1 f6 f7 f8 ▸ run_out3 c i arg2 harg2 arg3 harg3 arg4 harg4 arg5 harg5 arg6 harg6 arg7 harg7 arg8 harg8 x0 x1 f6 f7 f8 ▸ runSpec c i arg2 harg2 arg3 harg3 arg4 harg4 arg5 harg5 arg6 harg6 arg7 harg7 arg8 harg8 x0 x1 f6 f7 f8

/-- THE MAIN BODY'S RUN: from its two input blocks, whatever the outputs and the work arrays hold, it leaves the two
outputs at the functions of the input blocks named above. -/
theorem scores_run (c : Dev nD) (i : grid2.Coords) (arg2 : Memref sig .tc .vmem S1x512x256 .bf16) (harg2 : arg2.IsWhole) (arg3 : Memref sig .tc .vmem S1x8192x512 .bf16) (harg3 : arg3.IsWhole) (arg4 : Memref sig .tc .vmem S1x16x512 .f32) (harg4 : arg4.IsWhole) (arg5 : Memref sig .tc .vmem S1x1x1x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole)
    (x0 : Vec F S1x512x256 .bf16) (x1 : Vec F S1x8192x512 .bf16) (E : Set ℕ) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare (outBlk i x0 x1) ∗ owns (c : Thread nD τ) arg5 fullShare (outLse i x0 x1) ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (cc2_scores i arg2 harg2 arg3 harg3 arg4 harg4 arg5 harg5 arg6 harg6 arg7 harg7 arg8 harg8) K := by
  iintro ⟨H0, H1, H2, H3, HS0, HS1, HS2, Hk⟩
  ihave HS0 := (owns_open c arg6) $$ HS0
  ihave HS1 := (owns_open c arg7) $$ HS1
  ihave HS2 := (owns_open c arg8) $$ HS2
  icases HS0 with ⟨%f6, HS0⟩
  icases HS1 with ⟨%f7, HS1⟩
  icases HS2 with ⟨%f8, HS2⟩
  have hrun := runSpec' c i arg2 harg2 arg3 harg3 arg4 harg4 arg5 harg5 arg6 harg6 arg7 harg7 arg8 harg8 x0 x1 f6 f7 f8
  unfold RunSpec at hrun
  have hrun := hrun E K
  iapply hrun
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, HS2⟩
  iapply Hk
  isplitl [H0]; · iexact H0
  isplitl [H1]; · iexact H1
  isplitl [H2]
  · iapply (owns_one c arg4 _ _ (outBlk i x0 x1) ?cov2); rotate_left
    · iexact H2
    intro y
    refine ⟨y, ?_, rfl⟩
    funext a
    apply Fin.ext
    fin_cases a
    · show 0 + 1 * (y 0).val = (y 0).val
      omega
    · show 0 + 1 * (y 1).val = (y 1).val
      omega
    · show 0 + 1 * (y 2).val = (y 2).val
      omega
  isplitl [H3]
  · iapply (owns_one c arg5 _ _ (outLse i x0 x1) ?cov3); rotate_left
    · iexact H3
    intro y
    refine ⟨y, ?_, rfl⟩
    funext a
    apply Fin.ext
    fin_cases a
    · show 0 + 1 * (y 0).val = (y 0).val
      omega
    · show 0 + 1 * (y 1).val = (y 1).val
      omega
    · show 0 + 1 * (y 2).val = (y 2).val
      omega
    · show 0 + 1 * (y 3).val = (y 3).val
      omega
  isplitl [HS0]; · iapply (owns_close c arg6); iexact HS0
  isplitl [HS1]; · iapply (owns_close c arg7); iexact HS1
  iapply (owns_close c arg8); iexact HS2

end Cert.Kernel.Gen
-- ==== Proof.BitsRunFrame.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.BitsScoresOwn

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_prep_q` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x64x1024 := Rect.unit (s := S1x64x1024) ![0, 0, 0] S1x64x1024.size inb_S1x64x1024_S1x64x1024_0_0_0
abbrev r0_1 : Rect S1x1x8x128 := Rect.unit (s := S1x1x8x128) ![0, 0, 0, 0] S1x1x1x128.size inb_S1x1x8x128_S1x1x1x128_0_0_0_0
abbrev r0_2 : Rect S1x1x8x128 := Rect.unit (s := S1x1x8x128) ![0, 0, 1, 0] S1x1x1x128.size inb_S1x1x8x128_S1x1x1x128_0_0_1_0
abbrev r0_3 : Rect S1x1x8x128 := Rect.unit (s := S1x1x8x128) ![0, 0, 2, 0] S1x1x1x128.size inb_S1x1x8x128_S1x1x1x128_0_0_2_0
abbrev r0_4 : Rect S1x1x8x128 := Rect.unit (s := S1x1x8x128) ![0, 0, 3, 0] S1x1x1x128.size inb_S1x1x8x128_S1x1x1x128_0_0_3_0
abbrev r0_5 : Rect S1x1x8x128 := Rect.unit (s := S1x1x8x128) ![0, 0, 4, 0] S1x1x1x128.size inb_S1x1x8x128_S1x1x1x128_0_0_4_0
abbrev r0_6 : Rect S1x1x8x128 := Rect.unit (s := S1x1x8x128) ![0, 0, 5, 0] S1x1x1x128.size inb_S1x1x8x128_S1x1x1x128_0_0_5_0
abbrev r0_7 : Rect S1x1x8x128 := Rect.unit (s := S1x1x8x128) ![0, 0, 6, 0] S1x1x1x128.size inb_S1x1x8x128_S1x1x1x128_0_0_6_0
abbrev r0_8 : Rect S1x1x8x128 := Rect.unit (s := S1x1x8x128) ![0, 0, 7, 0] S1x1x1x128.size inb_S1x1x8x128_S1x1x1x128_0_0_7_0
abbrev r0_9 : Rect S1x512x128 := Rect.unit (s := S1x512x128) ![0, 0, 0] S1x512x128.size inb_S1x512x128_S1x512x128_0_0_0

/-! ## What the body leaves in each output window's buffer -/

/-! ### Values of the body that the stores' payloads, spelt out, would write more than once

    Each is a vector the body binds (often a part call's result), stated over the input windows' blocks and
    numbered on from the skeleton's payload functions (`k0_pay44` …, after `k0_pay43`), so that
    `out0_W` and the values after it name it instead of spelling it out (`unfold_out out0_W` opens a canon
    with them, `unfold_payloads` opens them with the payloads); the comment after each is the printed function's
    name for the value (a count appended where that name is bound again). -/

def k0_pay44 (x0 : Vec F S1x64x1024 .fp8e4m3) (x1 : Vec F S1x1x8x128 .f32) : IVec S64x128 32 :=
  iota .tc S64x128 32 [1] iota_S64x128_d1_w32 -- `v11`
def k0_pay45 (x0 : Vec F S1x64x1024 .fp8e4m3) (x1 : Vec F S1x1x8x128 .f32) : FVec F S64x128 .f32 :=
  k0_pay13 (View.ld x0 r0_0) -- `v19`
def k0_pay46 (x0 : Vec F S1x64x1024 .fp8e4m3) (x1 : Vec F S1x1x8x128 .f32) : FVec F S64x128 .f32 :=
  k0_pay14 (View.ld x0 r0_0) -- `v21`
def k0_pay47 (x0 : Vec F S1x64x1024 .fp8e4m3) (x1 : Vec F S1x1x8x128 .f32) : FVec F S64x128 .f32 :=
  k0_pay15 (View.ld x0 r0_0) -- `v23`
def k0_pay48 (x0 : Vec F S1x64x1024 .fp8e4m3) (x1 : Vec F S1x1x8x128 .f32) : FVec F S64x128 .f32 :=
  k0_pay17 (View.ld x0 r0_0) -- `v27`
def k0_pay49 (x0 : Vec F S1x64x1024 .fp8e4m3) (x1 : Vec F S1x1x8x128 .f32) : FVec F S64x128 .f32 :=
  k0_pay18 (View.ld x0 r0_0) -- `v29`
def k0_pay50 (x0 : Vec F S1x64x1024 .fp8e4m3) (x1 : Vec F S1x1x8x128 .f32) : FVec F S64x128 .f32 :=
  k0_pay19 (View.ld x0 r0_0) -- `v31`
def k0_pay51 (x0 : Vec F S1x64x1024 .fp8e4m3) (x1 : Vec F S1x1x8x128 .f32) : IVec S64x128 1 :=
  k0_pay20 -- `v35`
def k0_pay52 (x0 : Vec F S1x64x1024 .fp8e4m3) (x1 : Vec F S1x1x8x128 .f32) : FVec F S64x128 .f32 :=
  k0_pay21 (View.ld x0 r0_0) -- `v37`
def k0_pay53 (x0 : Vec F S1x64x1024 .fp8e4m3) (x1 : Vec F S1x1x8x128 .f32) : FVec F S64x128 .f32 :=
  k0_pay22 (View.ld x0 r0_0) -- `v39`

/-- Window 2's staging buffer after the body, from the input windows' blocks: its 1 store as pieces, LAST
    FIRST (Lib/Pipeline/FrameBody.lean `View.canon`; the payloads are the skeleton's and the values stated above). -/
def out0_2 (x0 : Vec F S1x64x1024 .fp8e4m3) (x1 : Vec F S1x1x8x128 .f32) : Vec F S1x512x128 .bf16 :=
  View.canon [⟨r0_9, k0_pay1 (k0_pay36 (k0_pay44 x0 x1) (k0_pay45 x0 x1) (k0_pay47 x0 x1) (k0_pay48 x0 x1) (k0_pay50 x0 x1) (k0_pay51 x0 x1)) (k0_pay37 (k0_pay44 x0 x1) (k0_pay46 x0 x1) (k0_pay49 x0 x1) (k0_pay51 x0 x1) (k0_pay52 x0 x1) 2#32 (View.ld x1 r0_1)) (k0_pay38 (k0_pay30 (k0_pay44 x0 x1) (k0_pay46 x0 x1) (k0_pay49 x0 x1) (k0_pay51 x0 x1) (k0_pay52 x0 x1) 2#32) (View.ld x1 r0_2)) (k0_pay39 (k0_pay31 (k0_pay44 x0 x1) (k0_pay46 x0 x1) (k0_pay49 x0 x1) (k0_pay51 x0 x1) (k0_pay53 x0 x1)) (View.ld x1 r0_3)) (k0_pay40 (k0_pay32 (k0_pay44 x0 x1) (k0_pay46 x0 x1) (k0_pay49 x0 x1) (k0_pay51 x0 x1) (k0_pay53 x0 x1)) (View.ld x1 r0_4)) (k0_pay41 (k0_pay33 (k0_pay44 x0 x1) (k0_pay45 x0 x1) (k0_pay47 x0 x1) (k0_pay48 x0 x1) (k0_pay50 x0 x1) (k0_pay51 x0 x1)) (View.ld x1 r0_5)) (k0_pay42 (k0_pay34 (k0_pay44 x0 x1) (k0_pay45 x0 x1) (k0_pay47 x0 x1) (k0_pay48 x0 x1) (k0_pay50 x0 x1) (k0_pay51 x0 x1)) (View.ld x1 r0_6)) (k0_pay43 (k0_pay35 (k0_pay44 x0 x1) (k0_pay45 x0 x1) (k0_pay47 x0 x1) (k0_pay48 x0 x1) (k0_pay50 x0 x1) (k0_pay51 x0 x1)) (View.ld x1 r0_7)) (View.ld x1 r0_8)⟩]

/-- Its stores tile the buffer (checked by evaluation), so they cover it. -/
theorem cover0_2 (p0 : Vec F S1x512x128 .bf16) (y : S1x512x128.Idx) :
    ∃ pc ∈ ([⟨r0_9, p0⟩] : List (View.Piece (Elt F) S1x512x128 .bf16)), y ∈ pc.1.set :=
  View.cover_of_tiled [⟨r0_9, p0⟩] S1x512x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg2 : Memref sig .tc .vmem S1x64x1024 .fp8e4m3) (harg2 : arg2.IsWhole) (arg3 : Memref sig .tc .vmem S1x1x8x128 .f32) (harg3 : arg3.IsWhole) (arg4 : Memref sig .tc .vmem S1x512x128 .bf16) (harg4 : arg4.IsWhole)
    (x0 : Vec F S1x64x1024 .fp8e4m3) (x1 : Vec F S1x1x8x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0_prep_q i arg2 harg2 arg3 harg3 arg4 harg4) K := by
  simp only [cc0_prep_q_eq_skeleton]; unfold cc0_prep_q_skel
  simp only [k0_part1_eq_skeleton, k0_part2_eq_skeleton, k0_part3_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover0_2 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_prep_k` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1x64x1024 := Rect.unit (s := S1x64x1024) ![0, 0, 0] S1x64x1024.size inb_S1x64x1024_S1x64x1024_0_0_0
abbrev r1_1 : Rect S1x1x8x128 := Rect.unit (s := S1x1x8x128) ![0, 0, 0, 0] S1x1x1x128.size inb_S1x1x8x128_S1x1x1x128_0_0_0_0
abbrev r1_2 : Rect S1x1x8x128 := Rect.unit (s := S1x1x8x128) ![0, 0, 1, 0] S1x1x1x128.size inb_S1x1x8x128_S1x1x1x128_0_0_1_0
abbrev r1_3 : Rect S1x1x8x128 := Rect.unit (s := S1x1x8x128) ![0, 0, 2, 0] S1x1x1x128.size inb_S1x1x8x128_S1x1x1x128_0_0_2_0
abbrev r1_4 : Rect S1x1x8x128 := Rect.unit (s := S1x1x8x128) ![0, 0, 3, 0] S1x1x1x128.size inb_S1x1x8x128_S1x1x1x128_0_0_3_0
abbrev r1_5 : Rect S1x1x8x128 := Rect.unit (s := S1x1x8x128) ![0, 0, 4, 0] S1x1x1x128.size inb_S1x1x8x128_S1x1x1x128_0_0_4_0
abbrev r1_6 : Rect S1x1x8x128 := Rect.unit (s := S1x1x8x128) ![0, 0, 5, 0] S1x1x1x128.size inb_S1x1x8x128_S1x1x1x128_0_0_5_0
abbrev r1_7 : Rect S1x1x8x128 := Rect.unit (s := S1x1x8x128) ![0, 0, 6, 0] S1x1x1x128.size inb_S1x1x8x128_S1x1x1x128_0_0_6_0
abbrev r1_8 : Rect S1x1x8x128 := Rect.unit (s := S1x1x8x128) ![0, 0, 7, 0] S1x1x1x128.size inb_S1x1x8x128_S1x1x1x128_0_0_7_0
abbrev r1_9 : Rect S1x128x512 := Rect.unit (s := S1x128x512) ![0, 0, 0] S1x128x512.size inb_S1x128x512_S1x128x512_0_0_0

/-! ## What the body leaves in each output window's buffer -/

/-! ### Values of the body that the stores' payloads, spelt out, would write more than once

    Each is a vector the body binds (often a part call's result), stated over the input windows' blocks and
    numbered on from the skeleton's payload functions (`k1_pay44` …, after `k1_pay43`), so that
    `out1_W` and the values after it name it instead of spelling it out (`unfold_out out1_W` opens a canon
    with them, `unfold_payloads` opens them with the payloads); the comment after each is the printed function's
    name for the value (a count appended where that name is bound again). -/

def k1_pay44 (x0 : Vec F S1x64x1024 .fp8e4m3) (x1 : Vec F S1x1x8x128 .f32) : IVec S64x128 32 :=
  iota .tc S64x128 32 [1] iota_S64x128_d1_w32 -- `v11`
def k1_pay45 (x0 : Vec F S1x64x1024 .fp8e4m3) (x1 : Vec F S1x1x8x128 .f32) : FVec F S64x128 .f32 :=
  k1_pay13 (View.ld x0 r1_0) -- `v19`
def k1_pay46 (x0 : Vec F S1x64x1024 .fp8e4m3) (x1 : Vec F S1x1x8x128 .f32) : FVec F S64x128 .f32 :=
  k1_pay14 (View.ld x0 r1_0) -- `v21`
def k1_pay47 (x0 : Vec F S1x64x1024 .fp8e4m3) (x1 : Vec F S1x1x8x128 .f32) : FVec F S64x128 .f32 :=
  k1_pay15 (View.ld x0 r1_0) -- `v23`
def k1_pay48 (x0 : Vec F S1x64x1024 .fp8e4m3) (x1 : Vec F S1x1x8x128 .f32) : FVec F S64x128 .f32 :=
  k1_pay17 (View.ld x0 r1_0) -- `v27`
def k1_pay49 (x0 : Vec F S1x64x1024 .fp8e4m3) (x1 : Vec F S1x1x8x128 .f32) : FVec F S64x128 .f32 :=
  k1_pay18 (View.ld x0 r1_0) -- `v29`
def k1_pay50 (x0 : Vec F S1x64x1024 .fp8e4m3) (x1 : Vec F S1x1x8x128 .f32) : FVec F S64x128 .f32 :=
  k1_pay19 (View.ld x0 r1_0) -- `v31`
def k1_pay51 (x0 : Vec F S1x64x1024 .fp8e4m3) (x1 : Vec F S1x1x8x128 .f32) : IVec S64x128 1 :=
  k1_pay20 -- `v35`
def k1_pay52 (x0 : Vec F S1x64x1024 .fp8e4m3) (x1 : Vec F S1x1x8x128 .f32) : FVec F S64x128 .f32 :=
  k1_pay21 (View.ld x0 r1_0) -- `v37`
def k1_pay53 (x0 : Vec F S1x64x1024 .fp8e4m3) (x1 : Vec F S1x1x8x128 .f32) : FVec F S64x128 .f32 :=
  k1_pay22 (View.ld x0 r1_0) -- `v39`

/-- Window 2's staging buffer after the body, from the input windows' blocks: its 1 store as pieces, LAST
    FIRST (Lib/Pipeline/FrameBody.lean `View.canon`; the payloads are the skeleton's and the values stated above). -/
def out1_2 (x0 : Vec F S1x64x1024 .fp8e4m3) (x1 : Vec F S1x1x8x128 .f32) : Vec F S1x128x512 .bf16 :=
  View.canon [⟨r1_9, k1_pay1 (k1_pay36 (k1_pay44 x0 x1) (k1_pay45 x0 x1) (k1_pay47 x0 x1) (k1_pay48 x0 x1) (k1_pay50 x0 x1) (k1_pay51 x0 x1)) (k1_pay37 (k1_pay44 x0 x1) (k1_pay46 x0 x1) (k1_pay49 x0 x1) (k1_pay51 x0 x1) (k1_pay52 x0 x1) 2#32 (View.ld x1 r1_1)) (k1_pay38 (k1_pay30 (k1_pay44 x0 x1) (k1_pay46 x0 x1) (k1_pay49 x0 x1) (k1_pay51 x0 x1) (k1_pay52 x0 x1) 2#32) (View.ld x1 r1_2)) (k1_pay39 (k1_pay31 (k1_pay44 x0 x1) (k1_pay46 x0 x1) (k1_pay49 x0 x1) (k1_pay51 x0 x1) (k1_pay53 x0 x1)) (View.ld x1 r1_3)) (k1_pay40 (k1_pay32 (k1_pay44 x0 x1) (k1_pay46 x0 x1) (k1_pay49 x0 x1) (k1_pay51 x0 x1) (k1_pay53 x0 x1)) (View.ld x1 r1_4)) (k1_pay41 (k1_pay33 (k1_pay44 x0 x1) (k1_pay45 x0 x1) (k1_pay47 x0 x1) (k1_pay48 x0 x1) (k1_pay50 x0 x1) (k1_pay51 x0 x1)) (View.ld x1 r1_5)) (k1_pay42 (k1_pay34 (k1_pay44 x0 x1) (k1_pay45 x0 x1) (k1_pay47 x0 x1) (k1_pay48 x0 x1) (k1_pay50 x0 x1) (k1_pay51 x0 x1)) (View.ld x1 r1_6)) (k1_pay43 (k1_pay35 (k1_pay44 x0 x1) (k1_pay45 x0 x1) (k1_pay47 x0 x1) (k1_pay48 x0 x1) (k1_pay50 x0 x1) (k1_pay51 x0 x1)) (View.ld x1 r1_7)) (View.ld x1 r1_8)⟩]

/-- Its stores tile the buffer (checked by evaluation), so they cover it. -/
theorem cover1_2 (p0 : Vec F S1x128x512 .bf16) (y : S1x128x512.Idx) :
    ∃ pc ∈ ([⟨r1_9, p0⟩] : List (View.Piece (Elt F) S1x128x512 .bf16)), y ∈ pc.1.set :=
  View.cover_of_tiled [⟨r1_9, p0⟩] S1x128x512.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg2 : Memref sig .tc .vmem S1x64x1024 .fp8e4m3) (harg2 : arg2.IsWhole) (arg3 : Memref sig .tc .vmem S1x1x8x128 .f32) (harg3 : arg3.IsWhole) (arg4 : Memref sig .tc .vmem S1x128x512 .bf16) (harg4 : arg4.IsWhole)
    (x0 : Vec F S1x64x1024 .fp8e4m3) (x1 : Vec F S1x1x8x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1_prep_k i arg2 harg2 arg3 harg3 arg4 harg4) K := by
  simp only [cc1_prep_k_eq_skeleton]; unfold cc1_prep_k_skel
  simp only [k1_part1_eq_skeleton, k1_part2_eq_skeleton, k1_part3_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover1_2 _)).trans ?_
  rfl

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-! # REGION 2 of @main: custom_call 2, `cc2_scores` (pipeline 2), at the entry contents `V` — class R -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The kernel body on any staging memrefs: a subtype the run finds -/

/-- One staging buffer of output window 2, through which its contents are stated (`View.read_writes_of_cover`: the
    choice does not matter). -/
abbrev VO2_2 : View sig .tc .vmem S1x16x512 .f32 := (Memref.whole cc2_stg2_0 : Memref sig .tc .vmem S1x16x512 .f32).view
/-- One staging buffer of output window 3, through which its contents are stated (`View.read_writes_of_cover`: the
    choice does not matter). -/
abbrev VO2_3 : View sig .tc .vmem S1x1x1x256 .f32 := (Memref.whole cc2_stg3_0 : Memref sig .tc .vmem S1x1x1x256 .f32).view
/-- Each window's current staging memref at point `t`, spelled as the pipeline passes it (`bodyAt2`), and its wholeness. -/
abbrev ms2_0 (t : Fin cfg2.N) : Memref sig .tc .vmem S1x512x256 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x8192x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x16x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1x1x256 .f32 := win2_3.stage (cfg2.slots t 3)
abbrev hs2_3 (t : Fin cfg2.N) : (ms2_3 t).IsWhole := hstage2_3 ((cfg2.slots t 3).cast nbuf2_3)
/-- The scratch operands: whole scoped buffers of the kernel's own, passed beside the windows. -/
abbrev scM2_0 : Memref sig .tc .vmem S512x256 .f32 := Memref.whole cc2_scratch0
abbrev scM2_1 : Memref sig .tc .vmem S512x256 .f32 := Memref.whole cc2_scratch1
abbrev scM2_2 : Memref sig .tc .vmem S512x256 .f32 := Memref.whole cc2_scratch2

/-- The frame kit's invariant with the scratch operands as memrefs owned at some contents (`Gen.scopedRest2_eq`,
    Lib/Memref.lean `owns_whole`): what the body obligation hands the run and takes back. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ d, owns (c : Thread nD τ) scM2_0 fullShare d) ∗ (∃ d, owns (c : Thread nD τ) scM2_1 fullShare d) ∗ (∃ d, owns (c : Thread nD τ) scM2_2 fullShare d)) ∗ (∃ r, prngReg c r)) := by
  unfold Pipeline.ΦA; rw [scopedRest2_eq]; simp only [scM2_0, scM2_1, scM2_2, owns_whole]; try rfl

/-! ## What the outputs hold after each point -/

/-- What the outputs' staging buffers hold after the body at point `t` (as a tuple, in window order): the run's contents at
    the point's memrefs and input blocks. -/
def outsAt2 (c : Dev nD) (t : Fin cfg2.N) : Vec F S1x16x512 .f32 × Vec F S1x1x1x256 .f32 :=
  (outBlk (grid2.coords t) (iblk2 V c 0 t) (iblk2 V c 1 t), outLse (grid2.coords t) (iblk2 V c 0 t) (iblk2 V c 1 t))

/-! ## The pipeline's proof data -/

/-- The proof data of pipeline 2 on core `c`: the arrays as the region finds them (`V`); after the body at
    point `t` each input's buffer at its block and the outputs' at `outsAt2`; the invariant the class's
    (Lib/Pipeline/Frame.lean `ΦA`: the scoped rest and the generator register); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t).1
    | ⟨3, _⟩ => (outsAt2 V c t).2
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t).1 := by dsimp only [dat2]
theorem after2_3 (c : Dev nD) (t : Fin cfg2.N) : (dat2 V c).after 3 t = (outsAt2 V c t).2 := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t))

/-- The body at any point: the inputs' memrefs hold their blocks (`before2_W`); so the
    run applies; the invariant hands the body its scratch buffers at some contents (and the generator register) and takes them back at some contents (`PhiA_eq`); the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2, after2_3]
  rw [show (dat2 V c).Φ t.castSucc = Pipeline.ΦA spec2 c from rfl, PhiA2_eq]
  unfold outsAt2; (try dsimp only)
  iintro ⟨⟨⟨HR0, HR1, HR2, HR3, HR4, HR5, HR6, HR7, HR8, HR9, HR10, HR11, HS0, HS1, HS2⟩, Hg⟩, Ho, ⟨%d0, H0⟩, ⟨%d1, H1⟩, ⟨%d2, H2⟩, ⟨%d3, H3⟩⟩
  iapply (scores_run c (grid2.coords t) (ms2_0 t) (hs2_0 t) (ms2_1 t) (hs2_1 t) (ms2_2 t) (hs2_2 t) (ms2_3 t) (hs2_3 t) scM2_0 (Memref.isWhole_whole _) scM2_1 (Memref.isWhole_whole _) scM2_2 (Memref.isWhole_whole _) (iblk2 V c 0 t) (iblk2 V c 1 t) Set.univ _)
  isplitl [H0]; · iexact H0
  isplitl [H1]; · iexact H1
  isplitl [H2]; · iexists _; iexact H2
  isplitl [H3]; · iexists _; iexact H3
  isplitl [HS0]; · iexact HS0
  isplitl [HS1]; · iexact HS1
  isplitl [HS2]; · iexact HS2
  iintro ⟨H0, H1, H2, H3, HS0, HS1, HS2⟩
  isplitl [HR0 HR1 HR2 HR3 HR4 HR5 HR6 HR7 HR8 HR9 HR10 HR11 HS0 HS1 HS2 Hg]
  · isplitl [HR0 HR1 HR2 HR3 HR4 HR5 HR6 HR7 HR8 HR9 HR10 HR11 HS0 HS1 HS2]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  iexact H3

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v6, main_v7, main_v8, main_v9, main_v10]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v13, main_v14, main_v15, main_v16]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`) (region 2's entry). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- A reference that is none of region 2's OUTPUT arrays keeps its entry contents across it: an input window's
    array is never written back (`Dat.arrAt_in`, `A_eq2`); any other buffer is left as is. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same read at the TensorCore's references (region 2's exit contents). -/
abbrev V5 : (c : Dev nD) → (b : Ref sig .tc) → Buf (Elt F) ((c : Thread nD τ).loc b) := fun c b => W5 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After `hostOps3`. -/
abbrev W6 : Dev nD → Valuation τ sig (Elt F) := fun c => StableHlo.after hostOps3 (W5 m ρ c)
/-- A reference `hostOps3` does not write keeps its contents across it. -/
theorem W6_of (c : Dev nD) (r : Ref sig .tc) (h : r ∉ hostOps3_W) : W6 m ρ c (Proc.devRef .tc r) = W5 m ρ c (Proc.devRef .tc r) :=
  StableHlo.after_of_writes_sub hostOps3 _ hostOps3_writes h
theorem W6_args (c : Dev nD) : ∀ a ∈ argRefs, W6 m ρ c (Proc.devRef .tc a) = m ((c : Thread nD τ).loc a) :=
  fun a ha => (W6_of m ρ c a (hostOps3_args a ha)).trans (W5_args m ρ c a ha)

/-! ### The arguments end as launched: no host stretch writes one and no region may change one (a region reads it
    through an input window or bypasses it) -/

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)
theorem W6_main_arg2 (c : Dev nD) : W6 m ρ c (Proc.devRef .tc main_arg2) = m ((c : Thread nD τ).loc main_arg2) :=
  W6_args m ρ c main_arg2 (by decide)
theorem W6_main_arg3 (c : Dev nD) : W6 m ρ c (Proc.devRef .tc main_arg3) = m ((c : Thread nD τ).loc main_arg3) :=
  W6_args m ρ c main_arg3 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 6 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any launch memory every weakly fair execution of the program terminates without a fault, and every
final state has every array of the program at the contents the fold through its segments gives, and every counter at zero. -/
theorem ran : θ_run defs (onTc (τ := τ) (main (F := F))) ⟨m, fun _ => 0, ρ⟩ (fun r => (∀ c : Dev nD, ∀ b ∈ Pipeline.ucRefs τ sig, r.2.mem (((c : Thread nD τ)).1, b) = W6 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

/-- THE FRAME: the run terminates, faults nowhere, leaves the argument arrays as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨(h.1 c _ (mem_uc main_arg0 (by decide))).trans (W6_main_arg0 m ρ c),
       (h.1 c _ (mem_uc main_arg1 (by decide))).trans (W6_main_arg1 m ρ c),
       (h.1 c _ (mem_uc main_arg2 (by decide))).trans (W6_main_arg2 m ρ c),
       (h.1 c _ (mem_uc main_arg3 (by decide))).trans (W6_main_arg3 m ρ c)⟩, h.2⟩) (ran m ρ)

end Cert.Kernel.Gen

end
-- ==== Proof.ScoresRun.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun2 (c : Dev nD) (i : grid2.Coords) (arg2 : Memref sig .tc .vmem S1x512x256 .bf16) (harg2 : arg2.IsWhole) (arg3 : Memref sig .tc .vmem S1x8192x512 .bf16) (harg3 : arg3.IsWhole) (arg4 : Memref sig .tc .vmem S1x16x512 .f32) (harg4 : arg4.IsWhole) (arg5 : Memref sig .tc .vmem S1x1x1x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole)
    (x0 : Vec F S1x512x256 .bf16) (x1 : Vec F S1x8192x512 .bf16)
    (f6 : BufTy.Contents (Elt F) arg6.view.ty) (f7 : BufTy.Contents (Elt F) arg7.view.ty) (f8 : BufTy.Contents (Elt F) arg8.view.ty) :
    Σ' (L2 : List (View.Piece (Elt F) S1x16x512 .f32)), { L3 : List (View.Piece (Elt F) S1x1x1x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} f) ∗ (∃ f, arg7.view.loc (c : Thread nD τ) ↦[arg7.view.set]{fullShare} f) ∗ (∃ f, arg8.view.loc (c : Thread nD τ) ↦[arg8.view.set]{fullShare} f)) -∗ K ⟨⟩))
          ⊢ wp frame (wpE (defs₀ (F := F)) Variants.none c none) E (cc2_scores i arg2 harg2 arg3 harg3 arg4 harg4 arg5 harg5 arg6 harg6 arg7 harg7 arg8 harg8) K } := by
  refine ⟨?_, ?_, fun E K => ?run⟩
  case run =>
    simp only [cc2_scores_eq_skeleton]; unfold cc2_scores_skel
    unfold owns
    iintro ⟨⟨%f0, %hf0, H0⟩, ⟨%f1, %hf1, H1⟩, ⟨%d2, %f2, -, H2⟩, ⟨%d3, %f3, -, H3⟩, HS0, HS1, HS2, Hk⟩
    obtain rfl := harg2.eq_unread hf0; obtain rfl := harg3.eq_unread hf1
    sl_exec_parts
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    isplitl [HS1]; · iexists _; iexact HS1
    iexists _; iexact HS2

end Cert.KernelIdeal.Gen
-- ==== Proof.ScoresLoops.lean ====
module

public import proofs.«01_k».proof.Proof.ScoresRun

@[expose] public section

set_option maxRecDepth 16384

namespace Cert.KernelIdeal.Gen

open Idealize.ShloMosaic

/-! ## The main body's loops and offsets, in plain numbers

The strip index `i 1` runs over 32 values; the first loop of each pair runs over the strips, the second has no trip left. -/

/-- How many trips loop 1 makes. -/
theorem trips_t1 (i : grid2.Coords) : (k2_t1_loop i).trips = (i 1).val := by
  unfold k2_t1_loop Scf.Loop.trips
  generalize (i 1) = n
  revert n
  change ∀ n : Fin 32, _
  decide

/-- How many trips loop 3 makes. -/
theorem trips_t3 (i : grid2.Coords) : (k2_t3_loop i).trips = (i 1).val + 1 := by
  unfold k2_t3_loop Scf.Loop.trips
  generalize (i 1) = n
  revert n
  change ∀ n : Fin 32, _
  decide

/-- How many trips loop 5 makes. -/
theorem trips_t5 (i : grid2.Coords) : (k2_t5_loop i).trips = (i 1).val + 1 := by
  unfold k2_t5_loop Scf.Loop.trips
  generalize (i 1) = n
  revert n
  change ∀ n : Fin 32, _
  decide

/-- How many trips loop 7 makes. -/
theorem trips_t7 (i : grid2.Coords) : (k2_t7_loop i).trips = (i 1).val + 1 := by
  unfold k2_t7_loop Scf.Loop.trips
  generalize (i 1) = n
  revert n
  change ∀ n : Fin 32, _
  decide

/-- Loop 2 makes no trip. -/
theorem trips_t2 (i : grid2.Coords) : (k2_t2_loop i).trips = 0 := by
  unfold k2_t2_loop Scf.Loop.trips
  generalize (i 1) = n
  revert n
  change ∀ n : Fin 32, _
  decide

/-- Loop 4 makes no trip. -/
theorem trips_t4 (i : grid2.Coords) : (k2_t4_loop i).trips = 0 := by
  unfold k2_t4_loop Scf.Loop.trips
  generalize (i 1) = n
  revert n
  change ∀ n : Fin 32, _
  decide

/-- Loop 6 makes no trip. -/
theorem trips_t6 (i : grid2.Coords) : (k2_t6_loop i).trips = 0 := by
  unfold k2_t6_loop Scf.Loop.trips
  generalize (i 1) = n
  revert n
  change ∀ n : Fin 32, _
  decide

/-- Loop 8 makes no trip. -/
theorem trips_t8 (i : grid2.Coords) : (k2_t8_loop i).trips = 0 := by
  unfold k2_t8_loop Scf.Loop.trips
  generalize (i 1) = n
  revert n
  change ∀ n : Fin 32, _
  decide

/-- The word of a small number times a small factor. -/
theorem word_mul (n m : ℕ) (h : n * m < 2 ^ 32) (hn : n < 2 ^ 32) (hm : m < 2 ^ 32) :
    (BitVec.ofNat 32 n * BitVec.ofNat 32 m).toNat = n * m := by
  rw [BitVec.toNat_mul, BitVec.toNat_ofNat, BitVec.toNat_ofNat, Nat.mod_eq_of_lt hn, Nat.mod_eq_of_lt hm,
    Nat.mod_eq_of_lt h]

/-- The strip coordinate of the grid is below 32. -/
theorem strip_lt (i : grid2.Coords) : (i 1).val < 32 := (i 1).isLt

/-- Where trip `k` of loop 1 reads or writes. -/
theorem off1_eq (i : grid2.Coords) (k : Fin (k2_t1_loop i).trips) : k2_off1 i k = ![0, 256 * k.val, 0] := by
  have hk : k.val < 33 := lt_of_lt_of_le k.isLt (by rw [trips_t1]; have := strip_lt i; omega)
  unfold k2_off1
  generalize k.val = m at hk
  interval_cases m <;> rfl

/-- Where trip `k` of loop 1 reads or writes. -/
theorem off2_eq (i : grid2.Coords) (k : Fin (k2_t1_loop i).trips) : k2_off2 i k = ![16 * k.val, 0] := by
  have hk : k.val < 33 := lt_of_lt_of_le k.isLt (by rw [trips_t1]; have := strip_lt i; omega)
  unfold k2_off2
  generalize k.val = m at hk
  interval_cases m <;> rfl

/-- Where trip `k` of loop 3 reads or writes. -/
theorem off7_eq (i : grid2.Coords) (k : Fin (k2_t3_loop i).trips) : k2_off7 i k = ![16 * k.val, 0] := by
  have hk : k.val < 33 := lt_of_lt_of_le k.isLt (by rw [trips_t3]; have := strip_lt i; omega)
  unfold k2_off7
  generalize k.val = m at hk
  interval_cases m <;> rfl

/-- Where trip `k` of loop 5 reads or writes. -/
theorem off9_eq (i : grid2.Coords) (k : Fin (k2_t5_loop i).trips) : k2_off9 i k = ![16 * k.val, 0] := by
  have hk : k.val < 33 := lt_of_lt_of_le k.isLt (by rw [trips_t5]; have := strip_lt i; omega)
  unfold k2_off9
  generalize k.val = m at hk
  interval_cases m <;> rfl

/-- Where trip `k` of loop 7 reads or writes. -/
theorem off11_eq (i : grid2.Coords) (k : Fin (k2_t7_loop i).trips) : k2_off11 i k = ![16 * k.val, 0] := by
  have hk : k.val < 33 := lt_of_lt_of_le k.isLt (by rw [trips_t7]; have := strip_lt i; omega)
  unfold k2_off11
  generalize k.val = m at hk
  interval_cases m <;> rfl

/-- Where the strip on the diagonal lies. -/
theorem off5_eq (i : grid2.Coords) : k2_off5 i = ![0, 256 * (i 1).val, 0] := by
  have hk := strip_lt i
  unfold k2_off5
  generalize (i 1).val = m at hk
  interval_cases m <;> rfl

/-- Where the strip on the diagonal lies. -/
theorem off6_eq (i : grid2.Coords) : k2_off6 i = ![16 * (i 1).val, 0] := by
  have hk := strip_lt i
  unfold k2_off6
  generalize (i 1).val = m at hk
  interval_cases m <;> rfl

end Cert.KernelIdeal.Gen
-- ==== Proof.ScoresVal.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.ScoresRun
public import proofs.«01_k».proof.Proof.ScoresLoops
public import Idealize.ShloMosaic.Lib.Pointwise

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What the main body leaves, as functions of its two input blocks

The strips of keys are numbered `k`; strip `k` of the key block is its rows `256 k … 256 k + 255`. The two work
arrays hold, for each strip up to the diagonal, the group maxima and the group sums of that strip's scores; nothing
they held before the run is read. -/

/-- Strip `k` of the key block. -/
abbrev stripRect (k : ℕ) : Rect S1x8192x512 :=
  Rect.unit ![0, 256 * (k % 32), 0] S1x256x512.size (by
    have := Nat.mod_lt k (show 0 < 32 by omega)
    intro a; fin_cases a <;> simp <;> omega)

/-- The rows of a work array that belong to strip `k`. -/
abbrev rowRect (k : ℕ) : Rect S512x256 :=
  Rect.unit ![16 * (k % 32), 0] S16x256.size (by
    have := Nat.mod_lt k (show 0 < 32 by omega)
    intro a; fin_cases a <;> simp <;> omega)

/-- The keys of strip `k`. -/
def strip (x1 : Vec F S1x8192x512 .bf16) (k : ℕ) : Vec F S1x256x512 .bf16 := View.ld x1 (stripRect k)

/-- The raw scores of the strip on the diagonal. -/
def diagRaw (x0 : Vec F S1x512x256 .bf16) (x1 : Vec F S1x8192x512 .bf16) (n : ℕ) : FVec F S2x16x8x256 .f32 :=
  k2_pay9 (strip x1 n) x0

/-- The group maxima of strip `k`, masked on the diagonal strip `n`. -/
def strM (x0 : Vec F S1x512x256 .bf16) (x1 : Vec F S1x8192x512 .bf16) (n k : ℕ) : FVec F S16x256 .f32 :=
  if k < n then k2_pay4 (strip x1 k) x0
  else k2_pay21 (k2_pay18 (diagRaw x0 x1 n) k2_pay10 kernelRun2.sl.v71 (128#32)
    (remsi kernelRun2.sl.v26 kernelRun2.sl.v43) kernelRun2.sl.v46)

/-- The group sums of strip `k`, masked on the diagonal strip `n`. -/
def strS (x0 : Vec F S1x512x256 .bf16) (x1 : Vec F S1x8192x512 .bf16) (n k : ℕ) : FVec F S16x256 .f32 :=
  if k < n then k2_pay3 (strip x1 k) x0
  else k2_pay20 (k2_pay19 (diagRaw x0 x1 n) k2_pay10 kernelRun2.sl.v71 (128#32)
    (remsi kernelRun2.sl.v26 kernelRun2.sl.v43) kernelRun2.sl.v46)

/-- The place of a work-array entry inside its strip. -/
abbrev inStrip (y : S512x256.Idx) : S16x256.Idx := ix2 (⟨(y 0).val % 16, Nat.mod_lt _ (by decide)⟩ : Fin 16) (y 1 : Fin 256)

/-- The work array of the maxima, in its used rows. -/
def arrM (x0 : Vec F S1x512x256 .bf16) (x1 : Vec F S1x8192x512 .bf16) (n : ℕ) : S512x256.Idx → Elt F .f32 :=
  fun y => strM x0 x1 n ((y 0).val / 16) (inStrip y)

/-- The work array of the sums, in its used rows. -/
def arrS (x0 : Vec F S1x512x256 .bf16) (x1 : Vec F S1x8192x512 .bf16) (n : ℕ) : S512x256.Idx → Elt F .f32 :=
  fun y => strS x0 x1 n ((y 0).val / 16) (inStrip y)

/-- The running maximum after `k` strips. -/
def accM (x0 : Vec F S1x512x256 .bf16) (x1 : Vec F S1x8192x512 .bf16) (n : ℕ) : ℕ → FVec F S16x256 .f32
  | 0 => k2_pay22
  | k + 1 => k2_pay23 (accM x0 x1 n k) (strM x0 x1 n k)

/-- The running sum after `k` strips, at the whole maximum. -/
def accL (x0 : Vec F S1x512x256 .bf16) (x1 : Vec F S1x8192x512 .bf16) (n : ℕ) : ℕ → FVec F S16x256 .f32
  | 0 => k2_pay26
  | k + 1 => k2_pay27 (accM x0 x1 n (n + 1)) (accL x0 x1 n k) (strM x0 x1 n k) (strS x0 x1 n k)

/-- The row maximum. -/
def rowM (x0 : Vec F S1x512x256 .bf16) (x1 : Vec F S1x8192x512 .bf16) (n : ℕ) : FVec F S1x256 .f32 :=
  k2_pay25 (accM x0 x1 n (n + 1))

/-- The row's total, as a base-two logarithm. -/
def rowL (x0 : Vec F S1x512x256 .bf16) (x1 : Vec F S1x8192x512 .bf16) (n : ℕ) : FVec F S1x256 .f32 :=
  k2_pay29 (accL x0 x1 n (n + 1))

/-- The third work array at the end: the block weights of each strip, zero past the diagonal. -/
def arrP (x0 : Vec F S1x512x256 .bf16) (x1 : Vec F S1x8192x512 .bf16) (n : ℕ) : Vec F S512x256 .f32 :=
  fun y => if (y 0).val / 16 ≤ n then
      k2_pay37 (rowM x0 x1 n) (rowL x0 x1 n) (strM x0 x1 n ((y 0).val / 16)) (strS x0 x1 n ((y 0).val / 16)) (inStrip y)
    else k2_pay36 y

/-- The block of weights that the body stores. -/
def outBlk (i : grid2.Coords) (x0 : Vec F S1x512x256 .bf16) (x1 : Vec F S1x8192x512 .bf16) : Vec F S1x16x512 .f32 :=
  k2_pay39 (arrP x0 x1 (i 1).val)

/-- The rows' normalisers that the body stores. -/
def outLse (i : grid2.Coords) (x0 : Vec F S1x512x256 .bf16) (x1 : Vec F S1x8192x512 .bf16) : Vec F S1x1x1x256 .f32 :=
  k2_pay35 (rowL x0 x1 (i 1).val) (kernelRun2.sl.r_5 i) (k2_pay34 (rowM x0 x1 (i 1).val)) kernelRun2.sl.cst_92

/-! ### Loads -/

/-- A load of a rectangle of a buffer of known contents. -/
theorem readAt_unread {sp : Space} {s : Shape} {e : EltTy} (m : Memref sig .tc sp s e) (h : m.IsWhole) (x : Vec F s e) (r : Rect s) :
    View.readAt (Elt F) m.view r.toLoadRect (h.unread x) = View.ld x r := by
  rw [View.readAt_eq_ld, h.read_unread]

/-- A load of the whole query block. -/
theorem ld_q (x0 : Vec F S1x512x256 .bf16) :
    View.ld x0 (Rect.unit (s := S1x512x256) ![0, 0, 0] S1x512x256.size inb_S1x512x256_S1x512x256_0_0_0) = x0 := by
  funext j
  show x0 _ = x0 j
  congr 1
  funext a
  apply Fin.ext
  fin_cases a
  · show 0 + 1 * (j 0).val = (j 0).val
    omega
  · show 0 + 1 * (j 1).val = (j 1).val
    omega
  · show 0 + 1 * (j 2).val = (j 2).val
    omega

/-- A load of strip `k`. -/
theorem ld_strip (x1 : Vec F S1x8192x512 .bf16) (o : Fin 3 → ℕ) (h : ∀ a, o a + S1x256x512.size a ≤ S1x8192x512.size a) (k : ℕ) (hk : k < 32)
    (ho : o = ![0, 256 * k, 0]) : View.ld x1 (Rect.unit (s := S1x8192x512) o S1x256x512.size h) = strip x1 k := by
  subst ho
  unfold strip stripRect
  have e : k % 32 = k := Nat.mod_eq_of_lt hk
  have key : ∀ (o o' : Fin 3 → ℕ) (h : ∀ a, o a + S1x256x512.size a ≤ S1x8192x512.size a)
      (h' : ∀ a, o' a + S1x256x512.size a ≤ S1x8192x512.size a), o = o' →
      View.ld x1 (Rect.unit (s := S1x8192x512) o S1x256x512.size h) = View.ld x1 (Rect.unit (s := S1x8192x512) o' S1x256x512.size h') := by
    rintro o o' h h' rfl; rfl
  exact key _ _ _ _ (by rw [e])

/-- Every entry of a strip's rows lies in that strip. -/
theorem emb_row (o : Fin 2 → ℕ) (h : ∀ a, o a + S16x256.size a ≤ S512x256.size a) (k : ℕ) (ho : o = ![16 * k, 0])
    (x : (Rect.unit (s := S512x256) o S16x256.size h).shape.Idx) :
    (((Rect.unit (s := S512x256) o S16x256.size h).emb x) 0).val / 16 = k ∧ inStrip ((Rect.unit (s := S512x256) o S16x256.size h).emb x) = x := by
  subst ho
  have h0 : (x 0).val < 16 := (x 0).isLt
  have e0 : (((Rect.unit (s := S512x256) ![16 * k, 0] S16x256.size h).emb x) 0).val = 16 * k + 1 * (x 0).val := rfl
  have e1 : (((Rect.unit (s := S512x256) ![16 * k, 0] S16x256.size h).emb x) 1).val = 0 + 1 * (x 1).val := rfl
  refine ⟨by omega, ?_⟩
  funext a
  apply Fin.ext
  fin_cases a
  · show (((Rect.unit (s := S512x256) ![16 * k, 0] S16x256.size h).emb x) 0).val % 16 = (x 0).val
    omega
  · show (((Rect.unit (s := S512x256) ![16 * k, 0] S16x256.size h).emb x) 1).val = (x 1).val
    omega

/-- Which entries a strip's rows hold. -/
theorem mem_row (o : Fin 2 → ℕ) (h : ∀ a, o a + S16x256.size a ≤ S512x256.size a) (k : ℕ) (ho : o = ![16 * k, 0]) (y : S512x256.Idx) :
    y ∈ (Rect.unit (s := S512x256) o S16x256.size h).set ↔ (y 0).val / 16 = k := by
  subst ho
  rw [Rect.mem_set_unit]
  have h1 : (y 1).val < 256 := (y 1).isLt
  constructor
  · intro hy
    have h0 := hy 0
    simp at h0
    omega
  · intro hy a
    fin_cases a
    · show 16 * k ≤ (y 0).val ∧ (y 0).val < 16 * k + 16
      omega
    · show 0 ≤ (y 1).val ∧ (y 1).val < 0 + 256
      omega

section Pieces

variable (c : Dev nD) (i : grid2.Coords) (arg2 : Memref sig .tc .vmem S1x512x256 .bf16) (harg2 : arg2.IsWhole) (arg3 : Memref sig .tc .vmem S1x8192x512 .bf16) (harg3 : arg3.IsWhole) (arg4 : Memref sig .tc .vmem S1x16x512 .f32) (harg4 : arg4.IsWhole) (arg5 : Memref sig .tc .vmem S1x1x1x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole)
variable (x0 : Vec F S1x512x256 .bf16) (x1 : Vec F S1x8192x512 .bf16)

/-! ### The two score loops -/

/-- What the first loop's trips store: maxima and sums of whole strips. -/
theorem pb1_agree (m : ℕ) (hm : m ≤ (i 1).val) :
    (∀ p ∈ (pb_k2_t1 (F := F) Variants.none c none i arg2 harg2 arg3 harg3 arg4 harg4 arg5 harg5 arg6 harg6 arg7 harg7 arg8 harg8 (harg2.unread x0) (harg3.unread x1) m).1,
        ∀ x : p.1.shape.Idx, p.2 x = arrS x0 x1 (i 1).val (p.1.emb x)) ∧
    (∀ p ∈ (pb_k2_t1 (F := F) Variants.none c none i arg2 harg2 arg3 harg3 arg4 harg4 arg5 harg5 arg6 harg6 arg7 harg7 arg8 harg8 (harg2.unread x0) (harg3.unread x1) m).2,
        ∀ x : p.1.shape.Idx, p.2 x = arrM x0 x1 (i 1).val (p.1.emb x)) ∧
    (∀ y : S512x256.Idx, (y 0).val / 16 < m →
      ∃ p ∈ (pb_k2_t1 (F := F) Variants.none c none i arg2 harg2 arg3 harg3 arg4 harg4 arg5 harg5 arg6 harg6 arg7 harg7 arg8 harg8 (harg2.unread x0) (harg3.unread x1) m).1, y ∈ p.1.set) ∧
    (∀ y : S512x256.Idx, (y 0).val / 16 < m →
      ∃ p ∈ (pb_k2_t1 (F := F) Variants.none c none i arg2 harg2 arg3 harg3 arg4 harg4 arg5 harg5 arg6 harg6 arg7 harg7 arg8 harg8 (harg2.unread x0) (harg3.unread x1) m).2, y ∈ p.1.set) := by
  induction m with
  | zero =>
    refine ⟨?_, ?_, ?_, ?_⟩ <;> intro p hp
    · exact absurd hp (by unfold pb_k2_t1; exact List.not_mem_nil)
    · exact absurd hp (by unfold pb_k2_t1; exact List.not_mem_nil)
    · omega
    · omega
  | succ m ih =>
    obtain ⟨ih1, ih2, ih3, ih4⟩ := ih (by omega)
    have hi := strip_lt i
    have hlt : m < (k2_t1_loop i).trips := by rw [trips_t1]; omega
    have e := pb_k2_t1_succ (F := F) Variants.none c none i arg2 harg2 arg3 harg3 arg4 harg4 arg5 harg5 arg6 harg6 arg7 harg7 arg8 harg8 (harg2.unread x0) (harg3.unread x1) ⟨m, hlt⟩
    have o1 := off1_eq i ⟨m, hlt⟩
    have o2 := off2_eq i ⟨m, hlt⟩
    have l1 : (tripL_k2_t1 (F := F) Variants.none c none i arg2 harg2 arg3 harg3 arg4 harg4 arg5 harg5 arg6 harg6 arg7 harg7 arg8 harg8 (harg2.unread x0) (harg3.unread x1) ⟨m, hlt⟩).1
        = [⟨Rect.unit (k2_off2 i ⟨m, hlt⟩) S16x256.size (k2_off2_inb i ⟨m, hlt⟩), strS x0 x1 (i 1).val m⟩] := by
      unfold tripL_k2_t1 trip_k2_t1
      dsimp only
      rw [readAt_unread, readAt_unread, ld_q, ld_strip x1 _ _ m (by omega) o1]
      simp only [strS, if_pos (show m < (i 1).val by omega)]
    have l2 : (tripL_k2_t1 (F := F) Variants.none c none i arg2 harg2 arg3 harg3 arg4 harg4 arg5 harg5 arg6 harg6 arg7 harg7 arg8 harg8 (harg2.unread x0) (harg3.unread x1) ⟨m, hlt⟩).2
        = [⟨Rect.unit (k2_off2 i ⟨m, hlt⟩) S16x256.size (k2_off2_inb i ⟨m, hlt⟩), strM x0 x1 (i 1).val m⟩] := by
      unfold tripL_k2_t1 trip_k2_t1
      dsimp only
      rw [readAt_unread, readAt_unread, ld_q, ld_strip x1 _ _ m (by omega) o1]
      simp only [strM, if_pos (show m < (i 1).val by omega)]
    change pb_k2_t1 (F := F) Variants.none c none i arg2 harg2 arg3 harg3 arg4 harg4 arg5 harg5 arg6 harg6 arg7 harg7 arg8 harg8 (harg2.unread x0) (harg3.unread x1) (m + 1) = _ at e
    rw [l1, l2] at e
    rw [e]
    refine ⟨?_, ?_, ?_, ?_⟩
    · intro p hp x
      rcases List.mem_append.mp hp with hp | hp
      · obtain rfl := List.mem_singleton.mp hp
        obtain ⟨a, b⟩ := emb_row _ (k2_off2_inb i ⟨m, hlt⟩) m o2 x
        unfold arrS
        rw [a, b]
      · exact ih1 p hp x
    · intro p hp x
      rcases List.mem_append.mp hp with hp | hp
      · obtain rfl := List.mem_singleton.mp hp
        obtain ⟨a, b⟩ := emb_row _ (k2_off2_inb i ⟨m, hlt⟩) m o2 x
        unfold arrM
        rw [a, b]
      · exact ih2 p hp x
    · intro y hy
      rcases Nat.lt_succ_iff_lt_or_eq.mp hy with h | h
      · obtain ⟨p, hp, hy⟩ := ih3 y h
        exact ⟨p, List.mem_append_right _ hp, hy⟩
      · exact ⟨_, List.mem_append_left _ (List.mem_singleton_self _), (mem_row _ (k2_off2_inb i ⟨m, hlt⟩) m o2 y).mpr h⟩
    · intro y hy
      rcases Nat.lt_succ_iff_lt_or_eq.mp hy with h | h
      · obtain ⟨p, hp, hy⟩ := ih4 y h
        exact ⟨p, List.mem_append_right _ hp, hy⟩
      · exact ⟨_, List.mem_append_left _ (List.mem_singleton_self _), (mem_row _ (k2_off2_inb i ⟨m, hlt⟩) m o2 y).mpr h⟩

/-- The diagonal strip's maxima as the run names them. -/
theorem run_diagM : k2_pay21 (kernelRun2.sl.r_1 i arg2 harg2 arg3 harg3 x0 x1) = strM x0 x1 (i 1).val (i 1).val := by
  unfold kernelRun2.sl.r_1 kernelRun2.sl.r strM diagRaw
  rw [readAt_unread, readAt_unread, ld_q, ld_strip x1 _ _ (i 1).val (strip_lt i) (off5_eq i), if_neg (lt_irrefl _)]

/-- The diagonal strip's sums as the run names them. -/
theorem run_diagS : k2_pay20 (kernelRun2.sl.r_2 i arg2 harg2 arg3 harg3 x0 x1) = strS x0 x1 (i 1).val (i 1).val := by
  unfold kernelRun2.sl.r_2 kernelRun2.sl.r strS diagRaw
  rw [readAt_unread, readAt_unread, ld_q, ld_strip x1 _ _ (i 1).val (strip_lt i) (off5_eq i), if_neg (lt_irrefl _)]

/-- The pieces of the work array of sums when the score loops are over. -/
abbrev piecesS : List (View.Piece (Elt F) S512x256 .f32) :=
  ⟨Rect.unit (k2_off6 i) S16x256.size (k2_off6_inb i), k2_pay20 (kernelRun2.sl.r_2 i arg2 harg2 arg3 harg3 x0 x1)⟩ ::
    ((pb_k2_t2 (F := F) Variants.none c none i arg2 harg2 arg3 harg3 arg4 harg4 arg5 harg5 arg6 harg6 arg7 harg7 arg8 harg8 (harg2.unread x0) (harg3.unread x1) (Scf.trips (k2_t2_loop i).lb (k2_t2_loop i).ub (k2_t2_loop i).st)).1 ++
      (pb_k2_t1 (F := F) Variants.none c none i arg2 harg2 arg3 harg3 arg4 harg4 arg5 harg5 arg6 harg6 arg7 harg7 arg8 harg8 (harg2.unread x0) (harg3.unread x1) (Scf.trips (k2_t1_loop i).lb (k2_t1_loop i).ub (k2_t1_loop i).st)).1)

/-- The pieces of the work array of maxima when the score loops are over. -/
abbrev piecesM : List (View.Piece (Elt F) S512x256 .f32) :=
  ⟨Rect.unit (k2_off6 i) S16x256.size (k2_off6_inb i), k2_pay21 (kernelRun2.sl.r_1 i arg2 harg2 arg3 harg3 x0 x1)⟩ ::
    ((pb_k2_t2 (F := F) Variants.none c none i arg2 harg2 arg3 harg3 arg4 harg4 arg5 harg5 arg6 harg6 arg7 harg7 arg8 harg8 (harg2.unread x0) (harg3.unread x1) (Scf.trips (k2_t2_loop i).lb (k2_t2_loop i).ub (k2_t2_loop i).st)).2 ++
      (pb_k2_t1 (F := F) Variants.none c none i arg2 harg2 arg3 harg3 arg4 harg4 arg5 harg5 arg6 harg6 arg7 harg7 arg8 harg8 (harg2.unread x0) (harg3.unread x1) (Scf.trips (k2_t1_loop i).lb (k2_t1_loop i).ub (k2_t1_loop i).st)).2)

/-- The work array of sums in a used row, whatever it held before. -/
theorem read_S (f6 : BufTy.Contents (Elt F) arg6.view.ty) (y : S512x256.Idx) (hy : (y 0).val / 16 ≤ (i 1).val) :
    arg6.view.read (Elt F) (arg6.view.writes (Elt F) f6 (piecesS c i arg2 harg2 arg3 harg3 arg4 harg4 arg5 harg5 arg6 harg6 arg7 harg7 arg8 harg8 x0 x1)) y = arrS x0 x1 (i 1).val y := by
  have t2 : Scf.trips (k2_t2_loop i).lb (k2_t2_loop i).ub (k2_t2_loop i).st = 0 := trips_t2 i
  have t1 : Scf.trips (k2_t1_loop i).lb (k2_t1_loop i).ub (k2_t1_loop i).st = (i 1).val := trips_t1 i
  obtain ⟨a1, -, a3, -⟩ := pb1_agree c i arg2 harg2 arg3 harg3 arg4 harg4 arg5 harg5 arg6 harg6 arg7 harg7 arg8 harg8 x0 x1 (i 1).val le_rfl
  have e2 : (pb_k2_t2 (F := F) Variants.none c none i arg2 harg2 arg3 harg3 arg4 harg4 arg5 harg5 arg6 harg6 arg7 harg7 arg8 harg8 (harg2.unread x0) (harg3.unread x1) 0).1 = [] := by unfold pb_k2_t2; rfl
  unfold piecesS
  rw [t2, t1, e2, List.nil_append, run_diagS]
  refine View.read_writes_apply_of_pieces _ _ (arrS x0 x1 (i 1).val) _ ?_ y ?_
  · intro p hp x
    rcases List.mem_cons.mp hp with rfl | hp
    · obtain ⟨a, b⟩ := emb_row _ (k2_off6_inb i) (i 1).val (off6_eq i) x
      unfold arrS
      rw [a, b]
    · exact a1 p hp x
  · rcases Nat.lt_or_eq_of_le hy with h | h
    · obtain ⟨p, hp, hy⟩ := a3 y h
      exact ⟨p, List.mem_cons_of_mem _ hp, hy⟩
    · exact ⟨_, List.mem_cons_self, (mem_row _ (k2_off6_inb i) (i 1).val (off6_eq i) y).mpr h⟩

/-- The work array of maxima in a used row, whatever it held before. -/
theorem read_M (f7 : BufTy.Contents (Elt F) arg7.view.ty) (y : S512x256.Idx) (hy : (y 0).val / 16 ≤ (i 1).val) :
    arg7.view.read (Elt F) (arg7.view.writes (Elt F) f7 (piecesM c i arg2 harg2 arg3 harg3 arg4 harg4 arg5 harg5 arg6 harg6 arg7 harg7 arg8 harg8 x0 x1)) y = arrM x0 x1 (i 1).val y := by
  have t2 : Scf.trips (k2_t2_loop i).lb (k2_t2_loop i).ub (k2_t2_loop i).st = 0 := trips_t2 i
  have t1 : Scf.trips (k2_t1_loop i).lb (k2_t1_loop i).ub (k2_t1_loop i).st = (i 1).val := trips_t1 i
  obtain ⟨-, a1, -, a3⟩ := pb1_agree c i arg2 harg2 arg3 harg3 arg4 harg4 arg5 harg5 arg6 harg6 arg7 harg7 arg8 harg8 x0 x1 (i 1).val le_rfl
  have e2 : (pb_k2_t2 (F := F) Variants.none c none i arg2 harg2 arg3 harg3 arg4 harg4 arg5 harg5 arg6 harg6 arg7 harg7 arg8 harg8 (harg2.unread x0) (harg3.unread x1) 0).2 = [] := by unfold pb_k2_t2; rfl
  unfold piecesM
  rw [t2, t1, e2, List.nil_append, run_diagM]
  refine View.read_writes_apply_of_pieces _ _ (arrM x0 x1 (i 1).val) _ ?_ y ?_
  · intro p hp x
    rcases List.mem_cons.mp hp with rfl | hp
    · obtain ⟨a, b⟩ := emb_row _ (k2_off6_inb i) (i 1).val (off6_eq i) x
      unfold arrM
      rw [a, b]
    · exact a1 p hp x
  · rcases Nat.lt_or_eq_of_le hy with h | h
    · obtain ⟨p, hp, hy⟩ := a3 y h
      exact ⟨p, List.mem_cons_of_mem _ hp, hy⟩
    · exact ⟨_, List.mem_cons_self, (mem_row _ (k2_off6_inb i) (i 1).val (off6_eq i) y).mpr h⟩

/-- A load of strip `k`'s sums. -/
theorem load_S (f6 : BufTy.Contents (Elt F) arg6.view.ty) (o : Fin 2 → ℕ) (h : ∀ a, o a + S16x256.size a ≤ S512x256.size a) (k : ℕ) (hk : k ≤ (i 1).val)
    (ho : o = ![16 * k, 0]) :
    View.readAt (Elt F) arg6.view (Rect.unit (s := S512x256) o S16x256.size h).toLoadRect
      (arg6.view.writes (Elt F) f6 (piecesS c i arg2 harg2 arg3 harg3 arg4 harg4 arg5 harg5 arg6 harg6 arg7 harg7 arg8 harg8 x0 x1)) = strS x0 x1 (i 1).val k := by
  funext x
  obtain ⟨a, b⟩ := emb_row o h k ho x
  refine (read_S c i arg2 harg2 arg3 harg3 arg4 harg4 arg5 harg5 arg6 harg6 arg7 harg7 arg8 harg8 x0 x1 f6 ((Rect.unit (s := S512x256) o S16x256.size h).emb x) (by omega)).trans ?_
  unfold arrS
  rw [a, b]

/-- A load of strip `k`'s maxima. -/
theorem load_M (f7 : BufTy.Contents (Elt F) arg7.view.ty) (o : Fin 2 → ℕ) (h : ∀ a, o a + S16x256.size a ≤ S512x256.size a) (k : ℕ) (hk : k ≤ (i 1).val)
    (ho : o = ![16 * k, 0]) :
    View.readAt (Elt F) arg7.view (Rect.unit (s := S512x256) o S16x256.size h).toLoadRect
      (arg7.view.writes (Elt F) f7 (piecesM c i arg2 harg2 arg3 harg3 arg4 harg4 arg5 harg5 arg6 harg6 arg7 harg7 arg8 harg8 x0 x1)) = strM x0 x1 (i 1).val k := by
  funext x
  obtain ⟨a, b⟩ := emb_row o h k ho x
  refine (read_M c i arg2 harg2 arg3 harg3 arg4 harg4 arg5 harg5 arg6 harg6 arg7 harg7 arg8 harg8 x0 x1 f7 ((Rect.unit (s := S512x256) o S16x256.size h).emb x) (by omega)).trans ?_
  unfold arrM
  rw [a, b]

/-! ### The maximum and the sum -/

/-- The maximum loop's carried value. -/
theorem st3_eq (f7 : BufTy.Contents (Elt F) arg7.view.ty) (w : BitVec 32) (v116 : FVec F S2x8x256 .f32) (v124 : FVec F S16x256 .f32) (m : ℕ) (hm : m ≤ (i 1).val + 1) :
    st_k2_t3 (F := F) Variants.none c none i arg2 harg2 arg3 harg3 arg4 harg4 arg5 harg5 arg6 harg6 arg7 harg7 arg8 harg8 w v116 v124 (arg7.view.writes (Elt F) f7 (piecesM c i arg2 harg2 arg3 harg3 arg4 harg4 arg5 harg5 arg6 harg6 arg7 harg7 arg8 harg8 x0 x1)) k2_pay22 m
      = accM x0 x1 (i 1).val m := by
  induction m with
  | zero => rw [st_k2_t3_zero]; unfold accM; rfl
  | succ m ih =>
    have hi := strip_lt i
    have hlt : m < (k2_t3_loop i).trips := by rw [trips_t3]; omega
    have e := st_k2_t3_succ (F := F) Variants.none c none i arg2 harg2 arg3 harg3 arg4 harg4 arg5 harg5 arg6 harg6 arg7 harg7 arg8 harg8 w v116 v124 (arg7.view.writes (Elt F) f7 (piecesM c i arg2 harg2 arg3 harg3 arg4 harg4 arg5 harg5 arg6 harg6 arg7 harg7 arg8 harg8 x0 x1)) k2_pay22 ⟨m, hlt⟩
    change st_k2_t3 (F := F) Variants.none c none i arg2 harg2 arg3 harg3 arg4 harg4 arg5 harg5 arg6 harg6 arg7 harg7 arg8 harg8 w v116 v124 _ k2_pay22 (m + 1) = _ at e
    rw [e, ih (by omega)]
    unfold tripR_k2_t3 trip_k2_t3
    dsimp only
    rw [load_M c i arg2 harg2 arg3 harg3 arg4 harg4 arg5 harg5 arg6 harg6 arg7 harg7 arg8 harg8 x0 x1 f7 _ _ m (by omega) (off7_eq i ⟨m, hlt⟩), accM]

/-- The whole maximum as the run names it. -/
theorem run_max (f7 : BufTy.Contents (Elt F) arg7.view.ty) :
    kernelRun2.sl.r_3 c i arg2 harg2 arg3 harg3 arg4 harg4 arg5 harg5 arg6 harg6 arg7 harg7 arg8 harg8 x0 x1 f7 = rowM x0 x1 (i 1).val := by
  have t4 : Scf.trips (k2_t4_loop i).lb (k2_t4_loop i).ub (k2_t4_loop i).st = 0 := trips_t4 i
  have t3 : Scf.trips (k2_t3_loop i).lb (k2_t3_loop i).ub (k2_t3_loop i).st = (i 1).val + 1 := trips_t3 i
  unfold kernelRun2.sl.r_3 rowM
  rw [t4, st_k2_t4_zero, t3, st3_eq c i arg2 harg2 arg3 harg3 arg4 harg4 arg5 harg5 arg6 harg6 arg7 harg7 arg8 harg8 x0 x1 f7 _ _ _ _ le_rfl]

/-- The sum loop's carried value. -/
theorem st5_eq (f6 : BufTy.Contents (Elt F) arg6.view.ty) (f7 : BufTy.Contents (Elt F) arg7.view.ty) (w : BitVec 32) (v116 : FVec F S2x8x256 .f32) (v124 : FVec F S16x256 .f32) (m : ℕ) (hm : m ≤ (i 1).val + 1) :
    st_k2_t5 (F := F) Variants.none c none i arg2 harg2 arg3 harg3 arg4 harg4 arg5 harg5 arg6 harg6 arg7 harg7 arg8 harg8 w v116 v124 (accM x0 x1 (i 1).val ((i 1).val + 1)) (arg6.view.writes (Elt F) f6 (piecesS c i arg2 harg2 arg3 harg3 arg4 harg4 arg5 harg5 arg6 harg6 arg7 harg7 arg8 harg8 x0 x1)) (arg7.view.writes (Elt F) f7 (piecesM c i arg2 harg2 arg3 harg3 arg4 harg4 arg5 harg5 arg6 harg6 arg7 harg7 arg8 harg8 x0 x1)) k2_pay26 m
      = accL x0 x1 (i 1).val m := by
  induction m with
  | zero => rw [st_k2_t5_zero]; unfold accL; rfl
  | succ m ih =>
    have hi := strip_lt i
    have hlt : m < (k2_t5_loop i).trips := by rw [trips_t5]; omega
    have e := st_k2_t5_succ (F := F) Variants.none c none i arg2 harg2 arg3 harg3 arg4 harg4 arg5 harg5 arg6 harg6 arg7 harg7 arg8 harg8 w v116 v124 (accM x0 x1 (i 1).val ((i 1).val + 1)) (arg6.view.writes (Elt F) f6 (piecesS c i arg2 harg2 arg3 harg3 arg4 harg4 arg5 harg5 arg6 harg6 arg7 harg7 arg8 harg8 x0 x1)) (arg7.view.writes (Elt F) f7 (piecesM c i arg2 harg2 arg3 harg3 arg4 harg4 arg5 harg5 arg6 harg6 arg7 harg7 arg8 harg8 x0 x1)) k2_pay26 ⟨m, hlt⟩
    change st_k2_t5 (F := F) Variants.none c none i arg2 harg2 arg3 harg3 arg4 harg4 arg5 harg5 arg6 harg6 arg7 harg7 arg8 harg8 w v116 v124 _ _ _ k2_pay26 (m + 1) = _ at e
    rw [e, ih (by omega)]
    unfold tripR_k2_t5 trip_k2_t5
    dsimp only
    rw [load_M c i arg2 harg2 arg3 harg3 arg4 harg4 arg5 harg5 arg6 harg6 arg7 harg7 arg8 harg8 x0 x1 f7 _ _ m (by omega) (off9_eq i ⟨m, hlt⟩), load_S c i arg2 harg2 arg3 harg3 arg4 harg4 arg5 harg5 arg6 harg6 arg7 harg7 arg8 harg8 x0 x1 f6 _ _ m (by omega) (off9_eq i ⟨m, hlt⟩), accL]

/-- The whole sum as the run names it. -/
theorem run_sum (f6 : BufTy.Contents (Elt F) arg6.view.ty) (f7 : BufTy.Contents (Elt F) arg7.view.ty) :
    kernelRun2.sl.r_4 c i arg2 harg2 arg3 harg3 arg4 harg4 arg5 harg5 arg6 harg6 arg7 harg7 arg8 harg8 x0 x1 f6 f7 = rowL x0 x1 (i 1).val := by
  have t4 : Scf.trips (k2_t4_loop i).lb (k2_t4_loop i).ub (k2_t4_loop i).st = 0 := trips_t4 i
  have t3 : Scf.trips (k2_t3_loop i).lb (k2_t3_loop i).ub (k2_t3_loop i).st = (i 1).val + 1 := trips_t3 i
  have t6 : Scf.trips (k2_t6_loop i).lb (k2_t6_loop i).ub (k2_t6_loop i).st = 0 := trips_t6 i
  have t5 : Scf.trips (k2_t5_loop i).lb (k2_t5_loop i).ub (k2_t5_loop i).st = (i 1).val + 1 := trips_t5 i
  unfold kernelRun2.sl.r_4 rowL
  rw [t6, st_k2_t6_zero]
  have e4 : ∀ (a : BitVec 32) b d g v, st_k2_t4 (F := F) Variants.none c none i arg2 harg2 arg3 harg3 arg4 harg4 arg5 harg5 arg6 harg6 arg7 harg7 arg8 harg8 a b d g v 0 = v := fun a b d g v => rfl
  rw [e4, t3, st3_eq c i arg2 harg2 arg3 harg3 arg4 harg4 arg5 harg5 arg6 harg6 arg7 harg7 arg8 harg8 x0 x1 f7 _ _ _ _ le_rfl, st5_eq c i arg2 harg2 arg3 harg3 arg4 harg4 arg5 harg5 arg6 harg6 arg7 harg7 arg8 harg8 x0 x1 f6 f7 _ _ _ _ le_rfl]

/-! ### The output loop -/

/-- What the output loop's trips store. -/
theorem pb7_agree (f6 : BufTy.Contents (Elt F) arg6.view.ty) (f7 : BufTy.Contents (Elt F) arg7.view.ty) (m : ℕ) (hm : m ≤ (i 1).val + 1) :
    (∀ p ∈ pb_k2_t7 (F := F) Variants.none c none i arg2 harg2 arg3 harg3 arg4 harg4 arg5 harg5 arg6 harg6 arg7 harg7 arg8 harg8 (rowM x0 x1 (i 1).val) (rowL x0 x1 (i 1).val) (arg6.view.writes (Elt F) f6 (piecesS c i arg2 harg2 arg3 harg3 arg4 harg4 arg5 harg5 arg6 harg6 arg7 harg7 arg8 harg8 x0 x1)) (arg7.view.writes (Elt F) f7 (piecesM c i arg2 harg2 arg3 harg3 arg4 harg4 arg5 harg5 arg6 harg6 arg7 harg7 arg8 harg8 x0 x1)) m,
        ∀ x : p.1.shape.Idx, p.2 x = arrP x0 x1 (i 1).val (p.1.emb x)) ∧
    (∀ y : S512x256.Idx, (y 0).val / 16 < m →
      ∃ p ∈ pb_k2_t7 (F := F) Variants.none c none i arg2 harg2 arg3 harg3 arg4 harg4 arg5 harg5 arg6 harg6 arg7 harg7 arg8 harg8 (rowM x0 x1 (i 1).val) (rowL x0 x1 (i 1).val) (arg6.view.writes (Elt F) f6 (piecesS c i arg2 harg2 arg3 harg3 arg4 harg4 arg5 harg5 arg6 harg6 arg7 harg7 arg8 harg8 x0 x1)) (arg7.view.writes (Elt F) f7 (piecesM c i arg2 harg2 arg3 harg3 arg4 harg4 arg5 harg5 arg6 harg6 arg7 harg7 arg8 harg8 x0 x1)) m, y ∈ p.1.set) ∧
    (∀ y : S512x256.Idx, m ≤ (y 0).val / 16 →
      ∀ p ∈ pb_k2_t7 (F := F) Variants.none c none i arg2 harg2 arg3 harg3 arg4 harg4 arg5 harg5 arg6 harg6 arg7 harg7 arg8 harg8 (rowM x0 x1 (i 1).val) (rowL x0 x1 (i 1).val) (arg6.view.writes (Elt F) f6 (piecesS c i arg2 harg2 arg3 harg3 arg4 harg4 arg5 harg5 arg6 harg6 arg7 harg7 arg8 harg8 x0 x1)) (arg7.view.writes (Elt F) f7 (piecesM c i arg2 harg2 arg3 harg3 arg4 harg4 arg5 harg5 arg6 harg6 arg7 harg7 arg8 harg8 x0 x1)) m, y ∉ p.1.set) := by
  induction m with
  | zero =>
    refine ⟨?_, ?_, ?_⟩
    · intro p hp
      exact absurd hp (by unfold pb_k2_t7; exact List.not_mem_nil)
    · intro y hy; omega
    · intro y hy p hp
      exact absurd hp (by unfold pb_k2_t7; exact List.not_mem_nil)
  | succ m ih =>
    obtain ⟨ih1, ih2, ih3⟩ := ih (by omega)
    have hi := strip_lt i
    have hlt : m < (k2_t7_loop i).trips := by rw [trips_t7]; omega
    have e := pb_k2_t7_succ (F := F) Variants.none c none i arg2 harg2 arg3 harg3 arg4 harg4 arg5 harg5 arg6 harg6 arg7 harg7 arg8 harg8 (rowM x0 x1 (i 1).val) (rowL x0 x1 (i 1).val) (arg6.view.writes (Elt F) f6 (piecesS c i arg2 harg2 arg3 harg3 arg4 harg4 arg5 harg5 arg6 harg6 arg7 harg7 arg8 harg8 x0 x1)) (arg7.view.writes (Elt F) f7 (piecesM c i arg2 harg2 arg3 harg3 arg4 harg4 arg5 harg5 arg6 harg6 arg7 harg7 arg8 harg8 x0 x1)) ⟨m, hlt⟩
    have o2 := off11_eq i ⟨m, hlt⟩
    have l1 : tripL_k2_t7 (F := F) Variants.none c none i arg2 harg2 arg3 harg3 arg4 harg4 arg5 harg5 arg6 harg6 arg7 harg7 arg8 harg8 (rowM x0 x1 (i 1).val) (rowL x0 x1 (i 1).val) (arg6.view.writes (Elt F) f6 (piecesS c i arg2 harg2 arg3 harg3 arg4 harg4 arg5 harg5 arg6 harg6 arg7 harg7 arg8 harg8 x0 x1)) (arg7.view.writes (Elt F) f7 (piecesM c i arg2 harg2 arg3 harg3 arg4 harg4 arg5 harg5 arg6 harg6 arg7 harg7 arg8 harg8 x0 x1)) ⟨m, hlt⟩
        = [⟨Rect.unit (k2_off11 i ⟨m, hlt⟩) S16x256.size (k2_off11_inb i ⟨m, hlt⟩), k2_pay37 (rowM x0 x1 (i 1).val) (rowL x0 x1 (i 1).val) (strM x0 x1 (i 1).val m) (strS x0 x1 (i 1).val m)⟩] := by
      unfold tripL_k2_t7 trip_k2_t7
      dsimp only
      rw [load_M c i arg2 harg2 arg3 harg3 arg4 harg4 arg5 harg5 arg6 harg6 arg7 harg7 arg8 harg8 x0 x1 f7 _ _ m (by omega) o2, load_S c i arg2 harg2 arg3 harg3 arg4 harg4 arg5 harg5 arg6 harg6 arg7 harg7 arg8 harg8 x0 x1 f6 _ _ m (by omega) o2]
    change pb_k2_t7 (F := F) Variants.none c none i arg2 harg2 arg3 harg3 arg4 harg4 arg5 harg5 arg6 harg6 arg7 harg7 arg8 harg8 (rowM x0 x1 (i 1).val) (rowL x0 x1 (i 1).val) _ _ (m + 1) = _ at e
    rw [l1] at e
    rw [e]
    refine ⟨?_, ?_, ?_⟩
    · intro p hp x
      rcases List.mem_append.mp hp with hp | hp
      · obtain rfl := List.mem_singleton.mp hp
        obtain ⟨a, b⟩ := emb_row _ (k2_off11_inb i ⟨m, hlt⟩) m o2 x
        unfold arrP
        rw [a, b, if_pos (by omega)]
      · exact ih1 p hp x
    · intro y hy
      rcases Nat.lt_succ_iff_lt_or_eq.mp hy with h | h
      · obtain ⟨p, hp, hy⟩ := ih2 y h
        exact ⟨p, List.mem_append_right _ hp, hy⟩
      · exact ⟨_, List.mem_append_left _ (List.mem_singleton_self _), (mem_row _ (k2_off11_inb i ⟨m, hlt⟩) m o2 y).mpr h⟩
    · intro y hy p hp
      rcases List.mem_append.mp hp with hp | hp
      · obtain rfl := List.mem_singleton.mp hp
        intro hmem
        have := (mem_row _ (k2_off11_inb i ⟨m, hlt⟩) m o2 y).mp hmem
        omega
      · exact ih3 y (by omega) p hp

/-- The third work array at the end of the run. -/
theorem run_p (f6 : BufTy.Contents (Elt F) arg6.view.ty) (f7 : BufTy.Contents (Elt F) arg7.view.ty) :
    kernelRun2.sl.v274 c i arg2 harg2 arg3 harg3 arg4 harg4 arg5 harg5 arg6 harg6 arg7 harg7 arg8 harg8 x0 x1 f6 f7 = arrP x0 x1 (i 1).val := by
  have t8 : Scf.trips (k2_t8_loop i).lb (k2_t8_loop i).ub (k2_t8_loop i).st = 0 := trips_t8 i
  have t7 : Scf.trips (k2_t7_loop i).lb (k2_t7_loop i).ub (k2_t7_loop i).st = (i 1).val + 1 := trips_t7 i
  unfold kernelRun2.sl.v274
  rw [t8, t7, run_max, run_sum]
  obtain ⟨a1, a2, a3⟩ := pb7_agree c i arg2 harg2 arg3 harg3 arg4 harg4 arg5 harg5 arg6 harg6 arg7 harg7 arg8 harg8 x0 x1 f6 f7 ((i 1).val + 1) le_rfl
  funext j
  have ej : (Rect.unit (s := S512x256) ![0, 0] S512x256.size inb_S512x256_S512x256_0_0).toLoadRect.idx j = j := by
    funext a
    apply Fin.ext
    fin_cases a
    · show 0 + 1 * (j 0).val = (j 0).val
      omega
    · show 0 + 1 * (j 1).val = (j 1).val
      omega
  have e8 : ∀ a b d g, pb_k2_t8 (F := F) Variants.none c none i arg2 harg2 arg3 harg3 arg4 harg4 arg5 harg5 arg6 harg6 arg7 harg7 arg8 harg8 a b d g 0 = [] := by intro a b d g; unfold pb_k2_t8; rfl
  unfold View.readCov
  rw [e8, List.nil_append, View.writes_append, View.readAt_apply, ej]
  by_cases hj : (j 0).val / 16 ≤ (i 1).val
  · exact View.read_writes_apply_of_pieces _ _ (arrP x0 x1 (i 1).val) _ a1 j (a2 j (by omega))
  · refine (View.read_writes_apply_of_forall_not_mem _ _ j _ (a3 j (by omega))).trans ?_
    unfold kernelRun2.sl.HS2_1 arrP
    rw [if_neg hj]
    have := View.read_writes_cons_emb (Val := Elt F) arg8.view arg8.view.junk (Rect.unit (s := S512x256) ![0, 0] S512x256.size inb_S512x256_S512x256_0_0) (k2_pay36 (F := F)) [] j
    rw [show (Rect.unit (s := S512x256) ![0, 0] S512x256.size inb_S512x256_S512x256_0_0).emb j = j from ej] at this
    exact this

/-- The stores into the two outputs, as functions of the input blocks alone. -/
theorem run_out2 (f6 : BufTy.Contents (Elt F) arg6.view.ty) (f7 : BufTy.Contents (Elt F) arg7.view.ty) (f8 : BufTy.Contents (Elt F) arg8.view.ty) :
    (kernelRun2 c i arg2 harg2 arg3 harg3 arg4 harg4 arg5 harg5 arg6 harg6 arg7 harg7 arg8 harg8 x0 x1 f6 f7 f8).1 = [⟨Rect.unit ![0, 0, 0] S1x16x512.size inb_S1x16x512_S1x16x512_0_0_0, outBlk i x0 x1⟩] := by
  unfold kernelRun2
  dsimp only
  rw [run_p]
  rfl

/-- What the body stores in its second output block. -/
theorem run_out3 (f6 : BufTy.Contents (Elt F) arg6.view.ty) (f7 : BufTy.Contents (Elt F) arg7.view.ty) (f8 : BufTy.Contents (Elt F) arg8.view.ty) :
    (kernelRun2 c i arg2 harg2 arg3 harg3 arg4 harg4 arg5 harg5 arg6 harg6 arg7 harg7 arg8 harg8 x0 x1 f6 f7 f8).2.1 = [⟨Rect.unit ![0, 0, 0, 0] S1x1x1x256.size inb_S1x1x1x256_S1x1x1x256_0_0_0_0, outLse i x0 x1⟩] := by
  unfold kernelRun2
  dsimp only
  unfold kernelRun2.sl.H3_1 kernelRun2.sl.r_6
  rw [run_max, run_sum]
  rfl

end Pieces

end Cert.KernelIdeal.Gen
-- ==== Proof.ScoresOwn.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.ScoresVal

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A buffer owned at some read contents is held at some raw contents. -/
theorem owns_open {s : Shape} {e : EltTy} (c : Dev nD) (m : Memref sig .tc .vmem s e) :
    (iprop(∃ d, owns (c : Thread nD τ) m fullShare d) : sProp 𝕄)
      ⊢ iprop(∃ f : BufTy.Contents (Elt F) m.view.ty, (m.view.loc (c : Thread nD τ) ↦[m.view.set]{fullShare} f)) := by
  unfold owns
  iintro ⟨%d, %f, -, H⟩
  iexists f
  iexact H

/-- and conversely. -/
theorem owns_close {s : Shape} {e : EltTy} (c : Dev nD) (m : Memref sig .tc .vmem s e) :
    (iprop(∃ f : BufTy.Contents (Elt F) m.view.ty, (m.view.loc (c : Thread nD τ) ↦[m.view.set]{fullShare} f)) : sProp 𝕄)
      ⊢ iprop(∃ d, owns (c : Thread nD τ) m fullShare d) := by
  unfold owns
  iintro ⟨%f, H⟩
  iexists _
  iexists f
  isplitr
  · ipureintro; rfl
  iexact H

/-- One store of a whole block leaves exactly the block. -/
theorem owns_one {s : Shape} {e : EltTy} (c : Dev nD) (m : Memref sig .tc .vmem s e) (r : Rect s) (w : r.shape.Idx → Elt F e) (x : Vec F s e)
    (h : ∀ y, ∃ j, r.emb j = y ∧ w j = x y) :
    (iprop(∃ f : BufTy.Contents (Elt F) m.view.ty, (m.view.loc (c : Thread nD τ) ↦[m.view.set]{fullShare} m.view.writes (Elt F) f [⟨r, w⟩])) : sProp 𝕄)
      ⊢ owns (c : Thread nD τ) m fullShare x := by
  unfold owns
  iintro ⟨%f, H⟩
  iexists _
  isplitr
  swap
  · iexact H
  ipureintro
  funext y
  obtain ⟨j, rfl, e⟩ := h y
  rw [View.read_writes_cons_emb, e]

/-- The property the run has, at its two lists of stores. -/
def RunSpec (c : Dev nD) (i : grid2.Coords) (arg2 : Memref sig .tc .vmem S1x512x256 .bf16) (harg2 : arg2.IsWhole) (arg3 : Memref sig .tc .vmem S1x8192x512 .bf16) (harg3 : arg3.IsWhole) (arg4 : Memref sig .tc .vmem S1x16x512 .f32) (harg4 : arg4.IsWhole) (arg5 : Memref sig .tc .vmem S1x1x1x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole)
    (x0 : Vec F S1x512x256 .bf16) (x1 : Vec F S1x8192x512 .bf16) (f6 : BufTy.Contents (Elt F) arg6.view.ty) (f7 : BufTy.Contents (Elt F) arg7.view.ty) (f8 : BufTy.Contents (Elt F) arg8.view.ty)
    (L2 : List (View.Piece (Elt F) S1x16x512 .f32)) (L3 : List (View.Piece (Elt F) S1x1x1x256 .f32)) : Prop :=
∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} f) ∗ (∃ f, arg7.view.loc (c : Thread nD τ) ↦[arg7.view.set]{fullShare} f) ∗ (∃ f, arg8.view.loc (c : Thread nD τ) ↦[arg8.view.set]{fullShare} f)) -∗ K ⟨⟩))
          ⊢ wp frame (wpE (defs₀ (F := F)) Variants.none c none) E (cc2_scores i arg2 harg2 arg3 harg3 arg4 harg4 arg5 harg5 arg6 harg6 arg7 harg7 arg8 harg8) K

/-- The body run meets its specification. -/
theorem runSpec (c : Dev nD) (i : grid2.Coords) (arg2 : Memref sig .tc .vmem S1x512x256 .bf16) (harg2 : arg2.IsWhole) (arg3 : Memref sig .tc .vmem S1x8192x512 .bf16) (harg3 : arg3.IsWhole) (arg4 : Memref sig .tc .vmem S1x16x512 .f32) (harg4 : arg4.IsWhole) (arg5 : Memref sig .tc .vmem S1x1x1x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole)
    (x0 : Vec F S1x512x256 .bf16) (x1 : Vec F S1x8192x512 .bf16) (f6 : BufTy.Contents (Elt F) arg6.view.ty) (f7 : BufTy.Contents (Elt F) arg7.view.ty) (f8 : BufTy.Contents (Elt F) arg8.view.ty) :
    RunSpec c i arg2 harg2 arg3 harg3 arg4 harg4 arg5 harg5 arg6 harg6 arg7 harg7 arg8 harg8 x0 x1 f6 f7 f8 (kernelRun2 c i arg2 harg2 arg3 harg3 arg4 harg4 arg5 harg5 arg6 harg6 arg7 harg7 arg8 harg8 x0 x1 f6 f7 f8).1 (kernelRun2 c i arg2 harg2 arg3 harg3 arg4 harg4 arg5 harg5 arg6 harg6 arg7 harg7 arg8 harg8 x0 x1 f6 f7 f8).2.1 :=
  (kernelRun2 c i arg2 harg2 arg3 harg3 arg4 harg4 arg5 harg5 arg6 harg6 arg7 harg7 arg8 harg8 x0 x1 f6 f7 f8).2.2

/-- The body run meets its specification, stated of the values it stores. -/
theorem runSpec' (c : Dev nD) (i : grid2.Coords) (arg2 : Memref sig .tc .vmem S1x512x256 .bf16) (harg2 : arg2.IsWhole) (arg3 : Memref sig .tc .vmem S1x8192x512 .bf16) (harg3 : arg3.IsWhole) (arg4 : Memref sig .tc .vmem S1x16x512 .f32) (harg4 : arg4.IsWhole) (arg5 : Memref sig .tc .vmem S1x1x1x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole)
    (x0 : Vec F S1x512x256 .bf16) (x1 : Vec F S1x8192x512 .bf16) (f6 : BufTy.Contents (Elt F) arg6.view.ty) (f7 : BufTy.Contents (Elt F) arg7.view.ty) (f8 : BufTy.Contents (Elt F) arg8.view.ty) :
    RunSpec c i arg2 harg2 arg3 harg3 arg4 harg4 arg5 harg5 arg6 harg6 arg7 harg7 arg8 harg8 x0 x1 f6 f7 f8 [⟨Rect.unit ![0,0,0] S1x16x512.size inb_S1x16x512_S1x16x512_0_0_0, outBlk i x0 x1⟩]
      [⟨Rect.unit ![0,0,0,0] S1x1x1x256.size inb_S1x1x1x256_S1x1x1x256_0_0_0_0, outLse i x0 x1⟩] :=
  run_out2 c i arg2 harg2 arg3 harg3 arg4 harg4 arg5 harg5 arg6 harg6 arg7 harg7 arg8 harg8 x0 x1 f6 f7 f8 ▸ run_out3 c i arg2 harg2 arg3 harg3 arg4 harg4 arg5 harg5 arg6 harg6 arg7 harg7 arg8 harg8 x0 x1 f6 f7 f8 ▸ runSpec c i arg2 harg2 arg3 harg3 arg4 harg4 arg5 harg5 arg6 harg6 arg7 harg7 arg8 harg8 x0 x1 f6 f7 f8

/-- THE MAIN BODY'S RUN: from its two input blocks, whatever the outputs and the work arrays hold, it leaves the two
outputs at the functions of the input blocks named above. -/
theorem scores_run (c : Dev nD) (i : grid2.Coords) (arg2 : Memref sig .tc .vmem S1x512x256 .bf16) (harg2 : arg2.IsWhole) (arg3 : Memref sig .tc .vmem S1x8192x512 .bf16) (harg3 : arg3.IsWhole) (arg4 : Memref sig .tc .vmem S1x16x512 .f32) (harg4 : arg4.IsWhole) (arg5 : Memref sig .tc .vmem S1x1x1x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole)
    (x0 : Vec F S1x512x256 .bf16) (x1 : Vec F S1x8192x512 .bf16) (E : Set ℕ) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare (outBlk i x0 x1) ∗ owns (c : Thread nD τ) arg5 fullShare (outLse i x0 x1) ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (cc2_scores i arg2 harg2 arg3 harg3 arg4 harg4 arg5 harg5 arg6 harg6 arg7 harg7 arg8 harg8) K := by
  iintro ⟨H0, H1, H2, H3, HS0, HS1, HS2, Hk⟩
  ihave HS0 := (owns_open c arg6) $$ HS0
  ihave HS1 := (owns_open c arg7) $$ HS1
  ihave HS2 := (owns_open c arg8) $$ HS2
  icases HS0 with ⟨%f6, HS0⟩
  icases HS1 with ⟨%f7, HS1⟩
  icases HS2 with ⟨%f8, HS2⟩
  have hrun := runSpec' c i arg2 harg2 arg3 harg3 arg4 harg4 arg5 harg5 arg6 harg6 arg7 harg7 arg8 harg8 x0 x1 f6 f7 f8
  unfold RunSpec at hrun
  have hrun := hrun E K
  iapply hrun
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, HS2⟩
  iapply Hk
  isplitl [H0]; · iexact H0
  isplitl [H1]; · iexact H1
  isplitl [H2]
  · iapply (owns_one c arg4 _ _ (outBlk i x0 x1) ?cov2); rotate_left
    · iexact H2
    intro y
    refine ⟨y, ?_, rfl⟩
    funext a
    apply Fin.ext
    fin_cases a
    · show 0 + 1 * (y 0).val = (y 0).val
      omega
    · show 0 + 1 * (y 1).val = (y 1).val
      omega
    · show 0 + 1 * (y 2).val = (y 2).val
      omega
  isplitl [H3]
  · iapply (owns_one c arg5 _ _ (outLse i x0 x1) ?cov3); rotate_left
    · iexact H3
    intro y
    refine ⟨y, ?_, rfl⟩
    funext a
    apply Fin.ext
    fin_cases a
    · show 0 + 1 * (y 0).val = (y 0).val
      omega
    · show 0 + 1 * (y 1).val = (y 1).val
      omega
    · show 0 + 1 * (y 2).val = (y 2).val
      omega
    · show 0 + 1 * (y 3).val = (y 3).val
      omega
  isplitl [HS0]; · iapply (owns_close c arg6); iexact HS0
  isplitl [HS1]; · iapply (owns_close c arg7); iexact HS1
  iapply (owns_close c arg8); iexact HS2

end Cert.KernelIdeal.Gen
-- ==== Proof.RunFrame.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.ScoresOwn

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_prep_q` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x64x1024 := Rect.unit (s := S1x64x1024) ![0, 0, 0] S1x64x1024.size inb_S1x64x1024_S1x64x1024_0_0_0
abbrev r0_1 : Rect S1x1x8x128 := Rect.unit (s := S1x1x8x128) ![0, 0, 0, 0] S1x1x1x128.size inb_S1x1x8x128_S1x1x1x128_0_0_0_0
abbrev r0_2 : Rect S1x1x8x128 := Rect.unit (s := S1x1x8x128) ![0, 0, 1, 0] S1x1x1x128.size inb_S1x1x8x128_S1x1x1x128_0_0_1_0
abbrev r0_3 : Rect S1x1x8x128 := Rect.unit (s := S1x1x8x128) ![0, 0, 2, 0] S1x1x1x128.size inb_S1x1x8x128_S1x1x1x128_0_0_2_0
abbrev r0_4 : Rect S1x1x8x128 := Rect.unit (s := S1x1x8x128) ![0, 0, 3, 0] S1x1x1x128.size inb_S1x1x8x128_S1x1x1x128_0_0_3_0
abbrev r0_5 : Rect S1x1x8x128 := Rect.unit (s := S1x1x8x128) ![0, 0, 4, 0] S1x1x1x128.size inb_S1x1x8x128_S1x1x1x128_0_0_4_0
abbrev r0_6 : Rect S1x1x8x128 := Rect.unit (s := S1x1x8x128) ![0, 0, 5, 0] S1x1x1x128.size inb_S1x1x8x128_S1x1x1x128_0_0_5_0
abbrev r0_7 : Rect S1x1x8x128 := Rect.unit (s := S1x1x8x128) ![0, 0, 6, 0] S1x1x1x128.size inb_S1x1x8x128_S1x1x1x128_0_0_6_0
abbrev r0_8 : Rect S1x1x8x128 := Rect.unit (s := S1x1x8x128) ![0, 0, 7, 0] S1x1x1x128.size inb_S1x1x8x128_S1x1x1x128_0_0_7_0
abbrev r0_9 : Rect S1x512x128 := Rect.unit (s := S1x512x128) ![0, 0, 0] S1x512x128.size inb_S1x512x128_S1x512x128_0_0_0

/-! ## What the body leaves in each output window's buffer -/

/-! ### Values of the body that the stores' payloads, spelt out, would write more than once

    Each is a vector the body binds (often a part call's result), stated over the input windows' blocks and
    numbered on from the skeleton's payload functions (`k0_pay44` …, after `k0_pay43`), so that
    `out0_W` and the values after it name it instead of spelling it out (`unfold_out out0_W` opens a canon
    with them, `unfold_payloads` opens them with the payloads); the comment after each is the printed function's
    name for the value (a count appended where that name is bound again). -/

def k0_pay44 (x0 : Vec F S1x64x1024 .fp8e4m3) (x1 : Vec F S1x1x8x128 .f32) : IVec S64x128 32 :=
  iota .tc S64x128 32 [1] iota_S64x128_d1_w32 -- `v11`
def k0_pay45 (x0 : Vec F S1x64x1024 .fp8e4m3) (x1 : Vec F S1x1x8x128 .f32) : FVec F S64x128 .f32 :=
  k0_pay13 (View.ld x0 r0_0) -- `v19`
def k0_pay46 (x0 : Vec F S1x64x1024 .fp8e4m3) (x1 : Vec F S1x1x8x128 .f32) : FVec F S64x128 .f32 :=
  k0_pay14 (View.ld x0 r0_0) -- `v21`
def k0_pay47 (x0 : Vec F S1x64x1024 .fp8e4m3) (x1 : Vec F S1x1x8x128 .f32) : FVec F S64x128 .f32 :=
  k0_pay15 (View.ld x0 r0_0) -- `v23`
def k0_pay48 (x0 : Vec F S1x64x1024 .fp8e4m3) (x1 : Vec F S1x1x8x128 .f32) : FVec F S64x128 .f32 :=
  k0_pay17 (View.ld x0 r0_0) -- `v27`
def k0_pay49 (x0 : Vec F S1x64x1024 .fp8e4m3) (x1 : Vec F S1x1x8x128 .f32) : FVec F S64x128 .f32 :=
  k0_pay18 (View.ld x0 r0_0) -- `v29`
def k0_pay50 (x0 : Vec F S1x64x1024 .fp8e4m3) (x1 : Vec F S1x1x8x128 .f32) : FVec F S64x128 .f32 :=
  k0_pay19 (View.ld x0 r0_0) -- `v31`
def k0_pay51 (x0 : Vec F S1x64x1024 .fp8e4m3) (x1 : Vec F S1x1x8x128 .f32) : IVec S64x128 1 :=
  k0_pay20 -- `v35`
def k0_pay52 (x0 : Vec F S1x64x1024 .fp8e4m3) (x1 : Vec F S1x1x8x128 .f32) : FVec F S64x128 .f32 :=
  k0_pay21 (View.ld x0 r0_0) -- `v37`
def k0_pay53 (x0 : Vec F S1x64x1024 .fp8e4m3) (x1 : Vec F S1x1x8x128 .f32) : FVec F S64x128 .f32 :=
  k0_pay22 (View.ld x0 r0_0) -- `v39`

/-- Window 2's staging buffer after the body, from the input windows' blocks: its 1 store as pieces, LAST
    FIRST (Lib/Pipeline/FrameBody.lean `View.canon`; the payloads are the skeleton's and the values stated above). -/
def out0_2 (x0 : Vec F S1x64x1024 .fp8e4m3) (x1 : Vec F S1x1x8x128 .f32) : Vec F S1x512x128 .bf16 :=
  View.canon [⟨r0_9, k0_pay1 (k0_pay36 (k0_pay44 x0 x1) (k0_pay45 x0 x1) (k0_pay47 x0 x1) (k0_pay48 x0 x1) (k0_pay50 x0 x1) (k0_pay51 x0 x1)) (k0_pay37 (k0_pay44 x0 x1) (k0_pay46 x0 x1) (k0_pay49 x0 x1) (k0_pay51 x0 x1) (k0_pay52 x0 x1) 2#32 (View.ld x1 r0_1)) (k0_pay38 (k0_pay30 (k0_pay44 x0 x1) (k0_pay46 x0 x1) (k0_pay49 x0 x1) (k0_pay51 x0 x1) (k0_pay52 x0 x1) 2#32) (View.ld x1 r0_2)) (k0_pay39 (k0_pay31 (k0_pay44 x0 x1) (k0_pay46 x0 x1) (k0_pay49 x0 x1) (k0_pay51 x0 x1) (k0_pay53 x0 x1)) (View.ld x1 r0_3)) (k0_pay40 (k0_pay32 (k0_pay44 x0 x1) (k0_pay46 x0 x1) (k0_pay49 x0 x1) (k0_pay51 x0 x1) (k0_pay53 x0 x1)) (View.ld x1 r0_4)) (k0_pay41 (k0_pay33 (k0_pay44 x0 x1) (k0_pay45 x0 x1) (k0_pay47 x0 x1) (k0_pay48 x0 x1) (k0_pay50 x0 x1) (k0_pay51 x0 x1)) (View.ld x1 r0_5)) (k0_pay42 (k0_pay34 (k0_pay44 x0 x1) (k0_pay45 x0 x1) (k0_pay47 x0 x1) (k0_pay48 x0 x1) (k0_pay50 x0 x1) (k0_pay51 x0 x1)) (View.ld x1 r0_6)) (k0_pay43 (k0_pay35 (k0_pay44 x0 x1) (k0_pay45 x0 x1) (k0_pay47 x0 x1) (k0_pay48 x0 x1) (k0_pay50 x0 x1) (k0_pay51 x0 x1)) (View.ld x1 r0_7)) (View.ld x1 r0_8)⟩]

/-- Its stores tile the buffer (checked by evaluation), so they cover it. -/
theorem cover0_2 (p0 : Vec F S1x512x128 .bf16) (y : S1x512x128.Idx) :
    ∃ pc ∈ ([⟨r0_9, p0⟩] : List (View.Piece (Elt F) S1x512x128 .bf16)), y ∈ pc.1.set :=
  View.cover_of_tiled [⟨r0_9, p0⟩] S1x512x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg2 : Memref sig .tc .vmem S1x64x1024 .fp8e4m3) (harg2 : arg2.IsWhole) (arg3 : Memref sig .tc .vmem S1x1x8x128 .f32) (harg3 : arg3.IsWhole) (arg4 : Memref sig .tc .vmem S1x512x128 .bf16) (harg4 : arg4.IsWhole)
    (x0 : Vec F S1x64x1024 .fp8e4m3) (x1 : Vec F S1x1x8x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0_prep_q i arg2 harg2 arg3 harg3 arg4 harg4) K := by
  simp only [cc0_prep_q_eq_skeleton]; unfold cc0_prep_q_skel
  simp only [k0_part1_eq_skeleton, k0_part2_eq_skeleton, k0_part3_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover0_2 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_prep_k` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1x64x1024 := Rect.unit (s := S1x64x1024) ![0, 0, 0] S1x64x1024.size inb_S1x64x1024_S1x64x1024_0_0_0
abbrev r1_1 : Rect S1x1x8x128 := Rect.unit (s := S1x1x8x128) ![0, 0, 0, 0] S1x1x1x128.size inb_S1x1x8x128_S1x1x1x128_0_0_0_0
abbrev r1_2 : Rect S1x1x8x128 := Rect.unit (s := S1x1x8x128) ![0, 0, 1, 0] S1x1x1x128.size inb_S1x1x8x128_S1x1x1x128_0_0_1_0
abbrev r1_3 : Rect S1x1x8x128 := Rect.unit (s := S1x1x8x128) ![0, 0, 2, 0] S1x1x1x128.size inb_S1x1x8x128_S1x1x1x128_0_0_2_0
abbrev r1_4 : Rect S1x1x8x128 := Rect.unit (s := S1x1x8x128) ![0, 0, 3, 0] S1x1x1x128.size inb_S1x1x8x128_S1x1x1x128_0_0_3_0
abbrev r1_5 : Rect S1x1x8x128 := Rect.unit (s := S1x1x8x128) ![0, 0, 4, 0] S1x1x1x128.size inb_S1x1x8x128_S1x1x1x128_0_0_4_0
abbrev r1_6 : Rect S1x1x8x128 := Rect.unit (s := S1x1x8x128) ![0, 0, 5, 0] S1x1x1x128.size inb_S1x1x8x128_S1x1x1x128_0_0_5_0
abbrev r1_7 : Rect S1x1x8x128 := Rect.unit (s := S1x1x8x128) ![0, 0, 6, 0] S1x1x1x128.size inb_S1x1x8x128_S1x1x1x128_0_0_6_0
abbrev r1_8 : Rect S1x1x8x128 := Rect.unit (s := S1x1x8x128) ![0, 0, 7, 0] S1x1x1x128.size inb_S1x1x8x128_S1x1x1x128_0_0_7_0
abbrev r1_9 : Rect S1x128x512 := Rect.unit (s := S1x128x512) ![0, 0, 0] S1x128x512.size inb_S1x128x512_S1x128x512_0_0_0

/-! ## What the body leaves in each output window's buffer -/

/-! ### Values of the body that the stores' payloads, spelt out, would write more than once

    Each is a vector the body binds (often a part call's result), stated over the input windows' blocks and
    numbered on from the skeleton's payload functions (`k1_pay44` …, after `k1_pay43`), so that
    `out1_W` and the values after it name it instead of spelling it out (`unfold_out out1_W` opens a canon
    with them, `unfold_payloads` opens them with the payloads); the comment after each is the printed function's
    name for the value (a count appended where that name is bound again). -/

def k1_pay44 (x0 : Vec F S1x64x1024 .fp8e4m3) (x1 : Vec F S1x1x8x128 .f32) : IVec S64x128 32 :=
  iota .tc S64x128 32 [1] iota_S64x128_d1_w32 -- `v11`
def k1_pay45 (x0 : Vec F S1x64x1024 .fp8e4m3) (x1 : Vec F S1x1x8x128 .f32) : FVec F S64x128 .f32 :=
  k1_pay13 (View.ld x0 r1_0) -- `v19`
def k1_pay46 (x0 : Vec F S1x64x1024 .fp8e4m3) (x1 : Vec F S1x1x8x128 .f32) : FVec F S64x128 .f32 :=
  k1_pay14 (View.ld x0 r1_0) -- `v21`
def k1_pay47 (x0 : Vec F S1x64x1024 .fp8e4m3) (x1 : Vec F S1x1x8x128 .f32) : FVec F S64x128 .f32 :=
  k1_pay15 (View.ld x0 r1_0) -- `v23`
def k1_pay48 (x0 : Vec F S1x64x1024 .fp8e4m3) (x1 : Vec F S1x1x8x128 .f32) : FVec F S64x128 .f32 :=
  k1_pay17 (View.ld x0 r1_0) -- `v27`
def k1_pay49 (x0 : Vec F S1x64x1024 .fp8e4m3) (x1 : Vec F S1x1x8x128 .f32) : FVec F S64x128 .f32 :=
  k1_pay18 (View.ld x0 r1_0) -- `v29`
def k1_pay50 (x0 : Vec F S1x64x1024 .fp8e4m3) (x1 : Vec F S1x1x8x128 .f32) : FVec F S64x128 .f32 :=
  k1_pay19 (View.ld x0 r1_0) -- `v31`
def k1_pay51 (x0 : Vec F S1x64x1024 .fp8e4m3) (x1 : Vec F S1x1x8x128 .f32) : IVec S64x128 1 :=
  k1_pay20 -- `v35`
def k1_pay52 (x0 : Vec F S1x64x1024 .fp8e4m3) (x1 : Vec F S1x1x8x128 .f32) : FVec F S64x128 .f32 :=
  k1_pay21 (View.ld x0 r1_0) -- `v37`
def k1_pay53 (x0 : Vec F S1x64x1024 .fp8e4m3) (x1 : Vec F S1x1x8x128 .f32) : FVec F S64x128 .f32 :=
  k1_pay22 (View.ld x0 r1_0) -- `v39`

/-- Window 2's staging buffer after the body, from the input windows' blocks: its 1 store as pieces, LAST
    FIRST (Lib/Pipeline/FrameBody.lean `View.canon`; the payloads are the skeleton's and the values stated above). -/
def out1_2 (x0 : Vec F S1x64x1024 .fp8e4m3) (x1 : Vec F S1x1x8x128 .f32) : Vec F S1x128x512 .bf16 :=
  View.canon [⟨r1_9, k1_pay1 (k1_pay36 (k1_pay44 x0 x1) (k1_pay45 x0 x1) (k1_pay47 x0 x1) (k1_pay48 x0 x1) (k1_pay50 x0 x1) (k1_pay51 x0 x1)) (k1_pay37 (k1_pay44 x0 x1) (k1_pay46 x0 x1) (k1_pay49 x0 x1) (k1_pay51 x0 x1) (k1_pay52 x0 x1) 2#32 (View.ld x1 r1_1)) (k1_pay38 (k1_pay30 (k1_pay44 x0 x1) (k1_pay46 x0 x1) (k1_pay49 x0 x1) (k1_pay51 x0 x1) (k1_pay52 x0 x1) 2#32) (View.ld x1 r1_2)) (k1_pay39 (k1_pay31 (k1_pay44 x0 x1) (k1_pay46 x0 x1) (k1_pay49 x0 x1) (k1_pay51 x0 x1) (k1_pay53 x0 x1)) (View.ld x1 r1_3)) (k1_pay40 (k1_pay32 (k1_pay44 x0 x1) (k1_pay46 x0 x1) (k1_pay49 x0 x1) (k1_pay51 x0 x1) (k1_pay53 x0 x1)) (View.ld x1 r1_4)) (k1_pay41 (k1_pay33 (k1_pay44 x0 x1) (k1_pay45 x0 x1) (k1_pay47 x0 x1) (k1_pay48 x0 x1) (k1_pay50 x0 x1) (k1_pay51 x0 x1)) (View.ld x1 r1_5)) (k1_pay42 (k1_pay34 (k1_pay44 x0 x1) (k1_pay45 x0 x1) (k1_pay47 x0 x1) (k1_pay48 x0 x1) (k1_pay50 x0 x1) (k1_pay51 x0 x1)) (View.ld x1 r1_6)) (k1_pay43 (k1_pay35 (k1_pay44 x0 x1) (k1_pay45 x0 x1) (k1_pay47 x0 x1) (k1_pay48 x0 x1) (k1_pay50 x0 x1) (k1_pay51 x0 x1)) (View.ld x1 r1_7)) (View.ld x1 r1_8)⟩]

/-- Its stores tile the buffer (checked by evaluation), so they cover it. -/
theorem cover1_2 (p0 : Vec F S1x128x512 .bf16) (y : S1x128x512.Idx) :
    ∃ pc ∈ ([⟨r1_9, p0⟩] : List (View.Piece (Elt F) S1x128x512 .bf16)), y ∈ pc.1.set :=
  View.cover_of_tiled [⟨r1_9, p0⟩] S1x128x512.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg2 : Memref sig .tc .vmem S1x64x1024 .fp8e4m3) (harg2 : arg2.IsWhole) (arg3 : Memref sig .tc .vmem S1x1x8x128 .f32) (harg3 : arg3.IsWhole) (arg4 : Memref sig .tc .vmem S1x128x512 .bf16) (harg4 : arg4.IsWhole)
    (x0 : Vec F S1x64x1024 .fp8e4m3) (x1 : Vec F S1x1x8x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1_prep_k i arg2 harg2 arg3 harg3 arg4 harg4) K := by
  simp only [cc1_prep_k_eq_skeleton]; unfold cc1_prep_k_skel
  simp only [k1_part1_eq_skeleton, k1_part2_eq_skeleton, k1_part3_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover1_2 _)).trans ?_
  rfl

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-! # REGION 2 of @main: custom_call 2, `cc2_scores` (pipeline 2), at the entry contents `V` — class R -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The kernel body on any staging memrefs: a subtype the run finds -/

/-- One staging buffer of output window 2, through which its contents are stated (`View.read_writes_of_cover`: the
    choice does not matter). -/
abbrev VO2_2 : View sig .tc .vmem S1x16x512 .f32 := (Memref.whole cc2_stg2_0 : Memref sig .tc .vmem S1x16x512 .f32).view
/-- One staging buffer of output window 3, through which its contents are stated (`View.read_writes_of_cover`: the
    choice does not matter). -/
abbrev VO2_3 : View sig .tc .vmem S1x1x1x256 .f32 := (Memref.whole cc2_stg3_0 : Memref sig .tc .vmem S1x1x1x256 .f32).view
/-- Each window's current staging memref at point `t`, spelled as the pipeline passes it (`bodyAt2`), and its wholeness. -/
abbrev ms2_0 (t : Fin cfg2.N) : Memref sig .tc .vmem S1x512x256 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x8192x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x16x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1x1x256 .f32 := win2_3.stage (cfg2.slots t 3)
abbrev hs2_3 (t : Fin cfg2.N) : (ms2_3 t).IsWhole := hstage2_3 ((cfg2.slots t 3).cast nbuf2_3)
/-- The scratch operands: whole scoped buffers of the kernel's own, passed beside the windows. -/
abbrev scM2_0 : Memref sig .tc .vmem S512x256 .f32 := Memref.whole cc2_scratch0
abbrev scM2_1 : Memref sig .tc .vmem S512x256 .f32 := Memref.whole cc2_scratch1
abbrev scM2_2 : Memref sig .tc .vmem S512x256 .f32 := Memref.whole cc2_scratch2

/-- The frame kit's invariant with the scratch operands as memrefs owned at some contents (`Gen.scopedRest2_eq`,
    Lib/Memref.lean `owns_whole`): what the body obligation hands the run and takes back. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ d, owns (c : Thread nD τ) scM2_0 fullShare d) ∗ (∃ d, owns (c : Thread nD τ) scM2_1 fullShare d) ∗ (∃ d, owns (c : Thread nD τ) scM2_2 fullShare d)) ∗ (∃ r, prngReg c r)) := by
  unfold Pipeline.ΦA; rw [scopedRest2_eq]; simp only [scM2_0, scM2_1, scM2_2, owns_whole]; try rfl

/-! ## What the outputs hold after each point -/

/-- What the outputs' staging buffers hold after the body at point `t` (as a tuple, in window order): the run's contents at
    the point's memrefs and input blocks. -/
def outsAt2 (c : Dev nD) (t : Fin cfg2.N) : Vec F S1x16x512 .f32 × Vec F S1x1x1x256 .f32 :=
  (outBlk (grid2.coords t) (iblk2 V c 0 t) (iblk2 V c 1 t), outLse (grid2.coords t) (iblk2 V c 0 t) (iblk2 V c 1 t))

/-! ## The pipeline's proof data -/

/-- The proof data of pipeline 2 on core `c`: the arrays as the region finds them (`V`); after the body at
    point `t` each input's buffer at its block and the outputs' at `outsAt2`; the invariant the class's
    (Lib/Pipeline/Frame.lean `ΦA`: the scoped rest and the generator register); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t).1
    | ⟨3, _⟩ => (outsAt2 V c t).2
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t).1 := by dsimp only [dat2]
theorem after2_3 (c : Dev nD) (t : Fin cfg2.N) : (dat2 V c).after 3 t = (outsAt2 V c t).2 := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t))

/-- The body at any point: the inputs' memrefs hold their blocks (`before2_W`); so the
    run applies; the invariant hands the body its scratch buffers at some contents (and the generator register) and takes them back at some contents (`PhiA_eq`); the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2, after2_3]
  rw [show (dat2 V c).Φ t.castSucc = Pipeline.ΦA spec2 c from rfl, PhiA2_eq]
  unfold outsAt2; (try dsimp only)
  iintro ⟨⟨⟨HR0, HR1, HR2, HR3, HR4, HR5, HR6, HR7, HR8, HR9, HR10, HR11, HS0, HS1, HS2⟩, Hg⟩, Ho, ⟨%d0, H0⟩, ⟨%d1, H1⟩, ⟨%d2, H2⟩, ⟨%d3, H3⟩⟩
  iapply (scores_run c (grid2.coords t) (ms2_0 t) (hs2_0 t) (ms2_1 t) (hs2_1 t) (ms2_2 t) (hs2_2 t) (ms2_3 t) (hs2_3 t) scM2_0 (Memref.isWhole_whole _) scM2_1 (Memref.isWhole_whole _) scM2_2 (Memref.isWhole_whole _) (iblk2 V c 0 t) (iblk2 V c 1 t) Set.univ _)
  isplitl [H0]; · iexact H0
  isplitl [H1]; · iexact H1
  isplitl [H2]; · iexists _; iexact H2
  isplitl [H3]; · iexists _; iexact H3
  isplitl [HS0]; · iexact HS0
  isplitl [HS1]; · iexact HS1
  isplitl [HS2]; · iexact HS2
  iintro ⟨H0, H1, H2, H3, HS0, HS1, HS2⟩
  isplitl [HR0 HR1 HR2 HR3 HR4 HR5 HR6 HR7 HR8 HR9 HR10 HR11 HS0 HS1 HS2 Hg]
  · isplitl [HR0 HR1 HR2 HR3 HR4 HR5 HR6 HR7 HR8 HR9 HR10 HR11 HS0 HS1 HS2]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  iexact H3

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v6, main_v7, main_v8, main_v9, main_v10]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v13, main_v14, main_v15, main_v16]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`) (region 2's entry). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- A reference that is none of region 2's OUTPUT arrays keeps its entry contents across it: an input window's
    array is never written back (`Dat.arrAt_in`, `A_eq2`); any other buffer is left as is. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same read at the TensorCore's references (region 2's exit contents). -/
abbrev V5 : (c : Dev nD) → (b : Ref sig .tc) → Buf (Elt F) ((c : Thread nD τ).loc b) := fun c b => W5 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After `hostOps3`. -/
abbrev W6 : Dev nD → Valuation τ sig (Elt F) := fun c => StableHlo.after hostOps3 (W5 m ρ c)
/-- A reference `hostOps3` does not write keeps its contents across it. -/
theorem W6_of (c : Dev nD) (r : Ref sig .tc) (h : r ∉ hostOps3_W) : W6 m ρ c (Proc.devRef .tc r) = W5 m ρ c (Proc.devRef .tc r) :=
  StableHlo.after_of_writes_sub hostOps3 _ hostOps3_writes h
theorem W6_args (c : Dev nD) : ∀ a ∈ argRefs, W6 m ρ c (Proc.devRef .tc a) = m ((c : Thread nD τ).loc a) :=
  fun a ha => (W6_of m ρ c a (hostOps3_args a ha)).trans (W5_args m ρ c a ha)

/-! ### The arguments end as launched: no host stretch writes one and no region may change one (a region reads it
    through an input window or bypasses it) -/

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)
theorem W6_main_arg2 (c : Dev nD) : W6 m ρ c (Proc.devRef .tc main_arg2) = m ((c : Thread nD τ).loc main_arg2) :=
  W6_args m ρ c main_arg2 (by decide)
theorem W6_main_arg3 (c : Dev nD) : W6 m ρ c (Proc.devRef .tc main_arg3) = m ((c : Thread nD τ).loc main_arg3) :=
  W6_args m ρ c main_arg3 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 6 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any launch memory every weakly fair execution of the program terminates without a fault, and every
final state has every array of the program at the contents the fold through its segments gives, and every counter at zero. -/
theorem ran : θ_run defs (onTc (τ := τ) (main (F := F))) ⟨m, fun _ => 0, ρ⟩ (fun r => (∀ c : Dev nD, ∀ b ∈ Pipeline.ucRefs τ sig, r.2.mem (((c : Thread nD τ)).1, b) = W6 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

/-- THE FRAME: the run terminates, faults nowhere, leaves the argument arrays as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨(h.1 c _ (mem_uc main_arg0 (by decide))).trans (W6_main_arg0 m ρ c),
       (h.1 c _ (mem_uc main_arg1 (by decide))).trans (W6_main_arg1 m ρ c),
       (h.1 c _ (mem_uc main_arg2 (by decide))).trans (W6_main_arg2 m ρ c),
       (h.1 c _ (mem_uc main_arg3 (by decide))).trans (W6_main_arg3 m ρ c)⟩, h.2⟩) (ran m ρ)

end Cert.KernelIdeal.Gen

end
-- ==== Proof.RowLemma.lean ====
/- One row of scores, in the extended reals: the two-pass, group-by-group, base-two evaluation of the row's logarithm of
   the sum of exponentials and of the group totals agrees with the plain one. -/
module

public import Idealize.ShloMosaic.PureOps.Ideal
public import Mathlib.Analysis.SpecialFunctions.Pow.Real

@[expose] public section

noncomputable section

namespace Cert.Row

open Idealize.ShloMosaic

/-- The score scale. -/
abbrev cs : EReal := ((1 / 64 : ℝ) : EReal)
/-- The score scale in base two. -/
abbrev c2 : EReal := (((1 / 64) * (Real.log 2)⁻¹ : ℝ) : EReal)
/-- The base-two logarithm of e. -/
abbrev ci : EReal := (((Real.log 2)⁻¹ : ℝ) : EReal)
/-- The natural logarithm of two. -/
abbrev cl : EReal := ((Real.log 2 : ℝ) : EReal)

/-- The logarithm of two is positive. -/
theorem log2_pos : 0 < Real.log 2 := Real.log_pos (by norm_num)

/-- The weight of a score relative to a finite peak. -/
def w (M : ℝ) (x : EReal) : ℝ := if x = ⊥ then 0 else Real.exp ((x.toReal - M) / 64)

/-- A weight is not negative. -/
theorem w_nonneg (M : ℝ) (x : EReal) : 0 ≤ w M x := by
  unfold w; split
  · exact le_rfl
  · exact (Real.exp_pos _).le

/-- A masked score has weight zero. -/
theorem w_bot (M : ℝ) : w M ⊥ = 0 := by simp [w]
/-- The weight of a finite score. -/
theorem w_coe (M r : ℝ) : w M (r : EReal) = Real.exp ((r - M) / 64) := by simp [w]

/-- A base-two exponential is a natural one. -/
theorem rpow_two (a : ℝ) : Real.rpow 2 (a * (Real.log 2)⁻¹) = Real.exp a := by
  show (2 : ℝ) ^ (a * (Real.log 2)⁻¹) = _
  rw [Real.rpow_def_of_pos (by norm_num)]
  congr 1
  have := log2_pos.ne'
  field_simp

/-- Minus infinity times a positive real is minus infinity. -/
theorem bot_mul_pos {r : ℝ} (h : 0 < r) : (⊥ : EReal) * (r : EReal) = ⊥ := EReal.bot_mul_coe_of_pos h

/-- The base-two scale is positive. -/
theorem c2_pos : (0 : ℝ) < (1 / 64) * (Real.log 2)⁻¹ := mul_pos (by norm_num) (inv_pos.mpr log2_pos)

/-- The kernel's shifted weight, at a finite peak and a finite logarithm. -/
theorem exp2_shift (M l : ℝ) (x : EReal) (hx : x ≠ ⊤) :
    Ideal.exp2 ((x - (M : EReal)) * c2 - (l : EReal) * ci) = ((w M x * Real.exp (-l) : ℝ) : EReal) := by
  induction x with
  | bot => rw [c2, EReal.bot_sub, bot_mul_pos c2_pos, EReal.bot_sub, w_bot]; simp
  | top => exact absurd rfl hx
  | coe r =>
    rw [← EReal.coe_sub, c2, ci, ← EReal.coe_mul, ← EReal.coe_mul, ← EReal.coe_sub, Ideal.exp2_coe, w_coe, ← Real.exp_add,
      ← rpow_two]
    congr 2
    ring

/-- The kernel's weight, at a finite peak. -/
theorem exp2_weight (M : ℝ) (x : EReal) (hx : x ≠ ⊤) : Ideal.exp2 ((x - (M : EReal)) * c2) = (w M x : EReal) := by
  induction x with
  | bot => rw [c2, EReal.bot_sub, bot_mul_pos c2_pos, w_bot]; simp
  | top => exact absurd rfl hx
  | coe r =>
    rw [← EReal.coe_sub, c2, ← EReal.coe_mul, Ideal.exp2_coe, w_coe, ← rpow_two]
    congr 2
    ring

/-- The score scale is positive. -/
theorem cs_pos : (0 : ℝ) < 1 / 64 := by norm_num

/-- The plain weight, at a finite peak. -/
theorem exp_weight (M : ℝ) (x : EReal) (hx : x ≠ ⊤) : Ideal.exp (x * cs - (M : EReal) * cs) = (w M x : EReal) := by
  induction x with
  | bot => rw [cs, bot_mul_pos cs_pos, EReal.bot_sub, w_bot]; rfl
  | top => exact absurd rfl hx
  | coe r =>
    rw [cs, ← EReal.coe_mul, ← EReal.coe_mul, ← EReal.coe_sub, Ideal.exp_coe, w_coe]
    congr 2
    ring

/-- The plain shifted weight, at a finite peak and a finite logarithm. -/
theorem exp_shift (M l : ℝ) (x : EReal) (hx : x ≠ ⊤) :
    Ideal.exp (x * cs - (M : EReal) * cs - (l : EReal)) = ((w M x * Real.exp (-l) : ℝ) : EReal) := by
  induction x with
  | bot => rw [cs, bot_mul_pos cs_pos, EReal.bot_sub, EReal.bot_sub, w_bot]; simp
  | top => exact absurd rfl hx
  | coe r =>
    rw [cs, ← EReal.coe_mul, ← EReal.coe_mul, ← EReal.coe_sub, ← EReal.coe_sub, Ideal.exp_coe, w_coe, ← Real.exp_add]
    congr 2
    ring

/-- A finite real sum is the same sum among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

section
variable {G T : Type} [Fintype G] [Fintype T]

/-- A group's maximum. -/
def gm (x : G → T → EReal) (g : G) : EReal := Finset.univ.sup (x g)
/-- A group's total relative to its own maximum. -/
def gs (x : G → T → EReal) (g : G) : EReal := ∑ t, Ideal.exp2 ((x g t - gm x g) * c2)
/-- The row's maximum. -/
def rm (x : G → T → EReal) : EReal := Finset.univ.sup (gm x)
/-- The row's total relative to the row's maximum, gathered from the groups. -/
def rl (x : G → T → EReal) : EReal := ∑ g, gs x g * Ideal.exp2 ((gm x g - rm x) * c2)
/-- The row's plain total. -/
def rt (x : G → T → EReal) : EReal := ∑ g, ∑ t, Ideal.exp (x g t * cs - rm x * cs)

/-- A score is at most its group's peak. -/
theorem le_gm (x : G → T → EReal) (g : G) (t : T) : x g t ≤ gm x g := Finset.le_sup (f := x g) (Finset.mem_univ t)
/-- A group's peak is at most the row's peak. -/
theorem gm_le_rm (x : G → T → EReal) (g : G) : gm x g ≤ rm x := Finset.le_sup (f := gm x) (Finset.mem_univ g)

/-- A group's total moved to a finite peak above it. -/
theorem group_shift (x : G → T → EReal) (M : ℝ) (hM : rm x = (M : EReal)) (g : G) :
    gs x g * (w M (gm x g) : EReal) = ((∑ t, w M (x g t) : ℝ) : EReal) := by
  have hle := gm_le_rm x g
  rw [hM] at hle
  have hxt : ∀ t, x g t ≠ ⊤ := fun t h => by
    have := (le_gm x g t).trans hle
    rw [h] at this
    exact absurd (top_le_iff.mp this) (EReal.coe_ne_top _)
  rcases eq_or_ne (gm x g) ⊥ with hb | hb
  · have : ∀ t, x g t = ⊥ := fun t => le_bot_iff.mp (hb ▸ le_gm x g t)
    simp [hb, w_bot, this]
  · have ht : gm x g ≠ ⊤ := fun h => by rw [h] at hle; exact absurd (top_le_iff.mp hle) (EReal.coe_ne_top _)
    obtain ⟨a, ha⟩ : ∃ a : ℝ, gm x g = (a : EReal) := ⟨_, (EReal.coe_toReal ht hb).symm⟩
    have h1 : gs x g = ((∑ t, w a (x g t) : ℝ) : EReal) := by
      rw [coe_sum]
      unfold gs
      rw [ha]
      exact Finset.sum_congr rfl fun t _ => exp2_weight a _ (hxt t)
    rw [h1, ha, ← EReal.coe_mul, Finset.sum_mul]
    congr 1
    refine Finset.sum_congr rfl fun t _ => ?_
    rw [w_coe]
    unfold w
    split
    · simp
    · rw [← Real.exp_add]; congr 1; ring

/-- The two totals of a row with a finite peak are one positive real. -/
theorem totals (x : G → T → EReal) (M : ℝ) (hM : rm x = (M : EReal)) :
    ∃ S : ℝ, 0 < S ∧ rl x = (S : EReal) ∧ rt x = (S : EReal) := by
  have hgt : ∀ g, gm x g ≠ ⊤ := fun g h => by
    have := gm_le_rm x g
    rw [h, hM] at this
    exact absurd (top_le_iff.mp this) (EReal.coe_ne_top _)
  have hxt : ∀ g t, x g t ≠ ⊤ := fun g t h => hgt g (top_le_iff.mp (h ▸ le_gm x g t))
  refine ⟨∑ g, ∑ t, w M (x g t), ?_, ?_, ?_⟩
  · have hG : (Finset.univ : Finset G).Nonempty := by
      by_contra h
      rw [Finset.not_nonempty_iff_eq_empty] at h
      simp [rm, h] at hM
    obtain ⟨g, -, hg⟩ := Finset.exists_mem_eq_sup Finset.univ hG (gm x)
    have hg' : gm x g = (M : EReal) := by rw [← hM]; exact hg.symm
    have hT : (Finset.univ : Finset T).Nonempty := by
      by_contra h
      rw [Finset.not_nonempty_iff_eq_empty] at h
      simp [gm, h] at hg'
    obtain ⟨t, -, ht⟩ := Finset.exists_mem_eq_sup Finset.univ hT (x g)
    have ht' : x g t = (M : EReal) := by rw [← hg']; exact ht.symm
    have h1 : w M (x g t) = 1 := by rw [ht', w_coe]; simp
    have h2 : w M (x g t) ≤ ∑ t, w M (x g t) :=
      Finset.single_le_sum (f := fun t => w M (x g t)) (fun t _ => w_nonneg _ _) (Finset.mem_univ t)
    have h3 : (∑ t, w M (x g t)) ≤ ∑ g, ∑ t, w M (x g t) :=
      Finset.single_le_sum (f := fun g => ∑ t, w M (x g t)) (fun g _ => Finset.sum_nonneg fun t _ => w_nonneg _ _) (Finset.mem_univ g)
    linarith
  · rw [coe_sum]
    unfold rl
    refine Finset.sum_congr rfl fun g _ => ?_
    rw [hM, exp2_weight M _ (hgt g), group_shift x M hM]
  · rw [coe_sum]
    unfold rt
    refine Finset.sum_congr rfl fun g _ => ?_
    rw [coe_sum]
    refine Finset.sum_congr rfl fun t _ => ?_
    rw [hM, exp_weight M _ (hxt g t)]

/-- Subtracting plus infinity gives minus infinity. -/
theorem sub_top' (x : EReal) : x - ⊤ = ⊥ := by rw [sub_eq_add_neg, EReal.neg_top, EReal.add_bot]

/-- Every score of a row with an infinite peak is `⊥` once shifted. -/
theorem degenerate (x : G → T → EReal) (h : rm x = ⊤ ∨ rm x = ⊥) :
    rl x = 0 ∧ rt x = 0 ∧ (∀ g, gm x g - rm x = ⊥) ∧ ∀ g t, x g t * cs - rm x * cs = ⊥ := by
  have a : ∀ g, gm x g - rm x = ⊥ := by
    intro g
    rcases h with h | h
    · rw [h, sub_top']
    · rw [le_bot_iff.mp ((gm_le_rm x g).trans h.le), EReal.bot_sub]
  have b : ∀ g t, x g t * cs - rm x * cs = ⊥ := by
    intro g t
    rcases h with h | h
    · rw [h, cs, EReal.top_mul_coe_of_pos cs_pos, sub_top']
    · rw [le_bot_iff.mp (((le_gm x g t).trans (gm_le_rm x g)).trans h.le), cs, bot_mul_pos cs_pos, EReal.bot_sub]
  refine ⟨?_, ?_, a, b⟩
  · unfold rl
    refine Finset.sum_eq_zero fun g _ => ?_
    rw [a, c2, bot_mul_pos c2_pos, Ideal.exp2_bot, mul_zero]
  · unfold rt
    refine Finset.sum_eq_zero fun g _ => Finset.sum_eq_zero fun t _ => ?_
    rw [b, Ideal.exp_bot]

/-- The logarithm of zero is minus infinity. -/
theorem log_zero' : Ideal.log 0 = ⊥ := by
  have := Ideal.log_coe (r := 0)
  simpa using this

/-- The peak is infinite or a real. -/
theorem peak_cases (x : G → T → EReal) : (rm x = ⊤ ∨ rm x = ⊥) ∨ ∃ M : ℝ, rm x = (M : EReal) := by
  induction h : rm x with
  | bot => exact .inl (.inr rfl)
  | top => exact .inl (.inl rfl)
  | coe r => exact .inr ⟨r, rfl⟩

/-- The row's normaliser: base two and natural agree. -/
theorem normaliser (x : G → T → EReal) :
    rm x * cs + Ideal.log (rl x) * ci * cl = rm x * cs + Ideal.log (rt x) := by
  rcases peak_cases x with h | ⟨M, hM⟩
  · obtain ⟨h1, h2, -, -⟩ := degenerate x h
    rw [h1, h2, log_zero', ci, bot_mul_pos (inv_pos.mpr log2_pos), cl, bot_mul_pos log2_pos]
  · obtain ⟨S, hS, h1, h2⟩ := totals x M hM
    rw [h1, h2, Ideal.log_coe, if_neg (not_le.mpr hS), ci, cl, ← EReal.coe_mul, ← EReal.coe_mul]
    congr 2
    have := log2_pos.ne'
    field_simp

/-- A group's share of the row: base two and natural agree. -/
theorem share (x : G → T → EReal) (g : G) :
    gs x g * Ideal.exp2 ((gm x g - rm x) * c2 - Ideal.log (rl x) * ci)
      = ∑ t, Ideal.exp (x g t * cs - rm x * cs - Ideal.log (rt x)) := by
  rcases peak_cases x with h | ⟨M, hM⟩
  · obtain ⟨h1, h2, h3, h4⟩ := degenerate x h
    rw [h1, h2, log_zero', h3, c2, bot_mul_pos c2_pos, EReal.bot_sub, Ideal.exp2_bot, mul_zero]
    exact (Finset.sum_eq_zero fun t _ => by rw [h4, EReal.bot_sub, Ideal.exp_bot]).symm
  · obtain ⟨S, hS, h1, h2⟩ := totals x M hM
    have hgt : ∀ g, gm x g ≠ ⊤ := fun g h => by
      have := gm_le_rm x g
      rw [h, hM] at this
      exact absurd (top_le_iff.mp this) (EReal.coe_ne_top _)
    rw [h1, h2, Ideal.log_coe, if_neg (not_le.mpr hS), hM, exp2_shift M _ _ (hgt g), EReal.coe_mul, ← mul_assoc,
      group_shift x M hM, ← EReal.coe_mul, Finset.sum_mul, coe_sum]
    refine Finset.sum_congr rfl fun t _ => ?_
    rw [exp_shift M _ _ fun h => hgt g (top_le_iff.mp (h ▸ le_gm x g t))]

/-- The row's maximum of the scaled scores is the scaled maximum. -/
theorem scaled_sup {K : Type} [Fintype K] (z : K → EReal) : Finset.univ.sup (fun k => z k * cs) = Finset.univ.sup z * cs := by
  have hm : Monotone fun a : EReal => a * cs := fun a b h =>
    mul_le_mul_of_nonneg_right h (EReal.coe_nonneg.mpr cs_pos.le)
  exact (Finset.comp_sup_eq_sup_comp_of_is_total (fun a : EReal => a * cs) hm (bot_mul_pos cs_pos) : _).symm

end

end Cert.Row

end
-- ==== Proof.ScoresWords.lean ====
/- The main call's index words and named constants as numbers, and the strips of the key block at an index. -/
module

public import proofs.«01_k».proof.Proof.ScoresVal
public import proofs.«01_k».proof.Proof.RowLemma
public import Idealize.ShloMosaic.Lib.Pointwise
public import Idealize.ShloMosaic.Lib.IdealHost
public import Idealize.ShloMosaic.Lib.Pipeline.ValueKit.Tiles
public import Idealize.ShloMosaic.Lib.WordCmp

@[expose] public section

set_option maxRecDepth 16384

noncomputable section

namespace Cert.KernelIdeal.Gen

open Idealize Idealize.ShloMosaic Idealize.SL.Sem Idealize.SL
open Cert.KernelIdeal Facts

/-! ### The positions of the queries of a tile -/

/-- The place, in its tile, of the query that lane `q` carries. -/
def qpos (q : ℕ) : ℕ := q / 128 * 128 + q % 8 * 16 + q % 128 / 8

/-- The place of a query lies in its tile. -/
theorem qpos_lt (q : Fin 256) : qpos q < 256 := by unfold qpos; omega

/-- The kernel's query position, as it computes it from its parts. -/
def qv (v71 : IVec S2x16x8x256 32) (v73 : BitVec 32) (v75 : IVec S2x16x8x256 32) (v77 : IVec S2x16x8x256 1) : IVec S2x16x8x256 32 :=
  have v78 : IVec S2x16x8x256 32 := broadcast S2x16x8x256 0#32
  have v79 : IVec S2x16x8x256 1 := cmpi .slt v75 v78
  let v80 : BitVec 1 := Scalar.cmpi .slt v73 0#32
  have v81 : IVec S2x16x8x256 1 := broadcast S2x16x8x256 v80
  have v82 : IVec S2x16x8x256 1 := broadcastTo S2x16x8x256 v81 broadcasts_S2x16x8x256_S2x16x8x256
  have v83 : IVec S2x16x8x256 1 := xori v79 v82
  have v84 : IVec S2x16x8x256 1 := andi v83 v77
  have v85 : IVec S2x16x8x256 32 := broadcast S2x16x8x256 v73
  have v86 : IVec S2x16x8x256 32 := addi v75 v85
  have v87 : IVec S2x16x8x256 32 := select v84 v86 v75
  have v88 : IVec S2x16x8x256 32 := broadcast S2x16x8x256 8#32
  have v89 : IVec S2x16x8x256 32 := divsi v87 v88
  have v90 : IVec S2x16x8x256 32 := broadcast S2x16x8x256 0#32
  have v91 : IVec S2x16x8x256 1 := cmpi .sgt v87 v90
  have v92 : IVec S2x16x8x256 32 := extui 32 v91 natLt_1_32
  have v93 : IVec S2x16x8x256 32 := broadcast S2x16x8x256 0#32
  have v94 : IVec S2x16x8x256 1 := cmpi .slt v87 v93
  have v95 : IVec S2x16x8x256 32 := extui 32 v94 natLt_1_32
  have v96 : IVec S2x16x8x256 32 := subi v92 v95
  let v97 : BitVec 1 := Scalar.cmpi .sgt 8#32 0#32
  let v98 : BitVec 32 := Scalar.extui v97
  let v99 : BitVec 1 := Scalar.cmpi .slt 8#32 0#32
  let v100 : BitVec 32 := Scalar.extui v99
  let v101 : BitVec 32 := Scalar.subi v98 v100
  have v102 : IVec S2x16x8x256 32 := broadcast S2x16x8x256 v101
  have v103 : IVec S2x16x8x256 1 := cmpi .ne v96 v102
  have v104 : IVec S2x16x8x256 32 := broadcast S2x16x8x256 8#32
  have v105 : IVec S2x16x8x256 32 := remsi v87 v104
  have v106 : IVec S2x16x8x256 32 := broadcast S2x16x8x256 0#32
  have v107 : IVec S2x16x8x256 1 := cmpi .ne v105 v106
  have v108 : IVec S2x16x8x256 1 := andi v103 v107
  have v109 : IVec S2x16x8x256 32 := broadcast S2x16x8x256 1#32
  have v110 : IVec S2x16x8x256 32 := subi v89 v109
  have v111 : IVec S2x16x8x256 32 := select v108 v110 v89
  have v112 : IVec S2x16x8x256 32 := addi v71 v111
  v112

/-- The masked scores, with the position named. -/
theorem pay17_eq (v16 : FVec Ideal S2x16x8x256 .f32) (v25 : IVec S2x16x8x256 32) (v71 : IVec S2x16x8x256 32) (v73 : BitVec 32) (v75 : IVec S2x16x8x256 32) (v77 : IVec S2x16x8x256 1) :
    k2_pay17 v16 v25 v71 v73 v75 v77
      = select (cmpi .sle v25 (qv v71 v73 v75 v77)) v16 (broadcast S2x16x8x256 (Named.named κ "mask" 0xFF61B1E6#32)) := rfl

/-- The kernel's query position is the lane's query. -/
theorem qv_at (a : Fin 2) (t : Fin 16) (g : Fin 8) (q : Fin 256) :
    qv kernelRun2.sl.v71 (128#32) (remsi kernelRun2.sl.v26 kernelRun2.sl.v43) kernelRun2.sl.v46 (ix4 a t g q) = BitVec.ofNat 32 (qpos q) := by
  pointwise [qv, k2_pay11, k2_pay12, k2_pay13, kernelRun2.sl.v71, kernelRun2.sl.v46, kernelRun2.sl.v50, kernelRun2.sl.v43, kernelRun2.sl.v68, kernelRun2.sl.v69, kernelRun2.sl.v26, kernelRun2.sl.v45, kernelRun2.sl.v42, kernelRun2.sl.v41, kernelRun2.sl.v64, kernelRun2.sl.v58, kernelRun2.sl.v67, kernelRun2.sl.v55, kernelRun2.sl.v34, kernelRun2.sl.v60, kernelRun2.sl.v62]
  revert q
  decide +kernel

/-- The key's place in its strip, as the kernel computes it. -/
theorem pay10_at (a : Fin 2) (t : Fin 16) (g : Fin 8) (q : Fin 256) :
    k2_pay10 (ix4 a t g q) = BitVec.ofNat 32 (a.val * 128 + g.val * 16 + t.val) := by
  pointwise [k2_pay10]
  revert a t g
  decide +kernel

/-- Sums of words, regrouped. -/
theorem addi3 (b P Q R W : BitVec 32) (h : IntOp.addi (IntOp.addi P Q) R = W) :
    IntOp.addi (IntOp.addi (IntOp.addi b P) Q) R = b + W := by
  rw [← h]
  show b + P + Q + R = b + (P + Q + R)
  simp only [BitVec.add_assoc]

/-- The position among all queries that the body works out for its logarithm. -/
theorem r5_at (i : grid2.Coords) (q : Fin 256) :
    kernelRun2.sl.r_5 i (ix2 0 q) = BitVec.ofNat 32 (256 * (i 1).val) + BitVec.ofNat 32 (qpos q) := by
  pointwise [k2_pay33, kernelRun2.sl.r_5, kernelRun2.sl.v161, kernelRun2.sl.v190, kernelRun2.sl.v206, kernelRun2.sl.v207, kernelRun2.sl.v189, kernelRun2.sl.v186, kernelRun2.sl.v163, kernelRun2.sl.v202, kernelRun2.sl.v196, kernelRun2.sl.v205, kernelRun2.sl.v193, kernelRun2.sl.v162, kernelRun2.sl.v178, kernelRun2.sl.v182, kernelRun2.sl.v185, kernelRun2.sl.v198, kernelRun2.sl.v200, kernelRun2.sl.v165, kernelRun2.sl.v167, kernelRun2.sl.v170, kernelRun2.sl.v177]
  refine (addi3 _ _ _ _ (BitVec.ofNat 32 (qpos q)) ?_).trans ?_
  · revert q
    decide +kernel
  · congr 1
    show BitVec.ofNat 32 (i 1).val * 256#32 = _
    rw [mul_comm 256]
    exact (BitVec.ofNat_mul _ _).symm

/-- A strip of the key block at an index. -/
theorem strip_at (x1 : Vec Ideal S1x8192x512 .bf16) (k : ℕ) (hk : k < 32) (r : Fin 256) (d : Fin 512) :
    strip x1 k (ix3 0 r d) = x1 (ix3 0 (⟨256 * k + r.val, by omega⟩ : Fin 8192) d) := by
  unfold strip View.ld
  congr 1
  funext a
  apply Fin.ext
  fin_cases a <;> simp [Nat.mod_eq_of_lt hk]
/-- A named constant of the kernel. -/
theorem mask_eq : (Named.named κ "mask" 0xFF61B1E6#32 : Ideal .f32) = ⊥ := rfl
/-- A named constant of the kernel: the base-two score scale. -/
theorem c2_eq : (Named.named κ "exp2_scale" 0x3CB8AA3B#32 : Ideal .f32) = Row.c2 := rfl
/-- A named constant of the kernel: the reciprocal of the logarithm of two. -/
theorem ci_eq : (Named.named κ "log2_e" 0x3FB8AA3B#32 : Ideal .f32) = Row.ci := rfl
/-- A named constant of the kernel: the logarithm of two. -/
theorem cl_eq : (kernelRun2.sl.cst_92 : Ideal .f32) = Row.cl := rfl
/-- The score scale, as the literal the kernel writes. -/
theorem cs_eq : Ideal.ofBits FTy.f32 0x3C800000#32 = Row.cs := by
  simp [Ideal.ofBits, Ideal.ieee, Row.cs, zpow_neg, -EReal.coe_mul]
  norm_num
/-- The literal of minus infinity. -/
theorem ninf_eq : Ideal.ofBits FTy.f32 0xFF800000#32 = ⊥ := by simp [Ideal.ofBits, Ideal.ieee]
/-- A maximum folded over a whole axis is the supremum. -/
theorem fold_eq {ι : Type} [Fintype ι] (f : ι → EReal) : Finset.fold max ⊥ f Finset.univ = Finset.univ.sup f := rfl
end Cert.KernelIdeal.Gen
end
-- ==== Proof.ScoresIdeal.lean ====
/- The main call's results as numbers: over the extended reals, the block of weights and the rows' normalisers that the
   body stores are the plain softmax of the masked scores of its two input blocks, gathered by groups of keys. -/
module

public import proofs.«01_k».proof.Proof.ScoresWords

@[expose] public section

set_option maxRecDepth 16384

noncomputable section

namespace Cert.KernelIdeal.Gen

open Idealize Idealize.ShloMosaic Idealize.SL.Sem Idealize.SL
open Cert.KernelIdeal Facts
open Idealize.ShloMosaic.WordCmp

variable (x0 : Vec Ideal S1x512x256 .bf16) (x1 : Vec Ideal S1x8192x512 .bf16)

/-- The raw score of the key in row `j` for lane `q`. -/
def raw (j : Fin 8192) (q : Fin 256) : EReal := ∑ d : Fin 512, x1 (ix3 0 j d) * x0 (ix3 0 d q)

/-- The row that carries place `t` of group `g` of the keys. -/
abbrev rowOf (g : Fin 512) (t : Fin 16) : Fin 8192 := ⟨128 * (g.val / 8) + 8 * t.val + g.val % 8, by omega⟩

/-- The masked scores of lane `q` of tile `n`, by groups of keys. -/
def sc (n : ℕ) (q : Fin 256) (g : Fin 512) (t : Fin 16) : EReal :=
  if 16 * g.val + t.val ≤ 256 * n + qpos q then raw x0 x1 (rowOf g t) q else ⊥

/-- Group `y` of strip `k`. -/
abbrev grp (k : ℕ) (hk : k < 32) (y : Fin 16) : Fin 512 := ⟨16 * k + y.val, by omega⟩

/-- The masked scores of the diagonal strip at an index. -/
theorem masked_at (X : FVec Ideal S2x16x8x256 .f32) (a : Fin 2) (t : Fin 16) (g : Fin 8) (q : Fin 256) :
    k2_pay17 (F := Ideal) X k2_pay10 kernelRun2.sl.v71 (128#32) (remsi kernelRun2.sl.v26 kernelRun2.sl.v43) kernelRun2.sl.v46 (ix4 a t g q)
      = if a.val * 128 + g.val * 16 + t.val ≤ qpos q then X (ix4 a t g q) else ⊥ := by
  have hq := qpos_lt q
  rw [pay17_eq]
  show Scalar.select (IntOp.cmpi .sle (k2_pay10 (ix4 a t g q)) (qv _ _ _ _ (ix4 a t g q))) (X (ix4 a t g q)) _ = _
  rw [qv_at, pay10_at, cmpi_sle_eq, toInt_ofNat_of_lt (by omega), toInt_ofNat_of_lt (by omega)]
  unfold Scalar.select
  simp only [ofBool_eq_one_iff', decide_eq_true_eq, Nat.cast_le]
  rfl

/-- The raw scores of a strip at an index. -/
theorem raw1_at (k : ℕ) (hk : k < 32) (a : Fin 2) (t : Fin 16) (g : Fin 8) (q : Fin 256) :
    k2_pay1 (F := Ideal) (strip x1 k) x0 (ix4 a t g q) = raw x0 x1 (rowOf (grp k hk ⟨a.val * 8 + g.val, by omega⟩) t) q := by
  pointwise [k2_pay1]
  unfold raw
  refine Finset.sum_congr rfl fun d _ => ?_
  rw [strip_at x1 k hk]
  congr 3
  apply Fin.ext
  simp only
  omega

/-- The same, of the diagonal strip. -/
theorem diag_at (k : ℕ) (hk : k < 32) (a : Fin 2) (t : Fin 16) (g : Fin 8) (q : Fin 256) :
    diagRaw (F := Ideal) x0 x1 k (ix4 a t g q) = raw x0 x1 (rowOf (grp k hk ⟨a.val * 8 + g.val, by omega⟩) t) q :=
  raw1_at x0 x1 k hk a t g q

/-- A strip's masked scores, on the diagonal and before it. -/
def strX (n k : ℕ) (a : Fin 2) (t : Fin 16) (g : Fin 8) (q : Fin 256) : EReal :=
  if k < n then k2_pay1 (F := Ideal) (strip x1 k) x0 (ix4 a t g q)
  else k2_pay17 (F := Ideal) (diagRaw x0 x1 n) k2_pay10 kernelRun2.sl.v71 (128#32) (remsi kernelRun2.sl.v26 kernelRun2.sl.v43) kernelRun2.sl.v46 (ix4 a t g q)

/-- A score of a strip up to the diagonal is the row's masked score at the key the strip holds there. -/
theorem strX_eq (n k : ℕ) (hk : k ≤ n) (hn : n < 32) (a : Fin 2) (t : Fin 16) (g : Fin 8) (q : Fin 256) :
    strX x0 x1 n k a t g q = sc x0 x1 n q (grp k (by omega) ⟨a.val * 8 + g.val, by omega⟩) t := by
  have hq := qpos_lt q
  unfold strX sc
  split
  · rw [raw1_at x0 x1 k (by omega), if_pos]
    simp only
    omega
  · have : k = n := by omega
    subst this
    rw [masked_at, diag_at x0 x1 k hn]
    refine if_congr ?_ rfl rfl
    simp only
    omega

/-- The group maxima of a strip. -/
theorem strM_at (n k : ℕ) (hk : k ≤ n) (hn : n < 32) (y : Fin 16) (q : Fin 256) :
    strM x0 x1 n k (ix2 y q) = Row.gm (sc x0 x1 n q) (grp k (by omega) y) := by
  have e : strM x0 x1 n k (ix2 y q)
      = Finset.univ.sup fun t => strX x0 x1 n k ⟨y.val / 8, by omega⟩ t ⟨y.val % 8, by omega⟩ q := by
    unfold strM strX
    split
    · pointwise [k2_pay4, k2_pay2]
      rw [ninf_eq, fold_eq]
    · pointwise [k2_pay21, k2_pay18]
      rw [ninf_eq, fold_eq]
  rw [e]
  unfold Row.gm
  congr 1
  funext t
  rw [strX_eq x0 x1 n k hk hn]
  congr 1
  apply Fin.ext
  simp only
  omega

/-- The group sums of a strip. -/
theorem strS_at (n k : ℕ) (hk : k ≤ n) (hn : n < 32) (y : Fin 16) (q : Fin 256) :
    strS x0 x1 n k (ix2 y q) = Row.gs (sc x0 x1 n q) (grp k (by omega) y) := by
  have e : strS x0 x1 n k (ix2 y q)
      = ∑ t, Ideal.exp2 ((strX x0 x1 n k ⟨y.val / 8, by omega⟩ t ⟨y.val % 8, by omega⟩ q
          - Finset.univ.sup fun t => strX x0 x1 n k ⟨y.val / 8, by omega⟩ t ⟨y.val % 8, by omega⟩ q) * Row.c2) := by
    unfold strS strX
    split
    · pointwise [k2_pay3, k2_pay2]
      rw [ninf_eq]
      simp only [fold_eq]
      rfl
    · pointwise [k2_pay20, k2_pay19, k2_pay18]
      rw [ninf_eq]
      simp only [fold_eq]
      rfl
  rw [e]
  unfold Row.gs Row.gm
  have h : ∀ t, strX x0 x1 n k ⟨y.val / 8, by omega⟩ t ⟨y.val % 8, by omega⟩ q = sc x0 x1 n q (grp k (by omega) y) t := by
    intro t
    rw [strX_eq x0 x1 n k hk hn]
    congr 1
    apply Fin.ext
    simp only
    omega
  simp only [h]

/-- Groups past the diagonal strip have no scores. -/
theorem gm_past (n : ℕ) (hn : n < 32) (q : Fin 256) (g : Fin 512) (hg : n < g.val / 16) : Row.gm (sc x0 x1 n q) g = ⊥ := by
  have hq := qpos_lt q
  unfold Row.gm
  rw [Finset.sup_eq_bot_iff]
  intro t _
  unfold sc
  rw [if_neg (by omega)]

/-- A group of keys past the diagonal strip has total zero. -/
theorem gs_past (n : ℕ) (hn : n < 32) (q : Fin 256) (g : Fin 512) (hg : n < g.val / 16) : Row.gs (sc x0 x1 n q) g = 0 := by
  have hq := qpos_lt q
  unfold Row.gs
  refine Finset.sum_eq_zero fun t _ => ?_
  unfold sc
  rw [if_neg (by omega), EReal.bot_sub, Row.c2, Row.bot_mul_pos Row.c2_pos, Ideal.exp2_bot]

/-- A strip's maximum of group `y`, at any number. -/
def gmN (n : ℕ) (q : Fin 256) (y : Fin 16) (k : ℕ) : EReal :=
  if h : k < 32 then Row.gm (sc x0 x1 n q) (grp k h y) else ⊥

/-- A running maximum is a supremum. -/
theorem running_max (acc f : ℕ → EReal) (N : ℕ) (h0 : acc 0 = ⊥) (hs : ∀ k, k < N → acc (k + 1) = max (acc k) (f k)) :
    ∀ k, k ≤ N → acc k = (Finset.range k).sup f
  | 0, _ => by simpa using h0
  | k + 1, hk => by
    rw [hs k (by omega), running_max acc f N h0 hs k (by omega), Finset.range_add_one, Finset.sup_insert, max_comm]

/-- The running maximum. -/
theorem accM_at (n : ℕ) (hn : n < 32) (y : Fin 16) (q : Fin 256) :
    accM x0 x1 n (n + 1) (ix2 y q) = (Finset.range (n + 1)).sup (gmN x0 x1 n q y) := by
  refine running_max (fun k => accM x0 x1 n k (ix2 y q)) _ (n + 1) ?_ (fun k hk => ?_) (n + 1) le_rfl
  · show k2_pay22 (F := Ideal) _ = _
    pointwise [k2_pay22]
    rw [mask_eq]
  · have e : accM x0 x1 n (k + 1) (ix2 y q) = max (accM x0 x1 n k (ix2 y q)) (strM x0 x1 n k (ix2 y q)) := by
      show k2_pay23 _ _ _ = _
      pointwise [k2_pay23]
    unfold gmN
    rw [dif_pos (show k < 32 by omega), ← strM_at x0 x1 n k (by omega) hn]
    exact e

/-- The row's maximum. -/
theorem rowM_at (n : ℕ) (hn : n < 32) (q : Fin 256) : rowM x0 x1 n (ix2 0 q) = Row.rm (sc x0 x1 n q) := by
  have e : rowM x0 x1 n (ix2 0 q) = Finset.univ.sup fun y => accM x0 x1 n (n + 1) (ix2 y q) := by
    pointwise [rowM, k2_pay25]
    rw [ninf_eq, fold_eq]
  rw [e]
  apply le_antisymm
  · refine Finset.sup_le fun y _ => ?_
    rw [accM_at x0 x1 n hn y q]
    refine Finset.sup_le fun j _ => ?_
    unfold gmN
    split
    · exact Row.gm_le_rm _ _
    · exact bot_le
  · refine Finset.sup_le fun g _ => ?_
    by_cases hg : n < g.val / 16
    · rw [gm_past x0 x1 n hn q g hg]; exact bot_le
    · refine le_trans ?_ (Finset.le_sup (f := fun y => accM x0 x1 n (n + 1) (ix2 y q)) (Finset.mem_univ (⟨g.val % 16, by omega⟩ : Fin 16)))
      rw [accM_at x0 x1 n hn _ q]
      refine le_trans (le_of_eq ?_) (Finset.le_sup (f := gmN x0 x1 n q ⟨g.val % 16, by omega⟩) (Finset.mem_range.mpr (show g.val / 16 < n + 1 by omega)))
      unfold gmN
      rw [dif_pos (show g.val / 16 < 32 by omega)]
      congr 1
      apply Fin.ext
      simp only
      omega

/-- A group's term of the row's total. -/
def term (n : ℕ) (q : Fin 256) (g : Fin 512) : EReal :=
  Row.gs (sc x0 x1 n q) g * Ideal.exp2 ((Row.gm (sc x0 x1 n q) g - Row.rm (sc x0 x1 n q)) * Row.c2)

/-- The running total. -/
theorem accL_at (n : ℕ) (hn : n < 32) (y : Fin 16) (q : Fin 256) : ∀ k (hk : k ≤ n + 1),
    accL x0 x1 n k (ix2 y q) = ∑ j : Fin k, term x0 x1 n q (grp j.val (by omega) y)
  | 0, _ => by
    pointwise [accL, k2_pay26]
    simp
  | k + 1, hk => by
    have e : accL x0 x1 n (k + 1) (ix2 y q) = accL x0 x1 n k (ix2 y q)
        + strS x0 x1 n k (ix2 y q) * Ideal.exp2 ((strM x0 x1 n k (ix2 y q) - rowM x0 x1 n (ix2 0 q)) * Row.c2) := by
      show k2_pay27 _ _ _ _ _ = _
      pointwise [k2_pay27]
      rfl
    rw [e, accL_at n hn y q k (by omega), strM_at x0 x1 n k (by omega) hn, strS_at x0 x1 n k (by omega) hn,
      rowM_at x0 x1 n hn, Fin.sum_univ_castSucc]
    rfl

/-- The row's total. -/
theorem total_at (n : ℕ) (hn : n < 32) (q : Fin 256) :
    ∑ y : Fin 16, accL x0 x1 n (n + 1) (ix2 y q) = Row.rl (sc x0 x1 n q) := by
  have h1 : ∀ y : Fin 16, accL x0 x1 n (n + 1) (ix2 y q) = ∑ j : Fin 32, term x0 x1 n q (grp j.val j.isLt y) := by
    intro y
    rw [accL_at x0 x1 n hn y q (n + 1) le_rfl]
    have h2 : ∀ m (hm : n + 1 ≤ m) (hm' : m ≤ 32), (∑ j : Fin (n + 1), term x0 x1 n q (grp j.val (by omega) y))
        = ∑ j : Fin m, term x0 x1 n q (grp j.val (by omega) y) := by
      intro m hm
      induction m, hm using Nat.le_induction with
      | base => intro _; rfl
      | succ m hm ih =>
        intro hm'
        rw [ih (by omega), Fin.sum_univ_castSucc]
        have hz : term x0 x1 n q (grp (Fin.last m).val (by simp; omega) y) = 0 := by
          unfold term
          rw [gs_past x0 x1 n hn q _ (by simp; omega), zero_mul]
        rw [hz, add_zero]
        rfl
    exact h2 32 (by omega) le_rfl
  simp only [h1]
  rw [Finset.sum_comm, ← Fintype.sum_prod_type' (f := fun (j : Fin 32) (y : Fin 16) => term x0 x1 n q (grp j.val j.isLt y))]
  unfold Row.rl
  refine Fintype.sum_equiv (finProdFinEquiv (m := 32) (n := 16)) _ _ fun p => ?_
  show term x0 x1 n q _ = term x0 x1 n q _
  congr 1
  apply Fin.ext
  simp [finProdFinEquiv]
  omega

/-- The row's total as a base-two logarithm. -/
theorem rowL_at (n : ℕ) (hn : n < 32) (q : Fin 256) : rowL x0 x1 n (ix2 0 q) = Ideal.log (Row.rl (sc x0 x1 n q)) * Row.ci := by
  rw [← total_at x0 x1 n hn q]
  pointwise [rowL, k2_pay29]
  rfl

/-- The lane of tile-row `b` (of sixteen) and cell `x`. -/
abbrev laneOf (b x : Fin 16) : Fin 256 := ⟨b.val / 8 * 128 + x.val * 8 + b.val % 8, by omega⟩

/-- The block of weights. -/
theorem outBlk_at (i : grid2.Coords) (b : Fin 16) (g : Fin 512) :
    outBlk i x0 x1 (ix3 0 b g) = ∑ x : Fin 16, ∑ t : Fin 16,
      Ideal.exp (sc x0 x1 (i 1).val (laneOf b x) g t * Row.cs - Row.rm (sc x0 x1 (i 1).val (laneOf b x)) * Row.cs
        - Ideal.log (Row.rt (sc x0 x1 (i 1).val (laneOf b x)))) := by
  have hn : (i 1).val < 32 := (i 1).isLt
  pointwise [outBlk, k2_pay39, arrP, k2_pay37, k2_pay36, inStrip]
  refine Finset.sum_congr rfl fun x _ => ?_
  rw [← Row.share]
  have hg : grp (g.val / 16) (by omega) ⟨g.val % 16, by omega⟩ = g := by apply Fin.ext; simp only; omega
  split
  · rename_i hle
    rw [strS_at x0 x1 _ _ hle hn, strM_at x0 x1 _ _ hle hn, rowM_at x0 x1 _ hn, rowL_at x0 x1 _ hn, hg]
    rfl
  · rw [gs_past x0 x1 _ hn _ g (by omega), zero_mul]

/-- The rows' normalisers. -/
theorem outLse_at (i : grid2.Coords) (q : Fin 256) :
    outLse i x0 x1 (ix4 0 0 0 q) = Row.rm (sc x0 x1 (i 1).val q) * Row.cs + Ideal.log (Row.rt (sc x0 x1 (i 1).val q))
      - Ideal.log (((256 * (i 1).val + qpos q + 1 : ℕ) : ℝ) : EReal) := by
  have hn : (i 1).val < 32 := (i 1).isLt
  have hq := qpos_lt q
  rw [← Row.normaliser]
  have e : outLse i x0 x1 (ix4 0 0 0 q) = rowM x0 x1 (i 1).val (ix2 0 q) * Ideal.ofBits FTy.f32 0x3C800000#32
      + rowL x0 x1 (i 1).val (ix2 0 q) * kernelRun2.sl.cst_92 (F := Ideal)
      - Ideal.log (FloatOps.sitofp (F := Ideal) FTy.f32 (IntOp.addi (kernelRun2.sl.r_5 i (ix2 0 q)) 1#32)) := by
    pointwise [outLse, k2_pay35, k2_pay34]
  rw [e, rowM_at x0 x1 _ hn, rowL_at x0 x1 _ hn, cs_eq, cl_eq, r5_at]
  have hw : IntOp.addi (BitVec.ofNat 32 (256 * (i 1).val) + BitVec.ofNat 32 (qpos q)) 1#32 = BitVec.ofNat 32 (256 * (i 1).val + qpos q + 1) := by
    show BitVec.ofNat 32 (256 * (i 1).val) + BitVec.ofNat 32 (qpos q) + 1#32 = _
    rw [← BitVec.ofNat_add, ← BitVec.ofNat_add]
  rw [hw]
  have hs : (FloatOps.sitofp FTy.f32 (BitVec.ofNat 32 (256 * (i 1).val + qpos q + 1)) : Ideal .f32)
      = (((256 * (i 1).val + qpos q + 1 : ℕ) : ℝ) : EReal) := by
    show ((((BitVec.ofNat 32 (256 * (i 1).val + qpos q + 1)).toInt : ℤ) : ℝ) : EReal) = _
    rw [toInt_ofNat_of_lt (by omega)]
    simp
  rw [hs]

end Cert.KernelIdeal.Gen
end
-- ==== Proof.PrepNet.lean ====
/- The two preparing calls: what each leaves in its output block, at an index. -/
module

public import proofs.«01_k».proof.Proof.RunFrame
public import Idealize.ShloMosaic.Lib.Pointwise
public import Idealize.ShloMosaic.Lib.IdealHost
public import Idealize.ShloMosaic.Lib.Pipeline.ValueKit.Tiles
public import Idealize.ShloMosaic.Lib.WordCmp

@[expose] public section

set_option maxRecDepth 16384

noncomputable section

namespace Cert.KernelIdeal.Gen

open Idealize Idealize.ShloMosaic Idealize.SL.Sem Idealize.SL
open Cert.KernelIdeal Facts

/-! ### The exchange network of the preparing calls -/

/-- The codes of a block at feature `d` and token `n` (nought past the block's end). -/
def cod (x0 : Vec Ideal S1x64x1024 .fp8e4m3) (d : Fin 64) (n : ℕ) : EReal :=
  if h : n < 1024 then x0 (ix3 0 d ⟨n, h⟩) else 0

/-- The vector `v` holds, at feature `d` and lane `l`, the code of token `p l`. -/
def Reads (x0 : Vec Ideal S1x64x1024 .fp8e4m3) (v : FVec Ideal S64x128 .f32) (p : ℕ → ℕ) : Prop :=
  ∀ (d : Fin 64) (l : Fin 128), v (ix2 d l) = cod x0 d (p l.val)

/-- The mask `m` picks the lanes whose number has no bit `k`. -/
def Mask (m : IVec S64x128 1) (k : ℕ) : Prop :=
  ∀ (d : Fin 64) (l : Fin 128), m (ix2 d l) = if l.val / k % 2 = 0 then 1#1 else 0#1

variable {x0 : Vec Ideal S1x64x1024 .fp8e4m3} {m : IVec S64x128 1} {a b : FVec Ideal S64x128 .f32} {pa pb : ℕ → ℕ}

/-- The lower half of the exchange at distance 4. -/
theorem low4 (hm : Mask m 4) (ha : Reads x0 a pa) (hb : Reads x0 b pb) :
    Reads x0 (select m a (dynamicRotate 1 4#32 none b rotates_S64x128_d1)) (fun l => if l / 4 % 2 = 0 then pa l else pb (l - 4)) := by
  intro d l
  pointwise
  rw [hm d l]
  by_cases h : l.val / 4 % 2 = 0
  · simp only [h, if_true]; exact ha d l
  · simp only [h, if_false]
    have e : ∀ (i : Fin 128), i.val = l.val - 4 → b (ix2 d i) = cod x0 d (pb (l.val - 4)) := fun i hi => by rw [hb d i, hi]
    apply e
    simp
    omega

/-- The upper half of the exchange at distance 4. -/
theorem high4 (hm : Mask m 4) (ha : Reads x0 a pa) (hb : Reads x0 b pb) :
    Reads x0 (select m (dynamicRotate 1 124#32 none a rotates_S64x128_d1) b) (fun l => if l / 4 % 2 = 0 then pa (l + 4) else pb l) := by
  intro d l
  pointwise
  rw [hm d l]
  by_cases h : l.val / 4 % 2 = 0
  · simp only [h, if_true]
    have e : ∀ (i : Fin 128), i.val = l.val + 4 → a (ix2 d i) = cod x0 d (pa (l.val + 4)) := fun i hi => by rw [ha d i, hi]
    apply e
    simp
    omega
  · simp only [h, if_false]; exact hb d l

/-- The lower half of the exchange at distance 2. -/
theorem low2 (hm : Mask m 2) (ha : Reads x0 a pa) (hb : Reads x0 b pb) :
    Reads x0 (select m a (dynamicRotate 1 2#32 none b rotates_S64x128_d1)) (fun l => if l / 2 % 2 = 0 then pa l else pb (l - 2)) := by
  intro d l
  pointwise
  rw [hm d l]
  by_cases h : l.val / 2 % 2 = 0
  · simp only [h, if_true]; exact ha d l
  · simp only [h, if_false]
    have e : ∀ (i : Fin 128), i.val = l.val - 2 → b (ix2 d i) = cod x0 d (pb (l.val - 2)) := fun i hi => by rw [hb d i, hi]
    apply e
    simp
    omega

/-- The upper half of the exchange at distance 2. -/
theorem high2 (hm : Mask m 2) (ha : Reads x0 a pa) (hb : Reads x0 b pb) :
    Reads x0 (select m (dynamicRotate 1 126#32 none a rotates_S64x128_d1) b) (fun l => if l / 2 % 2 = 0 then pa (l + 2) else pb l) := by
  intro d l
  pointwise
  rw [hm d l]
  by_cases h : l.val / 2 % 2 = 0
  · simp only [h, if_true]
    have e : ∀ (i : Fin 128), i.val = l.val + 2 → a (ix2 d i) = cod x0 d (pa (l.val + 2)) := fun i hi => by rw [ha d i, hi]
    apply e
    simp
    omega
  · simp only [h, if_false]; exact hb d l

/-- The lower half of the exchange at distance 1. -/
theorem low1 (hm : Mask m 1) (ha : Reads x0 a pa) (hb : Reads x0 b pb) :
    Reads x0 (select m a (dynamicRotate 1 1#32 none b rotates_S64x128_d1)) (fun l => if l / 1 % 2 = 0 then pa l else pb (l - 1)) := by
  intro d l
  pointwise
  rw [hm d l]
  by_cases h : l.val % 2 = 0
  · simp only [Nat.div_one, h, if_true]; exact ha d l
  · simp only [Nat.div_one, h, if_false]
    have e : ∀ (i : Fin 128), i.val = l.val - 1 → b (ix2 d i) = cod x0 d (pb (l.val - 1)) := fun i hi => by rw [hb d i, hi]
    apply e
    simp
    omega

/-- The upper half of the exchange at distance 1. -/
theorem high1 (hm : Mask m 1) (ha : Reads x0 a pa) (hb : Reads x0 b pb) :
    Reads x0 (select m (dynamicRotate 1 127#32 none a rotates_S64x128_d1) b) (fun l => if l / 1 % 2 = 0 then pa (l + 1) else pb l) := by
  intro d l
  pointwise
  rw [hm d l]
  by_cases h : l.val % 2 = 0
  · simp only [Nat.div_one, h, if_true]
    have e : ∀ (i : Fin 128), i.val = l.val + 1 → a (ix2 d i) = cod x0 d (pa (l.val + 1)) := fun i hi => by rw [ha d i, hi]
    apply e
    simp
    omega
  · simp only [Nat.div_one, h, if_false]; exact hb d l

/-- The mask of the exchange at distance 4. -/
theorem mask0_4 : Mask (k0_pay11) 4 := by
  intro d l
  pointwise [k0_pay11]
  revert l
  decide +kernel

/-- The mask of the exchange at distance 2. -/
theorem mask0_2 : Mask (k0_pay20) 2 := by
  intro d l
  pointwise [k0_pay20]
  revert l
  decide +kernel

/-- The mask of the exchange at distance 1. -/
theorem mask0_1 : Mask (k0_pay29 (iota .tc S64x128 32 [1] iota_S64x128_d1_w32)) 1 := by
  intro d l
  pointwise [k0_pay29]
  revert l
  decide +kernel

/-- Slice 0 of the block's codes. -/
theorem slice0_0 (x0 : Vec Ideal S1x64x1024 .fp8e4m3) : Reads x0 (k0_pay3 (View.ld x0 r0_0)) (fun l => 0 * 128 + l) := by
  intro d l
  have hl : 0 * 128 + l.val < 1024 := by omega
  show _ = cod x0 d (0 * 128 + l.val)
  unfold cod
  rw [dif_pos hl]
  pointwise [k0_pay3, k0_pay2]

/-- Slice 1 of the block's codes. -/
theorem slice0_1 (x0 : Vec Ideal S1x64x1024 .fp8e4m3) : Reads x0 (k0_pay4 (View.ld x0 r0_0)) (fun l => 1 * 128 + l) := by
  intro d l
  have hl : 1 * 128 + l.val < 1024 := by omega
  show _ = cod x0 d (1 * 128 + l.val)
  unfold cod
  rw [dif_pos hl]
  pointwise [k0_pay4, k0_pay2]

/-- Slice 2 of the block's codes. -/
theorem slice0_2 (x0 : Vec Ideal S1x64x1024 .fp8e4m3) : Reads x0 (k0_pay5 (View.ld x0 r0_0)) (fun l => 2 * 128 + l) := by
  intro d l
  have hl : 2 * 128 + l.val < 1024 := by omega
  show _ = cod x0 d (2 * 128 + l.val)
  unfold cod
  rw [dif_pos hl]
  pointwise [k0_pay5, k0_pay2]

/-- Slice 3 of the block's codes. -/
theorem slice0_3 (x0 : Vec Ideal S1x64x1024 .fp8e4m3) : Reads x0 (k0_pay6 (View.ld x0 r0_0)) (fun l => 3 * 128 + l) := by
  intro d l
  have hl : 3 * 128 + l.val < 1024 := by omega
  show _ = cod x0 d (3 * 128 + l.val)
  unfold cod
  rw [dif_pos hl]
  pointwise [k0_pay6, k0_pay2]

/-- Slice 4 of the block's codes. -/
theorem slice0_4 (x0 : Vec Ideal S1x64x1024 .fp8e4m3) : Reads x0 (k0_pay7 (View.ld x0 r0_0)) (fun l => 4 * 128 + l) := by
  intro d l
  have hl : 4 * 128 + l.val < 1024 := by omega
  show _ = cod x0 d (4 * 128 + l.val)
  unfold cod
  rw [dif_pos hl]
  pointwise [k0_pay7, k0_pay2]

/-- Slice 5 of the block's codes. -/
theorem slice0_5 (x0 : Vec Ideal S1x64x1024 .fp8e4m3) : Reads x0 (k0_pay8 (View.ld x0 r0_0)) (fun l => 5 * 128 + l) := by
  intro d l
  have hl : 5 * 128 + l.val < 1024 := by omega
  show _ = cod x0 d (5 * 128 + l.val)
  unfold cod
  rw [dif_pos hl]
  pointwise [k0_pay8, k0_pay2]

/-- Slice 6 of the block's codes. -/
theorem slice0_6 (x0 : Vec Ideal S1x64x1024 .fp8e4m3) : Reads x0 (k0_pay9 (View.ld x0 r0_0)) (fun l => 6 * 128 + l) := by
  intro d l
  have hl : 6 * 128 + l.val < 1024 := by omega
  show _ = cod x0 d (6 * 128 + l.val)
  unfold cod
  rw [dif_pos hl]
  pointwise [k0_pay9, k0_pay2]

/-- Slice 7 of the block's codes. -/
theorem slice0_7 (x0 : Vec Ideal S1x64x1024 .fp8e4m3) : Reads x0 (k0_pay10 (View.ld x0 r0_0)) (fun l => 7 * 128 + l) := by
  intro d l
  have hl : 7 * 128 + l.val < 1024 := by omega
  show _ = cod x0 d (7 * 128 + l.val)
  unfold cod
  rw [dif_pos hl]
  pointwise [k0_pay10, k0_pay2]

/-- After the exchanges vector 0 holds, in lane `8 c + g`, token `128 g + 8 c + 0`. -/
theorem net0_0 (x0 : Vec Ideal S1x64x1024 .fp8e4m3) (x1 : Vec Ideal S1x1x8x128 .f32) :
    Reads x0 (select (k0_pay29 (k0_pay44 x0 x1)) (k0_pay52 x0 x1) (dynamicRotate 1 1#32 none (k0_pay23 (k0_pay46 x0 x1) (k0_pay49 x0 x1) (k0_pay51 x0 x1) 2#32) rotates_S64x128_d1)) (fun l => l % 8 * 128 + l / 8 * 8 + 0) := by
  have h := low1 mask0_1 (low2 mask0_2 (low4 mask0_4 (slice0_0 x0) (slice0_4 x0)) (low4 mask0_4 (slice0_2 x0) (slice0_6 x0))) (low2 mask0_2 (low4 mask0_4 (slice0_1 x0) (slice0_5 x0)) (low4 mask0_4 (slice0_3 x0) (slice0_7 x0)))
  intro d l
  refine (h d l).trans (congrArg (cod x0 d) ?_)
  have := l.isLt
  simp only []
  split_ifs <;> omega

/-- After the exchanges vector 1 holds, in lane `8 c + g`, token `128 g + 8 c + 1`. -/
theorem net0_1 (x0 : Vec Ideal S1x64x1024 .fp8e4m3) (x1 : Vec Ideal S1x1x8x128 .f32) :
    Reads x0 (k0_pay30 (k0_pay44 x0 x1) (k0_pay46 x0 x1) (k0_pay49 x0 x1) (k0_pay51 x0 x1) (k0_pay52 x0 x1) 2#32) (fun l => l % 8 * 128 + l / 8 * 8 + 1) := by
  have h := high1 mask0_1 (low2 mask0_2 (low4 mask0_4 (slice0_0 x0) (slice0_4 x0)) (low4 mask0_4 (slice0_2 x0) (slice0_6 x0))) (low2 mask0_2 (low4 mask0_4 (slice0_1 x0) (slice0_5 x0)) (low4 mask0_4 (slice0_3 x0) (slice0_7 x0)))
  intro d l
  refine (h d l).trans (congrArg (cod x0 d) ?_)
  have := l.isLt
  simp only []
  split_ifs <;> omega

/-- After the exchanges vector 2 holds, in lane `8 c + g`, token `128 g + 8 c + 2`. -/
theorem net0_2 (x0 : Vec Ideal S1x64x1024 .fp8e4m3) (x1 : Vec Ideal S1x1x8x128 .f32) :
    Reads x0 (k0_pay31 (k0_pay44 x0 x1) (k0_pay46 x0 x1) (k0_pay49 x0 x1) (k0_pay51 x0 x1) (k0_pay53 x0 x1)) (fun l => l % 8 * 128 + l / 8 * 8 + 2) := by
  have h := low1 mask0_1 (high2 mask0_2 (low4 mask0_4 (slice0_0 x0) (slice0_4 x0)) (low4 mask0_4 (slice0_2 x0) (slice0_6 x0))) (high2 mask0_2 (low4 mask0_4 (slice0_1 x0) (slice0_5 x0)) (low4 mask0_4 (slice0_3 x0) (slice0_7 x0)))
  intro d l
  refine (h d l).trans (congrArg (cod x0 d) ?_)
  have := l.isLt
  simp only []
  split_ifs <;> omega

/-- After the exchanges vector 3 holds, in lane `8 c + g`, token `128 g + 8 c + 3`. -/
theorem net0_3 (x0 : Vec Ideal S1x64x1024 .fp8e4m3) (x1 : Vec Ideal S1x1x8x128 .f32) :
    Reads x0 (k0_pay32 (k0_pay44 x0 x1) (k0_pay46 x0 x1) (k0_pay49 x0 x1) (k0_pay51 x0 x1) (k0_pay53 x0 x1)) (fun l => l % 8 * 128 + l / 8 * 8 + 3) := by
  have h := high1 mask0_1 (high2 mask0_2 (low4 mask0_4 (slice0_0 x0) (slice0_4 x0)) (low4 mask0_4 (slice0_2 x0) (slice0_6 x0))) (high2 mask0_2 (low4 mask0_4 (slice0_1 x0) (slice0_5 x0)) (low4 mask0_4 (slice0_3 x0) (slice0_7 x0)))
  intro d l
  refine (h d l).trans (congrArg (cod x0 d) ?_)
  have := l.isLt
  simp only []
  split_ifs <;> omega

/-- After the exchanges vector 4 holds, in lane `8 c + g`, token `128 g + 8 c + 4`. -/
theorem net0_4 (x0 : Vec Ideal S1x64x1024 .fp8e4m3) (x1 : Vec Ideal S1x1x8x128 .f32) :
    Reads x0 (k0_pay33 (k0_pay44 x0 x1) (k0_pay45 x0 x1) (k0_pay47 x0 x1) (k0_pay48 x0 x1) (k0_pay50 x0 x1) (k0_pay51 x0 x1)) (fun l => l % 8 * 128 + l / 8 * 8 + 4) := by
  have h := low1 mask0_1 (low2 mask0_2 (high4 mask0_4 (slice0_0 x0) (slice0_4 x0)) (high4 mask0_4 (slice0_2 x0) (slice0_6 x0))) (low2 mask0_2 (high4 mask0_4 (slice0_1 x0) (slice0_5 x0)) (high4 mask0_4 (slice0_3 x0) (slice0_7 x0)))
  intro d l
  refine (h d l).trans (congrArg (cod x0 d) ?_)
  have := l.isLt
  simp only []
  split_ifs <;> omega

/-- After the exchanges vector 5 holds, in lane `8 c + g`, token `128 g + 8 c + 5`. -/
theorem net0_5 (x0 : Vec Ideal S1x64x1024 .fp8e4m3) (x1 : Vec Ideal S1x1x8x128 .f32) :
    Reads x0 (k0_pay34 (k0_pay44 x0 x1) (k0_pay45 x0 x1) (k0_pay47 x0 x1) (k0_pay48 x0 x1) (k0_pay50 x0 x1) (k0_pay51 x0 x1)) (fun l => l % 8 * 128 + l / 8 * 8 + 5) := by
  have h := high1 mask0_1 (low2 mask0_2 (high4 mask0_4 (slice0_0 x0) (slice0_4 x0)) (high4 mask0_4 (slice0_2 x0) (slice0_6 x0))) (low2 mask0_2 (high4 mask0_4 (slice0_1 x0) (slice0_5 x0)) (high4 mask0_4 (slice0_3 x0) (slice0_7 x0)))
  intro d l
  refine (h d l).trans (congrArg (cod x0 d) ?_)
  have := l.isLt
  simp only []
  split_ifs <;> omega

/-- After the exchanges vector 6 holds, in lane `8 c + g`, token `128 g + 8 c + 6`. -/
theorem net0_6 (x0 : Vec Ideal S1x64x1024 .fp8e4m3) (x1 : Vec Ideal S1x1x8x128 .f32) :
    Reads x0 (k0_pay35 (k0_pay44 x0 x1) (k0_pay45 x0 x1) (k0_pay47 x0 x1) (k0_pay48 x0 x1) (k0_pay50 x0 x1) (k0_pay51 x0 x1)) (fun l => l % 8 * 128 + l / 8 * 8 + 6) := by
  have h := low1 mask0_1 (high2 mask0_2 (high4 mask0_4 (slice0_0 x0) (slice0_4 x0)) (high4 mask0_4 (slice0_2 x0) (slice0_6 x0))) (high2 mask0_2 (high4 mask0_4 (slice0_1 x0) (slice0_5 x0)) (high4 mask0_4 (slice0_3 x0) (slice0_7 x0)))
  intro d l
  refine (h d l).trans (congrArg (cod x0 d) ?_)
  have := l.isLt
  simp only []
  split_ifs <;> omega

/-- After the exchanges vector 7 holds, in lane `8 c + g`, token `128 g + 8 c + 7`. -/
theorem net0_7 (x0 : Vec Ideal S1x64x1024 .fp8e4m3) (x1 : Vec Ideal S1x1x8x128 .f32) :
    Reads x0 (k0_pay36 (k0_pay44 x0 x1) (k0_pay45 x0 x1) (k0_pay47 x0 x1) (k0_pay48 x0 x1) (k0_pay50 x0 x1) (k0_pay51 x0 x1)) (fun l => l % 8 * 128 + l / 8 * 8 + 7) := by
  have h := high1 mask0_1 (high2 mask0_2 (high4 mask0_4 (slice0_0 x0) (slice0_4 x0)) (high4 mask0_4 (slice0_2 x0) (slice0_6 x0))) (high2 mask0_2 (high4 mask0_4 (slice0_1 x0) (slice0_5 x0)) (high4 mask0_4 (slice0_3 x0) (slice0_7 x0)))
  intro d l
  refine (h d l).trans (congrArg (cod x0 d) ?_)
  have := l.isLt
  simp only []
  split_ifs <;> omega

/-- The mask of the exchange at distance 4. -/
theorem mask1_4 : Mask (k1_pay11) 4 := by
  intro d l
  pointwise [k1_pay11]
  revert l
  decide +kernel

/-- The mask of the exchange at distance 2. -/
theorem mask1_2 : Mask (k1_pay20) 2 := by
  intro d l
  pointwise [k1_pay20]
  revert l
  decide +kernel

/-- The mask of the exchange at distance 1. -/
theorem mask1_1 : Mask (k1_pay29 (iota .tc S64x128 32 [1] iota_S64x128_d1_w32)) 1 := by
  intro d l
  pointwise [k1_pay29]
  revert l
  decide +kernel

/-- Slice 0 of the block's codes. -/
theorem slice1_0 (x0 : Vec Ideal S1x64x1024 .fp8e4m3) : Reads x0 (k1_pay3 (View.ld x0 r1_0)) (fun l => 0 * 128 + l) := by
  intro d l
  have hl : 0 * 128 + l.val < 1024 := by omega
  show _ = cod x0 d (0 * 128 + l.val)
  unfold cod
  rw [dif_pos hl]
  pointwise [k1_pay3, k1_pay2]

/-- Slice 1 of the block's codes. -/
theorem slice1_1 (x0 : Vec Ideal S1x64x1024 .fp8e4m3) : Reads x0 (k1_pay4 (View.ld x0 r1_0)) (fun l => 1 * 128 + l) := by
  intro d l
  have hl : 1 * 128 + l.val < 1024 := by omega
  show _ = cod x0 d (1 * 128 + l.val)
  unfold cod
  rw [dif_pos hl]
  pointwise [k1_pay4, k1_pay2]

/-- Slice 2 of the block's codes. -/
theorem slice1_2 (x0 : Vec Ideal S1x64x1024 .fp8e4m3) : Reads x0 (k1_pay5 (View.ld x0 r1_0)) (fun l => 2 * 128 + l) := by
  intro d l
  have hl : 2 * 128 + l.val < 1024 := by omega
  show _ = cod x0 d (2 * 128 + l.val)
  unfold cod
  rw [dif_pos hl]
  pointwise [k1_pay5, k1_pay2]

/-- Slice 3 of the block's codes. -/
theorem slice1_3 (x0 : Vec Ideal S1x64x1024 .fp8e4m3) : Reads x0 (k1_pay6 (View.ld x0 r1_0)) (fun l => 3 * 128 + l) := by
  intro d l
  have hl : 3 * 128 + l.val < 1024 := by omega
  show _ = cod x0 d (3 * 128 + l.val)
  unfold cod
  rw [dif_pos hl]
  pointwise [k1_pay6, k1_pay2]

/-- Slice 4 of the block's codes. -/
theorem slice1_4 (x0 : Vec Ideal S1x64x1024 .fp8e4m3) : Reads x0 (k1_pay7 (View.ld x0 r1_0)) (fun l => 4 * 128 + l) := by
  intro d l
  have hl : 4 * 128 + l.val < 1024 := by omega
  show _ = cod x0 d (4 * 128 + l.val)
  unfold cod
  rw [dif_pos hl]
  pointwise [k1_pay7, k1_pay2]

/-- Slice 5 of the block's codes. -/
theorem slice1_5 (x0 : Vec Ideal S1x64x1024 .fp8e4m3) : Reads x0 (k1_pay8 (View.ld x0 r1_0)) (fun l => 5 * 128 + l) := by
  intro d l
  have hl : 5 * 128 + l.val < 1024 := by omega
  show _ = cod x0 d (5 * 128 + l.val)
  unfold cod
  rw [dif_pos hl]
  pointwise [k1_pay8, k1_pay2]

/-- Slice 6 of the block's codes. -/
theorem slice1_6 (x0 : Vec Ideal S1x64x1024 .fp8e4m3) : Reads x0 (k1_pay9 (View.ld x0 r1_0)) (fun l => 6 * 128 + l) := by
  intro d l
  have hl : 6 * 128 + l.val < 1024 := by omega
  show _ = cod x0 d (6 * 128 + l.val)
  unfold cod
  rw [dif_pos hl]
  pointwise [k1_pay9, k1_pay2]

/-- Slice 7 of the block's codes. -/
theorem slice1_7 (x0 : Vec Ideal S1x64x1024 .fp8e4m3) : Reads x0 (k1_pay10 (View.ld x0 r1_0)) (fun l => 7 * 128 + l) := by
  intro d l
  have hl : 7 * 128 + l.val < 1024 := by omega
  show _ = cod x0 d (7 * 128 + l.val)
  unfold cod
  rw [dif_pos hl]
  pointwise [k1_pay10, k1_pay2]

/-- After the exchanges vector 0 holds, in lane `8 c + g`, token `128 g + 8 c + 0`. -/
theorem net1_0 (x0 : Vec Ideal S1x64x1024 .fp8e4m3) (x1 : Vec Ideal S1x1x8x128 .f32) :
    Reads x0 (select (k1_pay29 (k1_pay44 x0 x1)) (k1_pay52 x0 x1) (dynamicRotate 1 1#32 none (k1_pay23 (k1_pay46 x0 x1) (k1_pay49 x0 x1) (k1_pay51 x0 x1) 2#32) rotates_S64x128_d1)) (fun l => l % 8 * 128 + l / 8 * 8 + 0) := by
  have h := low1 mask1_1 (low2 mask1_2 (low4 mask1_4 (slice1_0 x0) (slice1_4 x0)) (low4 mask1_4 (slice1_2 x0) (slice1_6 x0))) (low2 mask1_2 (low4 mask1_4 (slice1_1 x0) (slice1_5 x0)) (low4 mask1_4 (slice1_3 x0) (slice1_7 x0)))
  intro d l
  refine (h d l).trans (congrArg (cod x0 d) ?_)
  have := l.isLt
  simp only []
  split_ifs <;> omega

/-- After the exchanges vector 1 holds, in lane `8 c + g`, token `128 g + 8 c + 1`. -/
theorem net1_1 (x0 : Vec Ideal S1x64x1024 .fp8e4m3) (x1 : Vec Ideal S1x1x8x128 .f32) :
    Reads x0 (k1_pay30 (k1_pay44 x0 x1) (k1_pay46 x0 x1) (k1_pay49 x0 x1) (k1_pay51 x0 x1) (k1_pay52 x0 x1) 2#32) (fun l => l % 8 * 128 + l / 8 * 8 + 1) := by
  have h := high1 mask1_1 (low2 mask1_2 (low4 mask1_4 (slice1_0 x0) (slice1_4 x0)) (low4 mask1_4 (slice1_2 x0) (slice1_6 x0))) (low2 mask1_2 (low4 mask1_4 (slice1_1 x0) (slice1_5 x0)) (low4 mask1_4 (slice1_3 x0) (slice1_7 x0)))
  intro d l
  refine (h d l).trans (congrArg (cod x0 d) ?_)
  have := l.isLt
  simp only []
  split_ifs <;> omega

/-- After the exchanges vector 2 holds, in lane `8 c + g`, token `128 g + 8 c + 2`. -/
theorem net1_2 (x0 : Vec Ideal S1x64x1024 .fp8e4m3) (x1 : Vec Ideal S1x1x8x128 .f32) :
    Reads x0 (k1_pay31 (k1_pay44 x0 x1) (k1_pay46 x0 x1) (k1_pay49 x0 x1) (k1_pay51 x0 x1) (k1_pay53 x0 x1)) (fun l => l % 8 * 128 + l / 8 * 8 + 2) := by
  have h := low1 mask1_1 (high2 mask1_2 (low4 mask1_4 (slice1_0 x0) (slice1_4 x0)) (low4 mask1_4 (slice1_2 x0) (slice1_6 x0))) (high2 mask1_2 (low4 mask1_4 (slice1_1 x0) (slice1_5 x0)) (low4 mask1_4 (slice1_3 x0) (slice1_7 x0)))
  intro d l
  refine (h d l).trans (congrArg (cod x0 d) ?_)
  have := l.isLt
  simp only []
  split_ifs <;> omega

/-- After the exchanges vector 3 holds, in lane `8 c + g`, token `128 g + 8 c + 3`. -/
theorem net1_3 (x0 : Vec Ideal S1x64x1024 .fp8e4m3) (x1 : Vec Ideal S1x1x8x128 .f32) :
    Reads x0 (k1_pay32 (k1_pay44 x0 x1) (k1_pay46 x0 x1) (k1_pay49 x0 x1) (k1_pay51 x0 x1) (k1_pay53 x0 x1)) (fun l => l % 8 * 128 + l / 8 * 8 + 3) := by
  have h := high1 mask1_1 (high2 mask1_2 (low4 mask1_4 (slice1_0 x0) (slice1_4 x0)) (low4 mask1_4 (slice1_2 x0) (slice1_6 x0))) (high2 mask1_2 (low4 mask1_4 (slice1_1 x0) (slice1_5 x0)) (low4 mask1_4 (slice1_3 x0) (slice1_7 x0)))
  intro d l
  refine (h d l).trans (congrArg (cod x0 d) ?_)
  have := l.isLt
  simp only []
  split_ifs <;> omega

/-- After the exchanges vector 4 holds, in lane `8 c + g`, token `128 g + 8 c + 4`. -/
theorem net1_4 (x0 : Vec Ideal S1x64x1024 .fp8e4m3) (x1 : Vec Ideal S1x1x8x128 .f32) :
    Reads x0 (k1_pay33 (k1_pay44 x0 x1) (k1_pay45 x0 x1) (k1_pay47 x0 x1) (k1_pay48 x0 x1) (k1_pay50 x0 x1) (k1_pay51 x0 x1)) (fun l => l % 8 * 128 + l / 8 * 8 + 4) := by
  have h := low1 mask1_1 (low2 mask1_2 (high4 mask1_4 (slice1_0 x0) (slice1_4 x0)) (high4 mask1_4 (slice1_2 x0) (slice1_6 x0))) (low2 mask1_2 (high4 mask1_4 (slice1_1 x0) (slice1_5 x0)) (high4 mask1_4 (slice1_3 x0) (slice1_7 x0)))
  intro d l
  refine (h d l).trans (congrArg (cod x0 d) ?_)
  have := l.isLt
  simp only []
  split_ifs <;> omega

/-- After the exchanges vector 5 holds, in lane `8 c + g`, token `128 g + 8 c + 5`. -/
theorem net1_5 (x0 : Vec Ideal S1x64x1024 .fp8e4m3) (x1 : Vec Ideal S1x1x8x128 .f32) :
    Reads x0 (k1_pay34 (k1_pay44 x0 x1) (k1_pay45 x0 x1) (k1_pay47 x0 x1) (k1_pay48 x0 x1) (k1_pay50 x0 x1) (k1_pay51 x0 x1)) (fun l => l % 8 * 128 + l / 8 * 8 + 5) := by
  have h := high1 mask1_1 (low2 mask1_2 (high4 mask1_4 (slice1_0 x0) (slice1_4 x0)) (high4 mask1_4 (slice1_2 x0) (slice1_6 x0))) (low2 mask1_2 (high4 mask1_4 (slice1_1 x0) (slice1_5 x0)) (high4 mask1_4 (slice1_3 x0) (slice1_7 x0)))
  intro d l
  refine (h d l).trans (congrArg (cod x0 d) ?_)
  have := l.isLt
  simp only []
  split_ifs <;> omega

/-- After the exchanges vector 6 holds, in lane `8 c + g`, token `128 g + 8 c + 6`. -/
theorem net1_6 (x0 : Vec Ideal S1x64x1024 .fp8e4m3) (x1 : Vec Ideal S1x1x8x128 .f32) :
    Reads x0 (k1_pay35 (k1_pay44 x0 x1) (k1_pay45 x0 x1) (k1_pay47 x0 x1) (k1_pay48 x0 x1) (k1_pay50 x0 x1) (k1_pay51 x0 x1)) (fun l => l % 8 * 128 + l / 8 * 8 + 6) := by
  have h := low1 mask1_1 (high2 mask1_2 (high4 mask1_4 (slice1_0 x0) (slice1_4 x0)) (high4 mask1_4 (slice1_2 x0) (slice1_6 x0))) (high2 mask1_2 (high4 mask1_4 (slice1_1 x0) (slice1_5 x0)) (high4 mask1_4 (slice1_3 x0) (slice1_7 x0)))
  intro d l
  refine (h d l).trans (congrArg (cod x0 d) ?_)
  have := l.isLt
  simp only []
  split_ifs <;> omega

/-- After the exchanges vector 7 holds, in lane `8 c + g`, token `128 g + 8 c + 7`. -/
theorem net1_7 (x0 : Vec Ideal S1x64x1024 .fp8e4m3) (x1 : Vec Ideal S1x1x8x128 .f32) :
    Reads x0 (k1_pay36 (k1_pay44 x0 x1) (k1_pay45 x0 x1) (k1_pay47 x0 x1) (k1_pay48 x0 x1) (k1_pay50 x0 x1) (k1_pay51 x0 x1)) (fun l => l % 8 * 128 + l / 8 * 8 + 7) := by
  have h := high1 mask1_1 (high2 mask1_2 (high4 mask1_4 (slice1_0 x0) (slice1_4 x0)) (high4 mask1_4 (slice1_2 x0) (slice1_6 x0))) (high2 mask1_2 (high4 mask1_4 (slice1_1 x0) (slice1_5 x0)) (high4 mask1_4 (slice1_3 x0) (slice1_7 x0)))
  intro d l
  refine (h d l).trans (congrArg (cod x0 d) ?_)
  have := l.isLt
  simp only []
  split_ifs <;> omega

end Cert.KernelIdeal.Gen
-- ==== Proof.PrepIdeal.lean ====
/- The two preparing calls: what each leaves in its output block, at an index. -/
module

public import proofs.«01_k».proof.Proof.PrepNet
public import Idealize.ShloMosaic.Lib.Pointwise
public import Idealize.ShloMosaic.Lib.IdealHost
public import Idealize.ShloMosaic.Lib.Pipeline.ValueKit.Tiles
public import Idealize.ShloMosaic.Lib.WordCmp

@[expose] public section

set_option maxRecDepth 16384

noncomputable section

namespace Cert.KernelIdeal.Gen

open Idealize Idealize.ShloMosaic Idealize.SL.Sem Idealize.SL
open Cert.KernelIdeal Facts

/-! ### The output block of each preparing call, at an index -/

/-- The stack of eight vectors, read in its vector 0. -/
theorem cat0 (a0 a1 a2 a3 a4 a5 a6 a7 : FVec Ideal S64x128 .bf16) (d : Fin 64) (l : Fin 128) (r : Fin 512) (hr : r.val = 0 * 64 + d.val) :
    concatenate S512x128 0 [⟨S64x128, a0⟩, ⟨S64x128, a1⟩, ⟨S64x128, a2⟩, ⟨S64x128, a3⟩, ⟨S64x128, a4⟩, ⟨S64x128, a5⟩, ⟨S64x128, a6⟩, ⟨S64x128, a7⟩] concatenates_S64x128_S64x128_S64x128_S64x128_S64x128_S64x128_S64x128_S64x128_S512x128_d0 (ix2 r l) = a0 (ix2 d l) := by
  have hd := d.isLt
  pointwise
  rw [dif_pos (by omega)]
  exact congrArg (fun z => a0 (ix2 z l)) (Fin.ext (by simp only []; omega))

/-- The stack of eight vectors, read in its vector 1. -/
theorem cat1 (a0 a1 a2 a3 a4 a5 a6 a7 : FVec Ideal S64x128 .bf16) (d : Fin 64) (l : Fin 128) (r : Fin 512) (hr : r.val = 1 * 64 + d.val) :
    concatenate S512x128 0 [⟨S64x128, a0⟩, ⟨S64x128, a1⟩, ⟨S64x128, a2⟩, ⟨S64x128, a3⟩, ⟨S64x128, a4⟩, ⟨S64x128, a5⟩, ⟨S64x128, a6⟩, ⟨S64x128, a7⟩] concatenates_S64x128_S64x128_S64x128_S64x128_S64x128_S64x128_S64x128_S64x128_S512x128_d0 (ix2 r l) = a1 (ix2 d l) := by
  have hd := d.isLt
  pointwise
  rw [dif_neg (by omega)]
  rw [dif_pos (by omega)]
  exact congrArg (fun z => a1 (ix2 z l)) (Fin.ext (by simp only []; omega))

/-- The stack of eight vectors, read in its vector 2. -/
theorem cat2 (a0 a1 a2 a3 a4 a5 a6 a7 : FVec Ideal S64x128 .bf16) (d : Fin 64) (l : Fin 128) (r : Fin 512) (hr : r.val = 2 * 64 + d.val) :
    concatenate S512x128 0 [⟨S64x128, a0⟩, ⟨S64x128, a1⟩, ⟨S64x128, a2⟩, ⟨S64x128, a3⟩, ⟨S64x128, a4⟩, ⟨S64x128, a5⟩, ⟨S64x128, a6⟩, ⟨S64x128, a7⟩] concatenates_S64x128_S64x128_S64x128_S64x128_S64x128_S64x128_S64x128_S64x128_S512x128_d0 (ix2 r l) = a2 (ix2 d l) := by
  have hd := d.isLt
  pointwise
  rw [dif_neg (by omega)]
  rw [dif_neg (by omega)]
  rw [dif_pos (by omega)]
  exact congrArg (fun z => a2 (ix2 z l)) (Fin.ext (by simp only []; omega))

/-- The stack of eight vectors, read in its vector 3. -/
theorem cat3 (a0 a1 a2 a3 a4 a5 a6 a7 : FVec Ideal S64x128 .bf16) (d : Fin 64) (l : Fin 128) (r : Fin 512) (hr : r.val = 3 * 64 + d.val) :
    concatenate S512x128 0 [⟨S64x128, a0⟩, ⟨S64x128, a1⟩, ⟨S64x128, a2⟩, ⟨S64x128, a3⟩, ⟨S64x128, a4⟩, ⟨S64x128, a5⟩, ⟨S64x128, a6⟩, ⟨S64x128, a7⟩] concatenates_S64x128_S64x128_S64x128_S64x128_S64x128_S64x128_S64x128_S64x128_S512x128_d0 (ix2 r l) = a3 (ix2 d l) := by
  have hd := d.isLt
  pointwise
  rw [dif_neg (by omega)]
  rw [dif_neg (by omega)]
  rw [dif_neg (by omega)]
  rw [dif_pos (by omega)]
  exact congrArg (fun z => a3 (ix2 z l)) (Fin.ext (by simp only []; omega))

/-- The stack of eight vectors, read in its vector 4. -/
theorem cat4 (a0 a1 a2 a3 a4 a5 a6 a7 : FVec Ideal S64x128 .bf16) (d : Fin 64) (l : Fin 128) (r : Fin 512) (hr : r.val = 4 * 64 + d.val) :
    concatenate S512x128 0 [⟨S64x128, a0⟩, ⟨S64x128, a1⟩, ⟨S64x128, a2⟩, ⟨S64x128, a3⟩, ⟨S64x128, a4⟩, ⟨S64x128, a5⟩, ⟨S64x128, a6⟩, ⟨S64x128, a7⟩] concatenates_S64x128_S64x128_S64x128_S64x128_S64x128_S64x128_S64x128_S64x128_S512x128_d0 (ix2 r l) = a4 (ix2 d l) := by
  have hd := d.isLt
  pointwise
  rw [dif_neg (by omega)]
  rw [dif_neg (by omega)]
  rw [dif_neg (by omega)]
  rw [dif_neg (by omega)]
  rw [dif_pos (by omega)]
  exact congrArg (fun z => a4 (ix2 z l)) (Fin.ext (by simp only []; omega))

/-- The stack of eight vectors, read in its vector 5. -/
theorem cat5 (a0 a1 a2 a3 a4 a5 a6 a7 : FVec Ideal S64x128 .bf16) (d : Fin 64) (l : Fin 128) (r : Fin 512) (hr : r.val = 5 * 64 + d.val) :
    concatenate S512x128 0 [⟨S64x128, a0⟩, ⟨S64x128, a1⟩, ⟨S64x128, a2⟩, ⟨S64x128, a3⟩, ⟨S64x128, a4⟩, ⟨S64x128, a5⟩, ⟨S64x128, a6⟩, ⟨S64x128, a7⟩] concatenates_S64x128_S64x128_S64x128_S64x128_S64x128_S64x128_S64x128_S64x128_S512x128_d0 (ix2 r l) = a5 (ix2 d l) := by
  have hd := d.isLt
  pointwise
  rw [dif_neg (by omega)]
  rw [dif_neg (by omega)]
  rw [dif_neg (by omega)]
  rw [dif_neg (by omega)]
  rw [dif_neg (by omega)]
  rw [dif_pos (by omega)]
  exact congrArg (fun z => a5 (ix2 z l)) (Fin.ext (by simp only []; omega))

/-- The stack of eight vectors, read in its vector 6. -/
theorem cat6 (a0 a1 a2 a3 a4 a5 a6 a7 : FVec Ideal S64x128 .bf16) (d : Fin 64) (l : Fin 128) (r : Fin 512) (hr : r.val = 6 * 64 + d.val) :
    concatenate S512x128 0 [⟨S64x128, a0⟩, ⟨S64x128, a1⟩, ⟨S64x128, a2⟩, ⟨S64x128, a3⟩, ⟨S64x128, a4⟩, ⟨S64x128, a5⟩, ⟨S64x128, a6⟩, ⟨S64x128, a7⟩] concatenates_S64x128_S64x128_S64x128_S64x128_S64x128_S64x128_S64x128_S64x128_S512x128_d0 (ix2 r l) = a6 (ix2 d l) := by
  have hd := d.isLt
  pointwise
  rw [dif_neg (by omega)]
  rw [dif_neg (by omega)]
  rw [dif_neg (by omega)]
  rw [dif_neg (by omega)]
  rw [dif_neg (by omega)]
  rw [dif_neg (by omega)]
  rw [dif_pos (by omega)]
  exact congrArg (fun z => a6 (ix2 z l)) (Fin.ext (by simp only []; omega))

/-- The stack of eight vectors, read in its vector 7. -/
theorem cat7 (a0 a1 a2 a3 a4 a5 a6 a7 : FVec Ideal S64x128 .bf16) (d : Fin 64) (l : Fin 128) (r : Fin 512) (hr : r.val = 7 * 64 + d.val) :
    concatenate S512x128 0 [⟨S64x128, a0⟩, ⟨S64x128, a1⟩, ⟨S64x128, a2⟩, ⟨S64x128, a3⟩, ⟨S64x128, a4⟩, ⟨S64x128, a5⟩, ⟨S64x128, a6⟩, ⟨S64x128, a7⟩] concatenates_S64x128_S64x128_S64x128_S64x128_S64x128_S64x128_S64x128_S64x128_S512x128_d0 (ix2 r l) = a7 (ix2 d l) := by
  have hd := d.isLt
  pointwise
  rw [dif_neg (by omega)]
  rw [dif_neg (by omega)]
  rw [dif_neg (by omega)]
  rw [dif_neg (by omega)]
  rw [dif_neg (by omega)]
  rw [dif_neg (by omega)]
  rw [dif_neg (by omega)]
  exact congrArg (fun z => a7 (ix2 z l)) (Fin.ext (by simp only []; omega))

/-- The scaled vector 0, at an index. -/
theorem part0_0 (x0 : Vec Ideal S1x64x1024 .fp8e4m3) (x1 : Vec Ideal S1x1x8x128 .f32) (d : Fin 64) (l : Fin 128) :
    (k0_pay43 (select (k0_pay29 (k0_pay44 x0 x1)) (k0_pay52 x0 x1) (dynamicRotate 1 1#32 none (k0_pay23 (k0_pay46 x0 x1) (k0_pay49 x0 x1) (k0_pay51 x0 x1) 2#32) rotates_S64x128_d1)) (View.ld x1 r0_1) : FVec Ideal S64x128 .bf16) (ix2 d l) = cod x0 d (l.val % 8 * 128 + l.val / 8 * 8 + 0) * x1 (ix4 0 0 0 l) := by
  rw [← net0_0 x0 x1 d l]
  generalize select (k0_pay29 (k0_pay44 x0 x1)) (k0_pay52 x0 x1) (dynamicRotate 1 1#32 none (k0_pay23 (k0_pay46 x0 x1) (k0_pay49 x0 x1) (k0_pay51 x0 x1) 2#32) rotates_S64x128_d1) = v
  pointwise [k0_pay43]

/-- The scaled vector 1, at an index. -/
theorem part0_1 (x0 : Vec Ideal S1x64x1024 .fp8e4m3) (x1 : Vec Ideal S1x1x8x128 .f32) (d : Fin 64) (l : Fin 128) :
    (k0_pay43 (k0_pay30 (k0_pay44 x0 x1) (k0_pay46 x0 x1) (k0_pay49 x0 x1) (k0_pay51 x0 x1) (k0_pay52 x0 x1) 2#32) (View.ld x1 r0_2) : FVec Ideal S64x128 .bf16) (ix2 d l) = cod x0 d (l.val % 8 * 128 + l.val / 8 * 8 + 1) * x1 (ix4 0 0 1 l) := by
  rw [← net0_1 x0 x1 d l]
  generalize k0_pay30 (k0_pay44 x0 x1) (k0_pay46 x0 x1) (k0_pay49 x0 x1) (k0_pay51 x0 x1) (k0_pay52 x0 x1) 2#32 = v
  pointwise [k0_pay43]

/-- The scaled vector 2, at an index. -/
theorem part0_2 (x0 : Vec Ideal S1x64x1024 .fp8e4m3) (x1 : Vec Ideal S1x1x8x128 .f32) (d : Fin 64) (l : Fin 128) :
    (k0_pay43 (k0_pay31 (k0_pay44 x0 x1) (k0_pay46 x0 x1) (k0_pay49 x0 x1) (k0_pay51 x0 x1) (k0_pay53 x0 x1)) (View.ld x1 r0_3) : FVec Ideal S64x128 .bf16) (ix2 d l) = cod x0 d (l.val % 8 * 128 + l.val / 8 * 8 + 2) * x1 (ix4 0 0 2 l) := by
  rw [← net0_2 x0 x1 d l]
  generalize k0_pay31 (k0_pay44 x0 x1) (k0_pay46 x0 x1) (k0_pay49 x0 x1) (k0_pay51 x0 x1) (k0_pay53 x0 x1) = v
  pointwise [k0_pay43]

/-- The scaled vector 3, at an index. -/
theorem part0_3 (x0 : Vec Ideal S1x64x1024 .fp8e4m3) (x1 : Vec Ideal S1x1x8x128 .f32) (d : Fin 64) (l : Fin 128) :
    (k0_pay43 (k0_pay32 (k0_pay44 x0 x1) (k0_pay46 x0 x1) (k0_pay49 x0 x1) (k0_pay51 x0 x1) (k0_pay53 x0 x1)) (View.ld x1 r0_4) : FVec Ideal S64x128 .bf16) (ix2 d l) = cod x0 d (l.val % 8 * 128 + l.val / 8 * 8 + 3) * x1 (ix4 0 0 3 l) := by
  rw [← net0_3 x0 x1 d l]
  generalize k0_pay32 (k0_pay44 x0 x1) (k0_pay46 x0 x1) (k0_pay49 x0 x1) (k0_pay51 x0 x1) (k0_pay53 x0 x1) = v
  pointwise [k0_pay43]

/-- The scaled vector 4, at an index. -/
theorem part0_4 (x0 : Vec Ideal S1x64x1024 .fp8e4m3) (x1 : Vec Ideal S1x1x8x128 .f32) (d : Fin 64) (l : Fin 128) :
    (k0_pay43 (k0_pay33 (k0_pay44 x0 x1) (k0_pay45 x0 x1) (k0_pay47 x0 x1) (k0_pay48 x0 x1) (k0_pay50 x0 x1) (k0_pay51 x0 x1)) (View.ld x1 r0_5) : FVec Ideal S64x128 .bf16) (ix2 d l) = cod x0 d (l.val % 8 * 128 + l.val / 8 * 8 + 4) * x1 (ix4 0 0 4 l) := by
  rw [← net0_4 x0 x1 d l]
  generalize k0_pay33 (k0_pay44 x0 x1) (k0_pay45 x0 x1) (k0_pay47 x0 x1) (k0_pay48 x0 x1) (k0_pay50 x0 x1) (k0_pay51 x0 x1) = v
  pointwise [k0_pay43]

/-- The scaled vector 5, at an index. -/
theorem part0_5 (x0 : Vec Ideal S1x64x1024 .fp8e4m3) (x1 : Vec Ideal S1x1x8x128 .f32) (d : Fin 64) (l : Fin 128) :
    (k0_pay43 (k0_pay34 (k0_pay44 x0 x1) (k0_pay45 x0 x1) (k0_pay47 x0 x1) (k0_pay48 x0 x1) (k0_pay50 x0 x1) (k0_pay51 x0 x1)) (View.ld x1 r0_6) : FVec Ideal S64x128 .bf16) (ix2 d l) = cod x0 d (l.val % 8 * 128 + l.val / 8 * 8 + 5) * x1 (ix4 0 0 5 l) := by
  rw [← net0_5 x0 x1 d l]
  generalize k0_pay34 (k0_pay44 x0 x1) (k0_pay45 x0 x1) (k0_pay47 x0 x1) (k0_pay48 x0 x1) (k0_pay50 x0 x1) (k0_pay51 x0 x1) = v
  pointwise [k0_pay43]

/-- The scaled vector 6, at an index. -/
theorem part0_6 (x0 : Vec Ideal S1x64x1024 .fp8e4m3) (x1 : Vec Ideal S1x1x8x128 .f32) (d : Fin 64) (l : Fin 128) :
    (k0_pay43 (k0_pay35 (k0_pay44 x0 x1) (k0_pay45 x0 x1) (k0_pay47 x0 x1) (k0_pay48 x0 x1) (k0_pay50 x0 x1) (k0_pay51 x0 x1)) (View.ld x1 r0_7) : FVec Ideal S64x128 .bf16) (ix2 d l) = cod x0 d (l.val % 8 * 128 + l.val / 8 * 8 + 6) * x1 (ix4 0 0 6 l) := by
  rw [← net0_6 x0 x1 d l]
  generalize k0_pay35 (k0_pay44 x0 x1) (k0_pay45 x0 x1) (k0_pay47 x0 x1) (k0_pay48 x0 x1) (k0_pay50 x0 x1) (k0_pay51 x0 x1) = v
  pointwise [k0_pay43]

/-- The scaled vector 7, at an index. -/
theorem part0_7 (x0 : Vec Ideal S1x64x1024 .fp8e4m3) (x1 : Vec Ideal S1x1x8x128 .f32) (d : Fin 64) (l : Fin 128) :
    (k0_pay43 (k0_pay36 (k0_pay44 x0 x1) (k0_pay45 x0 x1) (k0_pay47 x0 x1) (k0_pay48 x0 x1) (k0_pay50 x0 x1) (k0_pay51 x0 x1)) (View.ld x1 r0_8) : FVec Ideal S64x128 .bf16) (ix2 d l) = cod x0 d (l.val % 8 * 128 + l.val / 8 * 8 + 7) * x1 (ix4 0 0 7 l) := by
  rw [← net0_7 x0 x1 d l]
  generalize k0_pay36 (k0_pay44 x0 x1) (k0_pay45 x0 x1) (k0_pay47 x0 x1) (k0_pay48 x0 x1) (k0_pay50 x0 x1) (k0_pay51 x0 x1) = v
  pointwise [k0_pay43]

/-- The output block of preparing call 0 is the stack of the eight scaled vectors, the last one first. -/
theorem out0_eq (x0 : Vec Ideal S1x64x1024 .fp8e4m3) (x1 : Vec Ideal S1x1x8x128 .f32) :
    out0_2 x0 x1 = shapeCast S1x512x128 (concatenate S512x128 0 [⟨S64x128, (k0_pay43 (k0_pay36 (k0_pay44 x0 x1) (k0_pay45 x0 x1) (k0_pay47 x0 x1) (k0_pay48 x0 x1) (k0_pay50 x0 x1) (k0_pay51 x0 x1)) (View.ld x1 r0_8) : FVec Ideal S64x128 .bf16)⟩, ⟨S64x128, (k0_pay43 (k0_pay35 (k0_pay44 x0 x1) (k0_pay45 x0 x1) (k0_pay47 x0 x1) (k0_pay48 x0 x1) (k0_pay50 x0 x1) (k0_pay51 x0 x1)) (View.ld x1 r0_7) : FVec Ideal S64x128 .bf16)⟩, ⟨S64x128, (k0_pay43 (k0_pay34 (k0_pay44 x0 x1) (k0_pay45 x0 x1) (k0_pay47 x0 x1) (k0_pay48 x0 x1) (k0_pay50 x0 x1) (k0_pay51 x0 x1)) (View.ld x1 r0_6) : FVec Ideal S64x128 .bf16)⟩, ⟨S64x128, (k0_pay43 (k0_pay33 (k0_pay44 x0 x1) (k0_pay45 x0 x1) (k0_pay47 x0 x1) (k0_pay48 x0 x1) (k0_pay50 x0 x1) (k0_pay51 x0 x1)) (View.ld x1 r0_5) : FVec Ideal S64x128 .bf16)⟩, ⟨S64x128, (k0_pay43 (k0_pay32 (k0_pay44 x0 x1) (k0_pay46 x0 x1) (k0_pay49 x0 x1) (k0_pay51 x0 x1) (k0_pay53 x0 x1)) (View.ld x1 r0_4) : FVec Ideal S64x128 .bf16)⟩, ⟨S64x128, (k0_pay43 (k0_pay31 (k0_pay44 x0 x1) (k0_pay46 x0 x1) (k0_pay49 x0 x1) (k0_pay51 x0 x1) (k0_pay53 x0 x1)) (View.ld x1 r0_3) : FVec Ideal S64x128 .bf16)⟩, ⟨S64x128, (k0_pay43 (k0_pay30 (k0_pay44 x0 x1) (k0_pay46 x0 x1) (k0_pay49 x0 x1) (k0_pay51 x0 x1) (k0_pay52 x0 x1) 2#32) (View.ld x1 r0_2) : FVec Ideal S64x128 .bf16)⟩, ⟨S64x128, (k0_pay43 (select (k0_pay29 (k0_pay44 x0 x1)) (k0_pay52 x0 x1) (dynamicRotate 1 1#32 none (k0_pay23 (k0_pay46 x0 x1) (k0_pay49 x0 x1) (k0_pay51 x0 x1) 2#32) rotates_S64x128_d1)) (View.ld x1 r0_1) : FVec Ideal S64x128 .bf16)⟩] concatenates_S64x128_S64x128_S64x128_S64x128_S64x128_S64x128_S64x128_S64x128_S512x128_d0) shapeCasts_S512x128_S1x512x128 := by
  unfold out0_2
  exact View.canon_unit_zero (by funext a; fin_cases a <;> rfl) _ _

/-- The same at an index: read from the stack. -/
theorem out0_cat (x0 : Vec Ideal S1x64x1024 .fp8e4m3) (x1 : Vec Ideal S1x1x8x128 .f32) (r : Fin 512) (l : Fin 128) :
    out0_2 x0 x1 (ix3 0 r l) = concatenate S512x128 0 [⟨S64x128, (k0_pay43 (k0_pay36 (k0_pay44 x0 x1) (k0_pay45 x0 x1) (k0_pay47 x0 x1) (k0_pay48 x0 x1) (k0_pay50 x0 x1) (k0_pay51 x0 x1)) (View.ld x1 r0_8) : FVec Ideal S64x128 .bf16)⟩, ⟨S64x128, (k0_pay43 (k0_pay35 (k0_pay44 x0 x1) (k0_pay45 x0 x1) (k0_pay47 x0 x1) (k0_pay48 x0 x1) (k0_pay50 x0 x1) (k0_pay51 x0 x1)) (View.ld x1 r0_7) : FVec Ideal S64x128 .bf16)⟩, ⟨S64x128, (k0_pay43 (k0_pay34 (k0_pay44 x0 x1) (k0_pay45 x0 x1) (k0_pay47 x0 x1) (k0_pay48 x0 x1) (k0_pay50 x0 x1) (k0_pay51 x0 x1)) (View.ld x1 r0_6) : FVec Ideal S64x128 .bf16)⟩, ⟨S64x128, (k0_pay43 (k0_pay33 (k0_pay44 x0 x1) (k0_pay45 x0 x1) (k0_pay47 x0 x1) (k0_pay48 x0 x1) (k0_pay50 x0 x1) (k0_pay51 x0 x1)) (View.ld x1 r0_5) : FVec Ideal S64x128 .bf16)⟩, ⟨S64x128, (k0_pay43 (k0_pay32 (k0_pay44 x0 x1) (k0_pay46 x0 x1) (k0_pay49 x0 x1) (k0_pay51 x0 x1) (k0_pay53 x0 x1)) (View.ld x1 r0_4) : FVec Ideal S64x128 .bf16)⟩, ⟨S64x128, (k0_pay43 (k0_pay31 (k0_pay44 x0 x1) (k0_pay46 x0 x1) (k0_pay49 x0 x1) (k0_pay51 x0 x1) (k0_pay53 x0 x1)) (View.ld x1 r0_3) : FVec Ideal S64x128 .bf16)⟩, ⟨S64x128, (k0_pay43 (k0_pay30 (k0_pay44 x0 x1) (k0_pay46 x0 x1) (k0_pay49 x0 x1) (k0_pay51 x0 x1) (k0_pay52 x0 x1) 2#32) (View.ld x1 r0_2) : FVec Ideal S64x128 .bf16)⟩, ⟨S64x128, (k0_pay43 (select (k0_pay29 (k0_pay44 x0 x1)) (k0_pay52 x0 x1) (dynamicRotate 1 1#32 none (k0_pay23 (k0_pay46 x0 x1) (k0_pay49 x0 x1) (k0_pay51 x0 x1) 2#32) rotates_S64x128_d1)) (View.ld x1 r0_1) : FVec Ideal S64x128 .bf16)⟩] concatenates_S64x128_S64x128_S64x128_S64x128_S64x128_S64x128_S64x128_S64x128_S512x128_d0 (ix2 r l) := by
  rw [out0_eq]
  generalize concatenate S512x128 0 _ _ = v
  pointwise

/-- The output block of preparing call 0 at an index: the code of feature `d` of the token that lane `l` carries in
    vector `s`, times that token's scale. -/
theorem out0_at (x0 : Vec Ideal S1x64x1024 .fp8e4m3) (x1 : Vec Ideal S1x1x8x128 .f32) (s : Fin 8) (d : Fin 64) (l : Fin 128) (r : Fin 512)
    (hr : r.val = (7 - s.val) * 64 + d.val) :
    out0_2 x0 x1 (ix3 0 r l) = cod x0 d (l.val % 8 * 128 + l.val / 8 * 8 + s.val) * x1 (ix4 0 0 s l) := by
  rw [out0_cat]
  match s, hr with
  | ⟨0, _⟩, hr => exact (cat7 _ _ _ _ _ _ _ _ d l r hr).trans (part0_0 x0 x1 d l)
  | ⟨1, _⟩, hr => exact (cat6 _ _ _ _ _ _ _ _ d l r hr).trans (part0_1 x0 x1 d l)
  | ⟨2, _⟩, hr => exact (cat5 _ _ _ _ _ _ _ _ d l r hr).trans (part0_2 x0 x1 d l)
  | ⟨3, _⟩, hr => exact (cat4 _ _ _ _ _ _ _ _ d l r hr).trans (part0_3 x0 x1 d l)
  | ⟨4, _⟩, hr => exact (cat3 _ _ _ _ _ _ _ _ d l r hr).trans (part0_4 x0 x1 d l)
  | ⟨5, _⟩, hr => exact (cat2 _ _ _ _ _ _ _ _ d l r hr).trans (part0_5 x0 x1 d l)
  | ⟨6, _⟩, hr => exact (cat1 _ _ _ _ _ _ _ _ d l r hr).trans (part0_6 x0 x1 d l)
  | ⟨7, _⟩, hr => exact (cat0 _ _ _ _ _ _ _ _ d l r hr).trans (part0_7 x0 x1 d l)

/-- The scaled vector 0, at an index. -/
theorem part1_0 (x0 : Vec Ideal S1x64x1024 .fp8e4m3) (x1 : Vec Ideal S1x1x8x128 .f32) (d : Fin 64) (l : Fin 128) :
    (k1_pay43 (select (k1_pay29 (k1_pay44 x0 x1)) (k1_pay52 x0 x1) (dynamicRotate 1 1#32 none (k1_pay23 (k1_pay46 x0 x1) (k1_pay49 x0 x1) (k1_pay51 x0 x1) 2#32) rotates_S64x128_d1)) (View.ld x1 r1_1) : FVec Ideal S64x128 .bf16) (ix2 d l) = cod x0 d (l.val % 8 * 128 + l.val / 8 * 8 + 0) * x1 (ix4 0 0 0 l) := by
  rw [← net1_0 x0 x1 d l]
  generalize select (k1_pay29 (k1_pay44 x0 x1)) (k1_pay52 x0 x1) (dynamicRotate 1 1#32 none (k1_pay23 (k1_pay46 x0 x1) (k1_pay49 x0 x1) (k1_pay51 x0 x1) 2#32) rotates_S64x128_d1) = v
  pointwise [k1_pay43]

/-- The scaled vector 1, at an index. -/
theorem part1_1 (x0 : Vec Ideal S1x64x1024 .fp8e4m3) (x1 : Vec Ideal S1x1x8x128 .f32) (d : Fin 64) (l : Fin 128) :
    (k1_pay43 (k1_pay30 (k1_pay44 x0 x1) (k1_pay46 x0 x1) (k1_pay49 x0 x1) (k1_pay51 x0 x1) (k1_pay52 x0 x1) 2#32) (View.ld x1 r1_2) : FVec Ideal S64x128 .bf16) (ix2 d l) = cod x0 d (l.val % 8 * 128 + l.val / 8 * 8 + 1) * x1 (ix4 0 0 1 l) := by
  rw [← net1_1 x0 x1 d l]
  generalize k1_pay30 (k1_pay44 x0 x1) (k1_pay46 x0 x1) (k1_pay49 x0 x1) (k1_pay51 x0 x1) (k1_pay52 x0 x1) 2#32 = v
  pointwise [k1_pay43]

/-- The scaled vector 2, at an index. -/
theorem part1_2 (x0 : Vec Ideal S1x64x1024 .fp8e4m3) (x1 : Vec Ideal S1x1x8x128 .f32) (d : Fin 64) (l : Fin 128) :
    (k1_pay43 (k1_pay31 (k1_pay44 x0 x1) (k1_pay46 x0 x1) (k1_pay49 x0 x1) (k1_pay51 x0 x1) (k1_pay53 x0 x1)) (View.ld x1 r1_3) : FVec Ideal S64x128 .bf16) (ix2 d l) = cod x0 d (l.val % 8 * 128 + l.val / 8 * 8 + 2) * x1 (ix4 0 0 2 l) := by
  rw [← net1_2 x0 x1 d l]
  generalize k1_pay31 (k1_pay44 x0 x1) (k1_pay46 x0 x1) (k1_pay49 x0 x1) (k1_pay51 x0 x1) (k1_pay53 x0 x1) = v
  pointwise [k1_pay43]

/-- The scaled vector 3, at an index. -/
theorem part1_3 (x0 : Vec Ideal S1x64x1024 .fp8e4m3) (x1 : Vec Ideal S1x1x8x128 .f32) (d : Fin 64) (l : Fin 128) :
    (k1_pay43 (k1_pay32 (k1_pay44 x0 x1) (k1_pay46 x0 x1) (k1_pay49 x0 x1) (k1_pay51 x0 x1) (k1_pay53 x0 x1)) (View.ld x1 r1_4) : FVec Ideal S64x128 .bf16) (ix2 d l) = cod x0 d (l.val % 8 * 128 + l.val / 8 * 8 + 3) * x1 (ix4 0 0 3 l) := by
  rw [← net1_3 x0 x1 d l]
  generalize k1_pay32 (k1_pay44 x0 x1) (k1_pay46 x0 x1) (k1_pay49 x0 x1) (k1_pay51 x0 x1) (k1_pay53 x0 x1) = v
  pointwise [k1_pay43]

/-- The scaled vector 4, at an index. -/
theorem part1_4 (x0 : Vec Ideal S1x64x1024 .fp8e4m3) (x1 : Vec Ideal S1x1x8x128 .f32) (d : Fin 64) (l : Fin 128) :
    (k1_pay43 (k1_pay33 (k1_pay44 x0 x1) (k1_pay45 x0 x1) (k1_pay47 x0 x1) (k1_pay48 x0 x1) (k1_pay50 x0 x1) (k1_pay51 x0 x1)) (View.ld x1 r1_5) : FVec Ideal S64x128 .bf16) (ix2 d l) = cod x0 d (l.val % 8 * 128 + l.val / 8 * 8 + 4) * x1 (ix4 0 0 4 l) := by
  rw [← net1_4 x0 x1 d l]
  generalize k1_pay33 (k1_pay44 x0 x1) (k1_pay45 x0 x1) (k1_pay47 x0 x1) (k1_pay48 x0 x1) (k1_pay50 x0 x1) (k1_pay51 x0 x1) = v
  pointwise [k1_pay43]

/-- The scaled vector 5, at an index. -/
theorem part1_5 (x0 : Vec Ideal S1x64x1024 .fp8e4m3) (x1 : Vec Ideal S1x1x8x128 .f32) (d : Fin 64) (l : Fin 128) :
    (k1_pay43 (k1_pay34 (k1_pay44 x0 x1) (k1_pay45 x0 x1) (k1_pay47 x0 x1) (k1_pay48 x0 x1) (k1_pay50 x0 x1) (k1_pay51 x0 x1)) (View.ld x1 r1_6) : FVec Ideal S64x128 .bf16) (ix2 d l) = cod x0 d (l.val % 8 * 128 + l.val / 8 * 8 + 5) * x1 (ix4 0 0 5 l) := by
  rw [← net1_5 x0 x1 d l]
  generalize k1_pay34 (k1_pay44 x0 x1) (k1_pay45 x0 x1) (k1_pay47 x0 x1) (k1_pay48 x0 x1) (k1_pay50 x0 x1) (k1_pay51 x0 x1) = v
  pointwise [k1_pay43]

/-- The scaled vector 6, at an index. -/
theorem part1_6 (x0 : Vec Ideal S1x64x1024 .fp8e4m3) (x1 : Vec Ideal S1x1x8x128 .f32) (d : Fin 64) (l : Fin 128) :
    (k1_pay43 (k1_pay35 (k1_pay44 x0 x1) (k1_pay45 x0 x1) (k1_pay47 x0 x1) (k1_pay48 x0 x1) (k1_pay50 x0 x1) (k1_pay51 x0 x1)) (View.ld x1 r1_7) : FVec Ideal S64x128 .bf16) (ix2 d l) = cod x0 d (l.val % 8 * 128 + l.val / 8 * 8 + 6) * x1 (ix4 0 0 6 l) := by
  rw [← net1_6 x0 x1 d l]
  generalize k1_pay35 (k1_pay44 x0 x1) (k1_pay45 x0 x1) (k1_pay47 x0 x1) (k1_pay48 x0 x1) (k1_pay50 x0 x1) (k1_pay51 x0 x1) = v
  pointwise [k1_pay43]

/-- The scaled vector 7, at an index. -/
theorem part1_7 (x0 : Vec Ideal S1x64x1024 .fp8e4m3) (x1 : Vec Ideal S1x1x8x128 .f32) (d : Fin 64) (l : Fin 128) :
    (k1_pay43 (k1_pay36 (k1_pay44 x0 x1) (k1_pay45 x0 x1) (k1_pay47 x0 x1) (k1_pay48 x0 x1) (k1_pay50 x0 x1) (k1_pay51 x0 x1)) (View.ld x1 r1_8) : FVec Ideal S64x128 .bf16) (ix2 d l) = cod x0 d (l.val % 8 * 128 + l.val / 8 * 8 + 7) * x1 (ix4 0 0 7 l) := by
  rw [← net1_7 x0 x1 d l]
  generalize k1_pay36 (k1_pay44 x0 x1) (k1_pay45 x0 x1) (k1_pay47 x0 x1) (k1_pay48 x0 x1) (k1_pay50 x0 x1) (k1_pay51 x0 x1) = v
  pointwise [k1_pay43]

/-- The output block of preparing call 1 is the stack of the eight scaled vectors, turned. -/
theorem out1_eq (x0 : Vec Ideal S1x64x1024 .fp8e4m3) (x1 : Vec Ideal S1x1x8x128 .f32) :
    out1_2 x0 x1 = shapeCast S1x128x512 (transpose S128x512 [1, 0] (concatenate S512x128 0 [⟨S64x128, (k1_pay43 (select (k1_pay29 (k1_pay44 x0 x1)) (k1_pay52 x0 x1) (dynamicRotate 1 1#32 none (k1_pay23 (k1_pay46 x0 x1) (k1_pay49 x0 x1) (k1_pay51 x0 x1) 2#32) rotates_S64x128_d1)) (View.ld x1 r1_1) : FVec Ideal S64x128 .bf16)⟩, ⟨S64x128, (k1_pay43 (k1_pay30 (k1_pay44 x0 x1) (k1_pay46 x0 x1) (k1_pay49 x0 x1) (k1_pay51 x0 x1) (k1_pay52 x0 x1) 2#32) (View.ld x1 r1_2) : FVec Ideal S64x128 .bf16)⟩, ⟨S64x128, (k1_pay43 (k1_pay31 (k1_pay44 x0 x1) (k1_pay46 x0 x1) (k1_pay49 x0 x1) (k1_pay51 x0 x1) (k1_pay53 x0 x1)) (View.ld x1 r1_3) : FVec Ideal S64x128 .bf16)⟩, ⟨S64x128, (k1_pay43 (k1_pay32 (k1_pay44 x0 x1) (k1_pay46 x0 x1) (k1_pay49 x0 x1) (k1_pay51 x0 x1) (k1_pay53 x0 x1)) (View.ld x1 r1_4) : FVec Ideal S64x128 .bf16)⟩, ⟨S64x128, (k1_pay43 (k1_pay33 (k1_pay44 x0 x1) (k1_pay45 x0 x1) (k1_pay47 x0 x1) (k1_pay48 x0 x1) (k1_pay50 x0 x1) (k1_pay51 x0 x1)) (View.ld x1 r1_5) : FVec Ideal S64x128 .bf16)⟩, ⟨S64x128, (k1_pay43 (k1_pay34 (k1_pay44 x0 x1) (k1_pay45 x0 x1) (k1_pay47 x0 x1) (k1_pay48 x0 x1) (k1_pay50 x0 x1) (k1_pay51 x0 x1)) (View.ld x1 r1_6) : FVec Ideal S64x128 .bf16)⟩, ⟨S64x128, (k1_pay43 (k1_pay35 (k1_pay44 x0 x1) (k1_pay45 x0 x1) (k1_pay47 x0 x1) (k1_pay48 x0 x1) (k1_pay50 x0 x1) (k1_pay51 x0 x1)) (View.ld x1 r1_7) : FVec Ideal S64x128 .bf16)⟩, ⟨S64x128, (k1_pay43 (k1_pay36 (k1_pay44 x0 x1) (k1_pay45 x0 x1) (k1_pay47 x0 x1) (k1_pay48 x0 x1) (k1_pay50 x0 x1) (k1_pay51 x0 x1)) (View.ld x1 r1_8) : FVec Ideal S64x128 .bf16)⟩] concatenates_S64x128_S64x128_S64x128_S64x128_S64x128_S64x128_S64x128_S64x128_S512x128_d0) transposes_S512x128_p1_0_S128x512) shapeCasts_S128x512_S1x128x512 := by
  unfold out1_2
  exact View.canon_unit_zero (by funext a; fin_cases a <;> rfl) _ _

/-- The same at an index: read from the stack. -/
theorem out1_cat (x0 : Vec Ideal S1x64x1024 .fp8e4m3) (x1 : Vec Ideal S1x1x8x128 .f32) (r : Fin 512) (l : Fin 128) :
    out1_2 x0 x1 (ix3 0 l r) = concatenate S512x128 0 [⟨S64x128, (k1_pay43 (select (k1_pay29 (k1_pay44 x0 x1)) (k1_pay52 x0 x1) (dynamicRotate 1 1#32 none (k1_pay23 (k1_pay46 x0 x1) (k1_pay49 x0 x1) (k1_pay51 x0 x1) 2#32) rotates_S64x128_d1)) (View.ld x1 r1_1) : FVec Ideal S64x128 .bf16)⟩, ⟨S64x128, (k1_pay43 (k1_pay30 (k1_pay44 x0 x1) (k1_pay46 x0 x1) (k1_pay49 x0 x1) (k1_pay51 x0 x1) (k1_pay52 x0 x1) 2#32) (View.ld x1 r1_2) : FVec Ideal S64x128 .bf16)⟩, ⟨S64x128, (k1_pay43 (k1_pay31 (k1_pay44 x0 x1) (k1_pay46 x0 x1) (k1_pay49 x0 x1) (k1_pay51 x0 x1) (k1_pay53 x0 x1)) (View.ld x1 r1_3) : FVec Ideal S64x128 .bf16)⟩, ⟨S64x128, (k1_pay43 (k1_pay32 (k1_pay44 x0 x1) (k1_pay46 x0 x1) (k1_pay49 x0 x1) (k1_pay51 x0 x1) (k1_pay53 x0 x1)) (View.ld x1 r1_4) : FVec Ideal S64x128 .bf16)⟩, ⟨S64x128, (k1_pay43 (k1_pay33 (k1_pay44 x0 x1) (k1_pay45 x0 x1) (k1_pay47 x0 x1) (k1_pay48 x0 x1) (k1_pay50 x0 x1) (k1_pay51 x0 x1)) (View.ld x1 r1_5) : FVec Ideal S64x128 .bf16)⟩, ⟨S64x128, (k1_pay43 (k1_pay34 (k1_pay44 x0 x1) (k1_pay45 x0 x1) (k1_pay47 x0 x1) (k1_pay48 x0 x1) (k1_pay50 x0 x1) (k1_pay51 x0 x1)) (View.ld x1 r1_6) : FVec Ideal S64x128 .bf16)⟩, ⟨S64x128, (k1_pay43 (k1_pay35 (k1_pay44 x0 x1) (k1_pay45 x0 x1) (k1_pay47 x0 x1) (k1_pay48 x0 x1) (k1_pay50 x0 x1) (k1_pay51 x0 x1)) (View.ld x1 r1_7) : FVec Ideal S64x128 .bf16)⟩, ⟨S64x128, (k1_pay43 (k1_pay36 (k1_pay44 x0 x1) (k1_pay45 x0 x1) (k1_pay47 x0 x1) (k1_pay48 x0 x1) (k1_pay50 x0 x1) (k1_pay51 x0 x1)) (View.ld x1 r1_8) : FVec Ideal S64x128 .bf16)⟩] concatenates_S64x128_S64x128_S64x128_S64x128_S64x128_S64x128_S64x128_S64x128_S512x128_d0 (ix2 r l) := by
  rw [out1_eq]
  generalize concatenate S512x128 0 _ _ = v
  pointwise

/-- The output block of preparing call 1 at an index: the code of feature `d` of the token that lane `l` carries in
    vector `s`, times that token's scale. -/
theorem out1_at (x0 : Vec Ideal S1x64x1024 .fp8e4m3) (x1 : Vec Ideal S1x1x8x128 .f32) (s : Fin 8) (d : Fin 64) (l : Fin 128) (r : Fin 512)
    (hr : r.val = s.val * 64 + d.val) :
    out1_2 x0 x1 (ix3 0 l r) = cod x0 d (l.val % 8 * 128 + l.val / 8 * 8 + s.val) * x1 (ix4 0 0 s l) := by
  rw [out1_cat]
  match s, hr with
  | ⟨0, _⟩, hr => exact (cat0 _ _ _ _ _ _ _ _ d l r hr).trans (part1_0 x0 x1 d l)
  | ⟨1, _⟩, hr => exact (cat1 _ _ _ _ _ _ _ _ d l r hr).trans (part1_1 x0 x1 d l)
  | ⟨2, _⟩, hr => exact (cat2 _ _ _ _ _ _ _ _ d l r hr).trans (part1_2 x0 x1 d l)
  | ⟨3, _⟩, hr => exact (cat3 _ _ _ _ _ _ _ _ d l r hr).trans (part1_3 x0 x1 d l)
  | ⟨4, _⟩, hr => exact (cat4 _ _ _ _ _ _ _ _ d l r hr).trans (part1_4 x0 x1 d l)
  | ⟨5, _⟩, hr => exact (cat5 _ _ _ _ _ _ _ _ d l r hr).trans (part1_5 x0 x1 d l)
  | ⟨6, _⟩, hr => exact (cat6 _ _ _ _ _ _ _ _ d l r hr).trans (part1_6 x0 x1 d l)
  | ⟨7, _⟩, hr => exact (cat7 _ _ _ _ _ _ _ _ d l r hr).trans (part1_7 x0 x1 d l)

end Cert.KernelIdeal.Gen
-- ==== Proof.Spec.lean ====
/- The two results as functions of the arguments' elements, and rows laid flat. -/
module

public import proofs.«01_k».proof.Proof.RowLemma

@[expose] public section

noncomputable section

namespace Cert.Row

open Idealize Idealize.ShloMosaic

/-- Element types of the arguments, as functions of their coordinates. -/
abbrev QC := Fin 6 → Fin 14 → Fin 65536 → Fin 64 → EReal
/-- The query scales. -/
abbrev QS := Fin 6 → Fin 14 → Fin 65536 → EReal
/-- The key codes. -/
abbrev KC := Fin 6 → Fin 2 → Fin 65536 → Fin 64 → EReal
/-- The key scales. -/
abbrev KS := Fin 6 → Fin 2 → Fin 65536 → EReal

/-- The antidiagonal dot product of query group `i` and key group `j`. -/
def dot (q : QC) (qs : QS) (k : KC) (ks : KS) (b : Fin 6) (h : Fin 14) (i j : Fin 8192) : EReal :=
  ∑ d : Fin 64, ∑ s : Fin 8,
    (q b h ⟨i.val * 8 + s.rev.val, by omega⟩ d * qs b h ⟨i.val * 8 + s.rev.val, by omega⟩)
      * (k b ⟨h.val / 7, by omega⟩ ⟨j.val * 8 + s.val, by omega⟩ d * ks b ⟨h.val / 7, by omega⟩ ⟨j.val * 8 + s.val, by omega⟩)

/-- The masked row of scores, in cells of sixteen keys. -/
def score (q : QC) (qs : QS) (k : KC) (ks : KS) (b : Fin 6) (h : Fin 14) (i : Fin 8192) (g : Fin 512) (t : Fin 16) : EReal :=
  if 16 * g.val + t.val ≤ i.val then dot q qs k ks b h i ⟨g.val * 16 + t.val, by omega⟩ else ⊥

/-- The mass of one block of sixteen by sixteen. -/
def blk (q : QC) (qs : QS) (k : KC) (ks : KS) (b : Fin 6) (h : Fin 14) (u v : Fin 512) : EReal :=
  ∑ x : Fin 16, ∑ t : Fin 16,
    Ideal.exp (score q qs k ks b h ⟨u.val * 16 + x.val, by omega⟩ v t * cs
      - rm (score q qs k ks b h ⟨u.val * 16 + x.val, by omega⟩) * cs
      - Ideal.log (rt (score q qs k ks b h ⟨u.val * 16 + x.val, by omega⟩)))

/-- A row's normaliser less the logarithm of its length. -/
def lse (q : QC) (qs : QS) (k : KC) (ks : KS) (b : Fin 6) (h : Fin 14) (i : Fin 8192) : EReal :=
  rm (score q qs k ks b h i) * cs + Ideal.log (rt (score q qs k ks b h i)) - Ideal.log (((i.val + 1 : ℕ) : ℝ) : EReal)

/-- Keys in cells: the flat number of key `t` of cell `g`. -/
def flat : Fin 512 × Fin 16 ≃ Fin 8192 := (finProdFinEquiv (m := 512) (n := 16)).trans (finCongr (by norm_num))

/-- The flat number of a key, as a number. -/
theorem flat_val (p : Fin 512 × Fin 16) : (flat p).val = p.1.val * 16 + p.2.val := by
  simp [flat, finProdFinEquiv]; omega

/-- A row's supremum is its cells' supremum, in any numbering. -/
theorem number_sup {K G T : Type} [Fintype K] [Fintype G] [Fintype T] (e : G × T ≃ K) (X : G → T → EReal) :
    Finset.univ.sup (fun j => X (e.symm j).1 (e.symm j).2) = Finset.univ.sup fun g => Finset.univ.sup (X g) := by
  apply le_antisymm
  · refine Finset.sup_le fun j _ => ?_
    exact (Finset.le_sup (f := fun t => X (e.symm j).1 t) (Finset.mem_univ (e.symm j).2)).trans
      (Finset.le_sup (f := fun g => Finset.univ.sup (X g)) (Finset.mem_univ (e.symm j).1))
  · refine Finset.sup_le fun g _ => Finset.sup_le fun t _ => ?_
    have := Finset.le_sup (f := fun j => X (e.symm j).1 (e.symm j).2) (Finset.mem_univ (e (g, t)))
    rw [Equiv.symm_apply_apply] at this
    exact this

/-- A flat row's supremum is its cells' supremum. -/
theorem flat_sup (X : Fin 512 → Fin 16 → EReal) (z : Fin 8192 → EReal) (hz : ∀ p, z (flat p) = X p.1 p.2 * cs) :
    Finset.univ.sup z = rm X * cs := by
  have e : z = fun j => (fun j => X (flat.symm j).1 (flat.symm j).2) j * cs := by
    funext j; have := hz (flat.symm j); rwa [Equiv.apply_symm_apply] at this
  rw [e, scaled_sup, number_sup]
  rfl

/-- A flat row's sum is its cells' sum. -/
theorem flat_sum (f : Fin 8192 → EReal) : ∑ j, f j = ∑ g : Fin 512, ∑ t : Fin 16, f (flat (g, t)) := by
  rw [← Equiv.sum_comp flat, Fintype.sum_prod_type]

end Cert.Row
-- ==== Proof.KernelHost.lean ====
/- The kernel's host program, at an index. -/
module

public import proofs.«01_k».proof.Proof.ScoresIdeal
public import proofs.«01_k».proof.Proof.PrepIdeal
public import proofs.«01_k».proof.Proof.RunFrame
public import proofs.«01_k».proof.Proof.Spec
public import Idealize.ShloMosaic.Lib.Pointwise
public import Idealize.ShloMosaic.Lib.StableHlo.RunRead
public import Idealize.ShloMosaic.Lib.Pipeline.ValueKit.Geometry

@[expose] public section

set_option maxRecDepth 16384

noncomputable section

namespace Cert.KernelIdeal.Gen

open Idealize Idealize.ShloMosaic Idealize.ShloMosaic.TcCoe Idealize.SL.Sem Idealize.SL
open Cert.KernelIdeal Facts

/-- The query codes laid out by depth, then by token. -/
def codesF0 (A : FVec Ideal S6x14x65536x64 .fp8e4m3) : FVec Ideal S84x64x65536 .fp8e4m3 :=
  shapeCast S84x64x65536 (transpose S6x14x64x65536 [0, 1, 3, 2] A transposes_S6x14x65536x64_S6x14x64x65536_0_1_3_2) shapeCasts_S6x14x64x65536_S84x64x65536

/-- The query scales laid out by token within a group. -/
def scalesF0 (A : FVec Ideal S6x14x65536 .f32) : FVec Ideal S84x64x8x128 .f32 :=
  shapeCast S84x64x8x128 (transpose S84x64x8x16x8 [0, 1, 4, 3, 2] (shapeCast S84x64x8x16x8 A shapeCasts_S6x14x65536_S84x64x8x16x8) transposes_S84x64x8x16x8_S84x64x8x16x8_0_1_4_3_2) shapeCasts_S84x64x8x16x8_S84x64x8x128

/-- The host program leaves the query codes so. -/
theorem after_codes0 (V : Valuation τ sig (Elt Ideal)) :
    StableHlo.after hostOps0 V (Proc.devRef .tc main_v1) = codesF0 (V (Proc.devRef .tc main_arg0)) := by
  after_reads_simp
  rfl

/-- And the query scales so. -/
theorem after_scales0 (V : Valuation τ sig (Elt Ideal)) :
    StableHlo.after hostOps0 V (Proc.devRef .tc main_v4) = scalesF0 (V (Proc.devRef .tc main_arg1)) := by
  after_reads_simp
  rfl

/-- The query codes at an index. -/
theorem codesF0_at (A : FVec Ideal S6x14x65536x64 .fp8e4m3) (b : Fin 84) (d : Fin 64) (n : Fin 65536) :
    codesF0 A (ix3 b d n) = A (ix4 ⟨b.val / 14, by omega⟩ ⟨b.val % 14, by omega⟩ n d) := by
  pointwise [codesF0]

/-- The query scales at an index. -/
theorem scalesF0_at (A : FVec Ideal S6x14x65536 .f32) (b : Fin 84) (n : Fin 64) (s : Fin 8) (l : Fin 128) :
    scalesF0 A (ix4 b n s l) = A (ix3 ⟨b.val / 14, by omega⟩ ⟨b.val % 14, by omega⟩ ⟨n.val * 1024 + (l.val % 8 * 128 + l.val / 8 * 8 + s.val), by omega⟩) := by
  pointwise [scalesF0]
  simp only [Nat.add_assoc]

/-- The key codes laid out by depth, then by token. -/
def codesF1 (A : FVec Ideal S6x2x65536x64 .fp8e4m3) : FVec Ideal S12x64x65536 .fp8e4m3 :=
  shapeCast S12x64x65536 (transpose S6x2x64x65536 [0, 1, 3, 2] A transposes_S6x2x65536x64_S6x2x64x65536_0_1_3_2) shapeCasts_S6x2x64x65536_S12x64x65536

/-- The key scales laid out by token within a group. -/
def scalesF1 (A : FVec Ideal S6x2x65536 .f32) : FVec Ideal S12x64x8x128 .f32 :=
  shapeCast S12x64x8x128 (transpose S12x64x8x16x8 [0, 1, 4, 3, 2] (shapeCast S12x64x8x16x8 A shapeCasts_S6x2x65536_S12x64x8x16x8) transposes_S12x64x8x16x8_S12x64x8x16x8_0_1_4_3_2) shapeCasts_S12x64x8x16x8_S12x64x8x128

/-- The host program leaves the key codes so. -/
theorem after_codes1 (V : Valuation τ sig (Elt Ideal)) :
    StableHlo.after hostOps1 V (Proc.devRef .tc main_v7) = codesF1 (V (Proc.devRef .tc main_arg2)) := by
  after_reads_simp
  rfl

/-- And the key scales so. -/
theorem after_scales1 (V : Valuation τ sig (Elt Ideal)) :
    StableHlo.after hostOps1 V (Proc.devRef .tc main_v10) = scalesF1 (V (Proc.devRef .tc main_arg3)) := by
  after_reads_simp
  rfl

/-- The key codes at an index. -/
theorem codesF1_at (A : FVec Ideal S6x2x65536x64 .fp8e4m3) (b : Fin 12) (d : Fin 64) (n : Fin 65536) :
    codesF1 A (ix3 b d n) = A (ix4 ⟨b.val / 2, by omega⟩ ⟨b.val % 2, by omega⟩ n d) := by
  pointwise [codesF1]

/-- The key scales at an index. -/
theorem scalesF1_at (A : FVec Ideal S6x2x65536 .f32) (b : Fin 12) (n : Fin 64) (s : Fin 8) (l : Fin 128) :
    scalesF1 A (ix4 b n s l) = A (ix3 ⟨b.val / 2, by omega⟩ ⟨b.val % 2, by omega⟩ ⟨n.val * 1024 + (l.val % 8 * 128 + l.val / 8 * 8 + s.val), by omega⟩) := by
  pointwise [scalesF1]
  simp only [Nat.add_assoc]

/-- The block masses handed out. -/
def blkF (A : FVec Ideal S84x512x512 .f32) : FVec Ideal S6x14x512x512 .f32 :=
  shapeCast S6x14x512x512 A shapeCasts_S84x512x512_S6x14x512x512

/-- The normalisers handed out in sequence order. -/
def lseF (A : FVec Ideal S84x32x1x256 .f32) : FVec Ideal S6x14x8192 .f32 :=
  shapeCast S6x14x8192 (transpose S6x14x64x8x16 [0, 1, 2, 4, 3] (shapeCast S6x14x64x16x8 A shapeCasts_S84x32x1x256_S6x14x64x16x8) transposes_S6x14x64x16x8_S6x14x64x8x16_0_1_2_4_3) shapeCasts_S6x14x64x8x16_S6x14x8192

/-- The first result. -/
theorem after_blk (V : Valuation τ sig (Elt Ideal)) :
    StableHlo.after hostOps3 V (Proc.devRef .tc main_v16) = blkF (V (Proc.devRef .tc main_v12_0)) := by
  after_reads_simp
  rfl

/-- The second result. -/
theorem after_lse (V : Valuation τ sig (Elt Ideal)) :
    StableHlo.after hostOps3 V (Proc.devRef .tc main_v15) = lseF (V (Proc.devRef .tc main_v12_1)) := by
  after_reads_simp
  rfl

/-- The first result at an index. -/
theorem blkF_at (A : FVec Ideal S84x512x512 .f32) (b : Fin 6) (h : Fin 14) (u v : Fin 512) :
    blkF A (ix4 b h u v) = A (ix3 ⟨b.val * 14 + h.val, by omega⟩ u v) := by
  pointwise [blkF]

/-- The second result at an index. -/
theorem lseF_at (A : FVec Ideal S84x32x1x256 .f32) (b : Fin 6) (h : Fin 14) (i : Fin 8192) :
    lseF A (ix3 b h i) = A (ix4 ⟨b.val * 14 + h.val, by omega⟩ ⟨i.val / 128 / 2, by omega⟩ 0 ⟨i.val / 128 % 2 * 128 + i.val % 16 * 8 + i.val / 16 % 8, by omega⟩) := by
  pointwise [lseF]

end Cert.KernelIdeal.Gen
-- ==== Proof.KernelCover.lean ====
/- The blocks each call writes back cover its results. -/
module

public import proofs.«01_k».proof.Proof.KernelHost

@[expose] public section

set_option maxRecDepth 16384

noncomputable section

namespace Cert.KernelIdeal.Gen

open Idealize Idealize.ShloMosaic Idealize.ShloMosaic.TcCoe Idealize.SL.Sem Idealize.SL
open Cert.KernelIdeal Facts

/-- Window 2 of call 0 covers its array. -/
theorem wcover0_2 : (cfg0.win 2).Covers := by decide +kernel

/-- Window 2 of call 1 covers its array. -/
theorem wcover1_2 : (cfg1.win 2).Covers := by decide +kernel

/-- Window 2 of call 2 covers its array. -/
theorem wcover2_2 : (cfg2.win 2).Covers := by decide +kernel

/-- Window 3 of call 2 covers its array. -/
theorem wcover2_3 : (cfg2.win 3).Covers := by decide +kernel

end Cert.KernelIdeal.Gen
-- ==== Proof.KernelIndex.lean ====
/- Which block each window is at. -/
module

public import proofs.«01_k».proof.Proof.KernelHost

@[expose] public section

set_option maxRecDepth 16384

noncomputable section

namespace Cert.KernelIdeal.Gen

open Idealize Idealize.ShloMosaic Idealize.ShloMosaic.TcCoe Idealize.SL.Sem Idealize.SL
open Cert.KernelIdeal Facts

/-- Window 0 of call 0. -/
theorem ix0_0 (t : Fin cfg0.N) : win0_0.index t = ![(grid0.coords t 0).val, 0, (grid0.coords t 1).val] := by
  have h0 : (grid0.coords t 0).val % 2 ^ 32 = (grid0.coords t 0).val := Nat.mod_eq_of_lt (((grid0.coords t 0).isLt : (grid0.coords t 0).val < 84).trans (by norm_num))
  have h1 : (grid0.coords t 1).val % 2 ^ 32 = (grid0.coords t 1).val := Nat.mod_eq_of_lt (((grid0.coords t 1).isLt : (grid0.coords t 1).val < 64).trans (by norm_num))
  show cc0_transform_0 (grid0.coords t) = _
  unfold cc0_transform_0
  simp only [BitVec.toNat_ofNat, h0, h1]

/-- Window 1 of call 0. -/
theorem ix0_1 (t : Fin cfg0.N) : win0_1.index t = ![(grid0.coords t 0).val, (grid0.coords t 1).val, 0, 0] := by
  have h0 : (grid0.coords t 0).val % 2 ^ 32 = (grid0.coords t 0).val := Nat.mod_eq_of_lt (((grid0.coords t 0).isLt : (grid0.coords t 0).val < 84).trans (by norm_num))
  have h1 : (grid0.coords t 1).val % 2 ^ 32 = (grid0.coords t 1).val := Nat.mod_eq_of_lt (((grid0.coords t 1).isLt : (grid0.coords t 1).val < 64).trans (by norm_num))
  show cc0_transform_1 (grid0.coords t) = _
  unfold cc0_transform_1
  simp only [BitVec.toNat_ofNat, h0, h1]

/-- Window 0 of call 1. -/
theorem ix1_0 (t : Fin cfg1.N) : win1_0.index t = ![(grid1.coords t 0).val, 0, (grid1.coords t 1).val] := by
  have h0 : (grid1.coords t 0).val % 2 ^ 32 = (grid1.coords t 0).val := Nat.mod_eq_of_lt (((grid1.coords t 0).isLt : (grid1.coords t 0).val < 12).trans (by norm_num))
  have h1 : (grid1.coords t 1).val % 2 ^ 32 = (grid1.coords t 1).val := Nat.mod_eq_of_lt (((grid1.coords t 1).isLt : (grid1.coords t 1).val < 64).trans (by norm_num))
  show cc1_transform_0 (grid1.coords t) = _
  unfold cc1_transform_0
  simp only [BitVec.toNat_ofNat, h0, h1]

/-- Window 1 of call 1. -/
theorem ix1_1 (t : Fin cfg1.N) : win1_1.index t = ![(grid1.coords t 0).val, (grid1.coords t 1).val, 0, 0] := by
  have h0 : (grid1.coords t 0).val % 2 ^ 32 = (grid1.coords t 0).val := Nat.mod_eq_of_lt (((grid1.coords t 0).isLt : (grid1.coords t 0).val < 12).trans (by norm_num))
  have h1 : (grid1.coords t 1).val % 2 ^ 32 = (grid1.coords t 1).val := Nat.mod_eq_of_lt (((grid1.coords t 1).isLt : (grid1.coords t 1).val < 64).trans (by norm_num))
  show cc1_transform_1 (grid1.coords t) = _
  unfold cc1_transform_1
  simp only [BitVec.toNat_ofNat, h0, h1]

/-- Window 2 of call 0. -/
theorem ix0_2 (t : Fin cfg0.N) : win0_2.index t = ![(grid0.coords t 0).val, 0, (grid0.coords t 1).val] := by
  have h0 : (grid0.coords t 0).val % 2 ^ 32 = (grid0.coords t 0).val := Nat.mod_eq_of_lt (((grid0.coords t 0).isLt : (grid0.coords t 0).val < 84).trans (by norm_num))
  have h1 : (grid0.coords t 1).val % 2 ^ 32 = (grid0.coords t 1).val := Nat.mod_eq_of_lt (((grid0.coords t 1).isLt : (grid0.coords t 1).val < 64).trans (by norm_num))
  show cc0_transform_2 (grid0.coords t) = _
  unfold cc0_transform_2
  simp only [BitVec.toNat_ofNat, h0, h1]

/-- Window 2 of call 1. -/
theorem ix1_2 (t : Fin cfg1.N) : win1_2.index t = ![(grid1.coords t 0).val, (grid1.coords t 1).val, 0] := by
  have h0 : (grid1.coords t 0).val % 2 ^ 32 = (grid1.coords t 0).val := Nat.mod_eq_of_lt (((grid1.coords t 0).isLt : (grid1.coords t 0).val < 12).trans (by norm_num))
  have h1 : (grid1.coords t 1).val % 2 ^ 32 = (grid1.coords t 1).val := Nat.mod_eq_of_lt (((grid1.coords t 1).isLt : (grid1.coords t 1).val < 64).trans (by norm_num))
  show cc1_transform_2 (grid1.coords t) = _
  unfold cc1_transform_2
  simp only [BitVec.toNat_ofNat, h0, h1]

/-- Window 0 of call 2. -/
theorem ix2_0 (t : Fin cfg2.N) : win2_0.index t = ![(grid2.coords t 0).val, 0, (grid2.coords t 1).val] := by
  have h0 : (grid2.coords t 0).val % 2 ^ 32 = (grid2.coords t 0).val := Nat.mod_eq_of_lt (((grid2.coords t 0).isLt : (grid2.coords t 0).val < 84).trans (by norm_num))
  have h1 : (grid2.coords t 1).val % 2 ^ 32 = (grid2.coords t 1).val := Nat.mod_eq_of_lt (((grid2.coords t 1).isLt : (grid2.coords t 1).val < 32).trans (by norm_num))
  show cc2_transform_0 (grid2.coords t) = _
  unfold cc2_transform_0
  simp only [BitVec.toNat_ofNat, h0, h1]

/-- Window 2 of call 2. -/
theorem ix2_2 (t : Fin cfg2.N) : win2_2.index t = ![(grid2.coords t 0).val, (grid2.coords t 1).val, 0] := by
  have h0 : (grid2.coords t 0).val % 2 ^ 32 = (grid2.coords t 0).val := Nat.mod_eq_of_lt (((grid2.coords t 0).isLt : (grid2.coords t 0).val < 84).trans (by norm_num))
  have h1 : (grid2.coords t 1).val % 2 ^ 32 = (grid2.coords t 1).val := Nat.mod_eq_of_lt (((grid2.coords t 1).isLt : (grid2.coords t 1).val < 32).trans (by norm_num))
  show cc2_transform_2 (grid2.coords t) = _
  unfold cc2_transform_2
  simp only [BitVec.toNat_ofNat, h0, h1]

/-- Window 3 of call 2. -/
theorem ix2_3 (t : Fin cfg2.N) : win2_3.index t = ![(grid2.coords t 0).val, (grid2.coords t 1).val, 0, 0] := by
  have h0 : (grid2.coords t 0).val % 2 ^ 32 = (grid2.coords t 0).val := Nat.mod_eq_of_lt (((grid2.coords t 0).isLt : (grid2.coords t 0).val < 84).trans (by norm_num))
  have h1 : (grid2.coords t 1).val % 2 ^ 32 = (grid2.coords t 1).val := Nat.mod_eq_of_lt (((grid2.coords t 1).isLt : (grid2.coords t 1).val < 32).trans (by norm_num))
  show cc2_transform_3 (grid2.coords t) = _
  unfold cc2_transform_3
  simp only [BitVec.toNat_ofNat, h0, h1]

/-- The key block of a query head, by its number. -/
theorem head7 : ∀ x : Fin 84, cc2_transform_1 (fun | 0 => x | 1 => (⟨0, by decide⟩ : Fin 32) | ⟨_ + 2, h⟩ => absurd h (Nat.not_lt.2 (Nat.le_add_left _ _))) = ![x.val / 7, 0, 0] := by decide +kernel

/-- Window 1 of call 2. -/
theorem ix2_1 (t : Fin cfg2.N) : win2_1.index t = ![(grid2.coords t 0).val / 7, 0, 0] := head7 (grid2.coords t 0)

end Cert.KernelIdeal.Gen
-- ==== Proof.KernelPrep.lean ====
/- What the two preparing calls leave. -/
module

public import proofs.«01_k».proof.Proof.KernelHost
public import proofs.«01_k».proof.Proof.KernelCover
public import proofs.«01_k».proof.Proof.KernelIndex

@[expose] public section

set_option maxRecDepth 16384

noncomputable section

namespace Cert.KernelIdeal.Gen

open Idealize Idealize.ShloMosaic Idealize.ShloMosaic.TcCoe Idealize.SL.Sem Idealize.SL
open Cert.KernelIdeal Facts

/-- The token lane `l` and row `r` of the prepared queries carry. -/
def tok0 (r : Fin 512) (l : Fin 8192) : Fin 65536 := ⟨l.val / 128 * 1024 + (l.val % 128 % 8 * 128 + l.val % 128 / 8 * 8 + (7 - r.val / 64)), by omega⟩

/-- The prepared queries: code times scale. -/
def prod0 (A : FVec Ideal S84x64x65536 .fp8e4m3) (S : FVec Ideal S84x64x8x128 .f32) (b : Fin 84) (r : Fin 512) (l : Fin 8192) : EReal :=
  A (ix3 b ⟨r.val % 64, by omega⟩ (tok0 r l)) * S (ix4 b ⟨l.val / 128, by omega⟩ ⟨7 - r.val / 64, by omega⟩ ⟨l.val % 128, by omega⟩)

/-- The same, as an array. -/
def prodF0 (A : FVec Ideal S84x64x65536 .fp8e4m3) (S : FVec Ideal S84x64x8x128 .f32) : FVec Ideal S84x512x8192 .bf16 :=
  fun i => prod0 A S (i 0) (i 1) (i 2)

/-- Equal coordinates give equal products. -/
theorem prod0_congr (A : FVec Ideal S84x64x65536 .fp8e4m3) (S : FVec Ideal S84x64x8x128 .f32) {b b' : Fin 84} {r r' : Fin 512} {l l' : Fin 8192}
    (hb : b.val = b'.val) (hr : r.val = r'.val) (hl : l.val = l'.val) : prod0 A S b r l = prod0 A S b' r' l' := by
  obtain rfl := Fin.ext hb
  obtain rfl := Fin.ext hr
  obtain rfl := Fin.ext hl
  rfl

/-- A block of codes at an index. -/
theorem codesBlk0 (V : (c : Dev nD) → (b : Ref sig .tc) → Buf (Elt Ideal) ((c : Thread nD τ).loc b)) (c : Dev nD) (t : Fin cfg0.N) (d : Fin 64) (n : Fin 1024) (N : Fin 65536)
    (hN : N.val = (grid0.coords t 1).val * 1024 + n.val) :
    @Eq EReal (iblk0 V c 0 t (ix3 0 d n)) (V c main_v1 (ix3 (grid0.coords t 0) d N)) := by
  blk_simp [iblk0]
  refine congrArg (V c main_v1) ?_
  blk_ext [ix0_0 t]

/-- A block of scales at an index. -/
theorem scalesBlk0 (V : (c : Dev nD) → (b : Ref sig .tc) → Buf (Elt Ideal) ((c : Thread nD τ).loc b)) (c : Dev nD) (t : Fin cfg0.N) (s : Fin 8) (l : Fin 128) :
    @Eq EReal (iblk0 V c 1 t (ix4 0 0 s l)) (V c main_v4 (ix4 (grid0.coords t 0) (grid0.coords t 1) s l)) := by
  blk_simp [iblk0]
  refine congrArg (V c main_v4) ?_
  blk_ext [ix0_1 t]

/-- What the call leaves. -/
theorem prep0_arr (V : (c : Dev nD) → (b : Ref sig .tc) → Buf (Elt Ideal) ((c : Thread nD τ).loc b)) (c : Dev nD) :
    (dat0 V c).arrAt 2 cfg0.N = prodF0 (V c main_v1) (V c main_v4) := by
  refine (dat0 V c).arrAt_eq_of_covers 2 _ wcover0_2 fun t hf y => ?_
  refine (congrFun (after0_2 V c t) _).trans ?_
  obtain ⟨r, hr⟩ : ∃ r : Fin 512, r.val = (y 1).val := ⟨y 1, rfl⟩
  obtain ⟨l, hl⟩ : ∃ l : Fin 128, l.val = (y 2).val := ⟨y 2, rfl⟩
  have e : out0_2 (F := Ideal) (iblk0 V c 0 t) (iblk0 V c 1 t) (ix3 0 r l) = prodF0 (V c main_v1) (V c main_v4) (((cfg0.win 2).blk t).view.emb y) := by
    have h0 := (grid0.coords t 0).isLt
    have h1 : (grid0.coords t 1).val < 64 := (grid0.coords t 1).isLt
    have hs : 7 - r.val / 64 < 8 := by omega
    have hn : l.val % 8 * 128 + l.val / 8 * 8 + (7 - r.val / 64) < 1024 := by omega
    rw [out0_at _ _ ⟨7 - r.val / 64, hs⟩ ⟨r.val % 64, by omega⟩ l r (by dsimp only; omega)]
    unfold cod
    rw [dif_pos hn]
    have E0 : (((cfg0.win 2).blk t).view.emb y 0).val = (grid0.coords t 0).val := by
      blk_simp [ix0_2 t]
    have E1 : (((cfg0.win 2).blk t).view.emb y 1).val = r.val := by
      blk_simp [ix0_2 t]; exact hr.symm
    have E2 : (((cfg0.win 2).blk t).view.emb y 2).val = (grid0.coords t 1).val * 128 + l.val := by
      blk_simp [ix0_2 t]; rw [hl]
    have hL : (grid0.coords t 1).val * 128 + l.val < 8192 := by omega
    have hq : ((grid0.coords t 1).val * 128 + l.val) / 128 = (grid0.coords t 1).val := by omega
    have hm : ((grid0.coords t 1).val * 128 + l.val) % 128 = l.val := by omega
    refine Eq.trans ?_ (prod0_congr (V c main_v1) (V c main_v4) (l := ⟨(grid0.coords t 1).val * 128 + l.val, hL⟩) E0.symm E1.symm E2.symm)
    refine (congr (congrArg HMul.hMul (codesBlk0 V c t _ _ (tok0 r ⟨(grid0.coords t 1).val * 128 + l.val, hL⟩)
      (by unfold tok0; dsimp only; rw [hq, hm]))) (scalesBlk0 V c t _ _)).trans ?_
    unfold prod0
    refine congrArg _ ?_
    refine congrArg (V c main_v4) ?_
    exact congr (congrArg (fun (x : Fin 64) (z : Fin 128) => (ix4 (grid0.coords t 0) x ⟨7 - r.val / 64, hs⟩ z : S84x64x8x128.Idx)) (Fin.ext hq.symm)) (Fin.ext hm.symm)
  refine Eq.trans (congrArg (out0_2 (F := Ideal) (iblk0 V c 0 t) (iblk0 V c 1 t)) ?_) e
  funext a
  apply Fin.ext
  match a with
  | ⟨0, _⟩ => exact Nat.lt_one_iff.mp (y 0).isLt
  | ⟨1, _⟩ => exact hr.symm
  | ⟨2, _⟩ => exact hl.symm

/-- The token lane `l` and row `r` of the prepared keys carry. -/
def tok1 (r : Fin 512) (l : Fin 8192) : Fin 65536 := ⟨l.val / 128 * 1024 + (l.val % 128 % 8 * 128 + l.val % 128 / 8 * 8 + r.val / 64), by omega⟩

/-- The prepared keys: code times scale. -/
def prod1 (A : FVec Ideal S12x64x65536 .fp8e4m3) (S : FVec Ideal S12x64x8x128 .f32) (b : Fin 12) (r : Fin 512) (l : Fin 8192) : EReal :=
  A (ix3 b ⟨r.val % 64, by omega⟩ (tok1 r l)) * S (ix4 b ⟨l.val / 128, by omega⟩ ⟨r.val / 64, by omega⟩ ⟨l.val % 128, by omega⟩)

/-- The same, as an array. -/
def prodF1 (A : FVec Ideal S12x64x65536 .fp8e4m3) (S : FVec Ideal S12x64x8x128 .f32) : FVec Ideal S12x8192x512 .bf16 :=
  fun i => prod1 A S (i 0) (i 2) (i 1)

/-- Equal coordinates give equal products. -/
theorem prod1_congr (A : FVec Ideal S12x64x65536 .fp8e4m3) (S : FVec Ideal S12x64x8x128 .f32) {b b' : Fin 12} {r r' : Fin 512} {l l' : Fin 8192}
    (hb : b.val = b'.val) (hr : r.val = r'.val) (hl : l.val = l'.val) : prod1 A S b r l = prod1 A S b' r' l' := by
  obtain rfl := Fin.ext hb
  obtain rfl := Fin.ext hr
  obtain rfl := Fin.ext hl
  rfl

/-- A block of codes at an index. -/
theorem codesBlk1 (V : (c : Dev nD) → (b : Ref sig .tc) → Buf (Elt Ideal) ((c : Thread nD τ).loc b)) (c : Dev nD) (t : Fin cfg1.N) (d : Fin 64) (n : Fin 1024) (N : Fin 65536)
    (hN : N.val = (grid1.coords t 1).val * 1024 + n.val) :
    @Eq EReal (iblk1 V c 0 t (ix3 0 d n)) (V c main_v7 (ix3 (grid1.coords t 0) d N)) := by
  blk_simp [iblk1]
  refine congrArg (V c main_v7) ?_
  blk_ext [ix1_0 t]

/-- A block of scales at an index. -/
theorem scalesBlk1 (V : (c : Dev nD) → (b : Ref sig .tc) → Buf (Elt Ideal) ((c : Thread nD τ).loc b)) (c : Dev nD) (t : Fin cfg1.N) (s : Fin 8) (l : Fin 128) :
    @Eq EReal (iblk1 V c 1 t (ix4 0 0 s l)) (V c main_v10 (ix4 (grid1.coords t 0) (grid1.coords t 1) s l)) := by
  blk_simp [iblk1]
  refine congrArg (V c main_v10) ?_
  blk_ext [ix1_1 t]

/-- What the call leaves. -/
theorem prep1_arr (V : (c : Dev nD) → (b : Ref sig .tc) → Buf (Elt Ideal) ((c : Thread nD τ).loc b)) (c : Dev nD) :
    (dat1 V c).arrAt 2 cfg1.N = prodF1 (V c main_v7) (V c main_v10) := by
  refine (dat1 V c).arrAt_eq_of_covers 2 _ wcover1_2 fun t hf y => ?_
  refine (congrFun (after1_2 V c t) _).trans ?_
  obtain ⟨r, hr⟩ : ∃ r : Fin 512, r.val = (y 2).val := ⟨y 2, rfl⟩
  obtain ⟨l, hl⟩ : ∃ l : Fin 128, l.val = (y 1).val := ⟨y 1, rfl⟩
  have e : out1_2 (F := Ideal) (iblk1 V c 0 t) (iblk1 V c 1 t) (ix3 0 l r) = prodF1 (V c main_v7) (V c main_v10) (((cfg1.win 2).blk t).view.emb y) := by
    have h0 := (grid1.coords t 0).isLt
    have h1 : (grid1.coords t 1).val < 64 := (grid1.coords t 1).isLt
    have hs : r.val / 64 < 8 := by omega
    have hn : l.val % 8 * 128 + l.val / 8 * 8 + (r.val / 64) < 1024 := by omega
    rw [out1_at _ _ ⟨r.val / 64, hs⟩ ⟨r.val % 64, by omega⟩ l r (by dsimp only; omega)]
    unfold cod
    rw [dif_pos hn]
    have E0 : (((cfg1.win 2).blk t).view.emb y 0).val = (grid1.coords t 0).val := by
      blk_simp [ix1_2 t]
    have E1 : (((cfg1.win 2).blk t).view.emb y 2).val = r.val := by
      blk_simp [ix1_2 t]; exact hr.symm
    have E2 : (((cfg1.win 2).blk t).view.emb y 1).val = (grid1.coords t 1).val * 128 + l.val := by
      blk_simp [ix1_2 t]; rw [hl]
    have hL : (grid1.coords t 1).val * 128 + l.val < 8192 := by omega
    have hq : ((grid1.coords t 1).val * 128 + l.val) / 128 = (grid1.coords t 1).val := by omega
    have hm : ((grid1.coords t 1).val * 128 + l.val) % 128 = l.val := by omega
    refine Eq.trans ?_ (prod1_congr (V c main_v7) (V c main_v10) (l := ⟨(grid1.coords t 1).val * 128 + l.val, hL⟩) E0.symm E1.symm E2.symm)
    refine (congr (congrArg HMul.hMul (codesBlk1 V c t _ _ (tok1 r ⟨(grid1.coords t 1).val * 128 + l.val, hL⟩)
      (by unfold tok1; dsimp only; rw [hq, hm]))) (scalesBlk1 V c t _ _)).trans ?_
    unfold prod1
    refine congrArg _ ?_
    refine congrArg (V c main_v10) ?_
    exact congr (congrArg (fun (x : Fin 64) (z : Fin 128) => (ix4 (grid1.coords t 0) x ⟨r.val / 64, hs⟩ z : S12x64x8x128.Idx)) (Fin.ext hq.symm)) (Fin.ext hm.symm)
  refine Eq.trans (congrArg (out1_2 (F := Ideal) (iblk1 V c 0 t) (iblk1 V c 1 t)) ?_) e
  funext a
  apply Fin.ext
  match a with
  | ⟨0, _⟩ => exact Nat.lt_one_iff.mp (y 0).isLt
  | ⟨2, _⟩ => exact hr.symm
  | ⟨1, _⟩ => exact hl.symm

end Cert.KernelIdeal.Gen
-- ==== Proof.KernelMain.lean ====
/- What the main call leaves. -/
module

public import proofs.«01_k».proof.Proof.KernelPrep

@[expose] public section

set_option maxRecDepth 16384

noncomputable section

namespace Cert.KernelIdeal.Gen

open Idealize Idealize.ShloMosaic Idealize.ShloMosaic.TcCoe Idealize.SL.Sem Idealize.SL
open Cert.KernelIdeal Facts

/-- The lane of the prepared queries that carries query group `i`. -/
def lane (i : Fin 8192) : Fin 8192 := ⟨i.val / 256 * 256 + (i.val % 256 / 128 * 128 + i.val % 16 * 8 + i.val % 128 / 16), by omega⟩

/-- The masked row of scores of query group `i` of head `a`, from the prepared arrays. -/
def sco (Q : FVec Ideal S84x512x8192 .bf16) (K : FVec Ideal S12x8192x512 .bf16) (a : Fin 84) (i : Fin 8192) (g : Fin 512) (t : Fin 16) : EReal :=
  if 16 * g.val + t.val ≤ i.val then ∑ d : Fin 512, K (ix3 ⟨a.val / 7, by omega⟩ (rowOf g t) d) * Q (ix3 a d (lane i)) else ⊥

/-- A block's mass from the prepared arrays. -/
def blkAt (Q : FVec Ideal S84x512x8192 .bf16) (K : FVec Ideal S12x8192x512 .bf16) (a : Fin 84) (u v : Fin 512) : EReal :=
  ∑ x : Fin 16, ∑ t : Fin 16, Ideal.exp (sco Q K a ⟨u.val * 16 + x.val, by omega⟩ v t * Row.cs
    - Row.rm (sco Q K a ⟨u.val * 16 + x.val, by omega⟩) * Row.cs - Ideal.log (Row.rt (sco Q K a ⟨u.val * 16 + x.val, by omega⟩)))

/-- A row's normaliser from the prepared arrays. -/
def lseAt (Q : FVec Ideal S84x512x8192 .bf16) (K : FVec Ideal S12x8192x512 .bf16) (a : Fin 84) (i : Fin 8192) : EReal :=
  Row.rm (sco Q K a i) * Row.cs + Ideal.log (Row.rt (sco Q K a i)) - Ideal.log (((i.val + 1 : ℕ) : ℝ) : EReal)

/-- The row at lane `q` of tile `n`. -/
def rowAt (n : Fin 32) (q : Fin 256) : Fin 8192 := ⟨256 * n.val + qpos q, by have := qpos_lt q; omega⟩

/-- The masses, as an array. -/
def blkArr (Q : FVec Ideal S84x512x8192 .bf16) (K : FVec Ideal S12x8192x512 .bf16) : FVec Ideal S84x512x512 .f32 :=
  fun i => blkAt Q K (i 0) (i 1) (i 2)

/-- The normalisers, as an array. -/
def lseArr (Q : FVec Ideal S84x512x8192 .bf16) (K : FVec Ideal S12x8192x512 .bf16) : FVec Ideal S84x32x1x256 .f32 :=
  fun i => lseAt Q K (i 0) (rowAt (i 1) (i 3))

/-- Equal coordinates give equal masses. -/
theorem blkAt_congr (Q : FVec Ideal S84x512x8192 .bf16) (K : FVec Ideal S12x8192x512 .bf16) {b b' : Fin 84} {r r' l l' : Fin 512}
    (hb : b.val = b'.val) (hr : r.val = r'.val) (hl : l.val = l'.val) : blkAt Q K b r l = blkAt Q K b' r' l' := by
  obtain rfl := Fin.ext hb
  obtain rfl := Fin.ext hr
  obtain rfl := Fin.ext hl
  rfl

/-- Equal coordinates give equal normalisers. -/
theorem lseAt_congr (Q : FVec Ideal S84x512x8192 .bf16) (K : FVec Ideal S12x8192x512 .bf16) {b b' : Fin 84} {n n' : Fin 32} {q q' : Fin 256}
    (hb : b.val = b'.val) (hn : n.val = n'.val) (hq : q.val = q'.val) : lseAt Q K b (rowAt n q) = lseAt Q K b' (rowAt n' q') := by
  obtain rfl := Fin.ext hb
  obtain rfl := Fin.ext hn
  obtain rfl := Fin.ext hq
  rfl

/-- Lane and place are inverse within a tile. -/
theorem lane_in : ∀ q : Fin 256, qpos q / 128 * 128 + qpos q % 16 * 8 + qpos q % 128 / 16 = q.val := by decide +kernel

/-- The lane of the row at lane `q` of tile `n`. -/
theorem lane_of (n : ℕ) (q : Fin 256) (i : Fin 8192) (hi : i.val = 256 * n + qpos q) : (lane i).val = n * 256 + q.val := by
  have h := qpos_lt q
  have e := lane_in q
  have a1 : i.val / 256 = n := by omega
  have a2 : i.val % 256 = qpos q := by omega
  have a3 : i.val % 16 = qpos q % 16 := by omega
  have a4 : i.val % 128 = qpos q % 128 := by omega
  unfold lane; dsimp only
  rw [a1, a2, a3, a4, e]

section
variable (V : (c : Dev nD) → (b : Ref sig .tc) → Buf (Elt Ideal) ((c : Thread nD τ).loc b)) (c : Dev nD) (t : Fin cfg2.N)

/-- A block of prepared queries at an index. -/
theorem qBlk (d : Fin 512) (q : Fin 256) (l : Fin 8192) (hl : l.val = (grid2.coords t 1).val * 256 + q.val) :
    @Eq EReal (iblk2 V c 0 t (ix3 0 d q)) (V c main_v5 (ix3 (grid2.coords t 0) d l)) := by
  blk_simp [iblk2]
  refine congrArg (V c main_v5) ?_
  blk_ext [ix2_0 t]

/-- A block of prepared keys at an index. -/
theorem kBlk (j : Fin 8192) (d : Fin 512) (a : Fin 12) (ha : a.val = (grid2.coords t 0).val / 7) :
    @Eq EReal (iblk2 V c 1 t (ix3 0 j d)) (V c main_v11 (ix3 a j d)) := by
  blk_simp [iblk2]
  refine congrArg (V c main_v11) ?_
  blk_ext [ix2_1 t]

/-- The kernel's row of scores at a grid point. -/
theorem sc_eq (q : Fin 256) (i : Fin 8192) (hi : i.val = 256 * (grid2.coords t 1).val + qpos q) :
    sc (iblk2 V c 0 t) (iblk2 V c 1 t) (grid2.coords t 1).val q = sco (V c main_v5) (V c main_v11) (grid2.coords t 0) i := by
  have hq := q.isLt
  have hl : (lane i).val = (grid2.coords t 1).val * 256 + q.val := by
    exact lane_of _ _ _ hi
  have h0 : (grid2.coords t 0).val < 84 := (grid2.coords t 0).isLt
  funext g u
  unfold sc sco
  rw [hi]
  split
  · unfold raw
    refine Finset.sum_congr rfl fun d _ => ?_
    exact congr (congrArg HMul.hMul (kBlk V c t _ _ ⟨(grid2.coords t 0).val / 7, by omega⟩ rfl)) (qBlk V c t _ _ _ hl)
  · rfl
end

/-- The masses the main call leaves. -/
theorem main_blk (V : (c : Dev nD) → (b : Ref sig .tc) → Buf (Elt Ideal) ((c : Thread nD τ).loc b)) (c : Dev nD) :
    (dat2 V c).arrAt 2 cfg2.N = blkArr (V c main_v5) (V c main_v11) := by
  refine (dat2 V c).arrAt_eq_of_covers 2 _ wcover2_2 fun t hf y => ?_
  refine (congrFun (after2_2 V c t) _).trans ?_
  obtain ⟨b, hb⟩ : ∃ b : Fin 16, b.val = (y 1).val := ⟨y 1, rfl⟩
  obtain ⟨g, hg⟩ : ∃ g : Fin 512, g.val = (y 2).val := ⟨y 2, rfl⟩
  have h1 : (grid2.coords t 1).val < 32 := (grid2.coords t 1).isLt
  have e : outBlk (F := Ideal) (grid2.coords t) (iblk2 V c 0 t) (iblk2 V c 1 t) (ix3 0 b g)
      = blkArr (V c main_v5) (V c main_v11) (((cfg2.win 2).blk t).view.emb y) := by
    have E0 : (((cfg2.win 2).blk t).view.emb y 0).val = (grid2.coords t 0).val := by
      blk_simp [ix2_2 t]
    have E1 : (((cfg2.win 2).blk t).view.emb y 1).val = (grid2.coords t 1).val * 16 + b.val := by
      blk_simp [ix2_2 t]; rw [hb]
    have E2 : (((cfg2.win 2).blk t).view.emb y 2).val = g.val := by
      blk_simp [ix2_2 t]; exact hg.symm
    have hL : (grid2.coords t 1).val * 16 + b.val < 512 := by omega
    refine Eq.trans ?_ (blkAt_congr (V c main_v5) (V c main_v11) (r := ⟨(grid2.coords t 1).val * 16 + b.val, hL⟩) E0.symm E1.symm E2.symm)
    refine (outBlk_at _ _ _ _ _).trans ?_
    unfold blkAt
    refine Finset.sum_congr rfl fun x _ => Finset.sum_congr rfl fun u _ => ?_
    have hq : ((grid2.coords t 1).val * 16 + b.val) * 16 + x.val = 256 * (grid2.coords t 1).val + qpos (laneOf b x) := by
      unfold qpos laneOf; dsimp only; omega
    rw [sc_eq V c t (laneOf b x) ⟨((grid2.coords t 1).val * 16 + b.val) * 16 + x.val, by omega⟩ hq]
  refine Eq.trans (congrArg (outBlk (F := Ideal) (grid2.coords t) (iblk2 V c 0 t) (iblk2 V c 1 t)) ?_) e
  funext a
  apply Fin.ext
  match a with
  | ⟨0, _⟩ => exact Nat.lt_one_iff.mp (y 0).isLt
  | ⟨1, _⟩ => exact hb.symm
  | ⟨2, _⟩ => exact hg.symm

/-- The normalisers the main call leaves. -/
theorem main_lse (V : (c : Dev nD) → (b : Ref sig .tc) → Buf (Elt Ideal) ((c : Thread nD τ).loc b)) (c : Dev nD) :
    (dat2 V c).arrAt 3 cfg2.N = lseArr (V c main_v5) (V c main_v11) := by
  refine (dat2 V c).arrAt_eq_of_covers 3 _ wcover2_3 fun t hf y => ?_
  refine (congrFun (after2_3 V c t) _).trans ?_
  obtain ⟨q, hq⟩ : ∃ q : Fin 256, q.val = (y 3).val := ⟨y 3, rfl⟩
  have h1 : (grid2.coords t 1).val < 32 := (grid2.coords t 1).isLt
  have e : outLse (F := Ideal) (grid2.coords t) (iblk2 V c 0 t) (iblk2 V c 1 t) (ix4 0 0 0 q)
      = lseArr (V c main_v5) (V c main_v11) (((cfg2.win 3).blk t).view.emb y) := by
    have E0 : (((cfg2.win 3).blk t).view.emb y 0).val = (grid2.coords t 0).val := by
      blk_simp [ix2_3 t]
    have E1 : (((cfg2.win 3).blk t).view.emb y 1).val = (grid2.coords t 1).val := by
      blk_simp [ix2_3 t]
    have E3 : (((cfg2.win 3).blk t).view.emb y 3).val = q.val := by
      blk_simp [ix2_3 t]; exact hq.symm
    refine Eq.trans ?_ (lseAt_congr (V c main_v5) (V c main_v11) E0.symm E1.symm E3.symm)
    refine (outLse_at _ _ _ _).trans ?_
    unfold lseAt
    rw [sc_eq V c t q (rowAt (grid2.coords t 1) q) rfl]
    rfl
  refine Eq.trans (congrArg (outLse (F := Ideal) (grid2.coords t) (iblk2 V c 0 t) (iblk2 V c 1 t)) ?_) e
  funext a
  apply Fin.ext
  match a with
  | ⟨0, _⟩ => exact Nat.lt_one_iff.mp (y 0).isLt
  | ⟨1, _⟩ => exact Nat.lt_one_iff.mp (y 1).isLt
  | ⟨2, _⟩ => exact Nat.lt_one_iff.mp (y 2).isLt
  | ⟨3, _⟩ => exact hq.symm

end Cert.KernelIdeal.Gen
-- ==== Proof.KernelValue.lean ====
/- The kernel's results as functions of the arguments. -/
module

public import proofs.«01_k».proof.Proof.KernelMain

@[expose] public section

set_option maxRecDepth 16384

noncomputable section

namespace Cert.KernelIdeal.Gen

open Idealize Idealize.ShloMosaic Idealize.ShloMosaic.TcCoe Idealize.SL.Sem Idealize.SL
open Cert.KernelIdeal Facts

/-- The prepared depth: offset within the group, then depth. -/
def depth : Fin 8 × Fin 64 ≃ Fin 512 := (finProdFinEquiv (m := 8) (n := 64)).trans (finCongr (by norm_num))

/-- The prepared depth, as a number. -/
theorem depth_val (p : Fin 8 × Fin 64) : (depth p).val = p.1.val * 64 + p.2.val := by
  simp [depth, finProdFinEquiv]; omega

/-- Place and lane are inverse within a tile. -/
theorem qpos_in : ∀ p : Fin 256, qpos (p.val / 128 * 128 + p.val % 16 * 8 + p.val / 16 % 8) = p.val := by decide +kernel

section
variable (m : (ℓ : Loc nD τ sig) → Buf (Elt Ideal) ℓ) (ρ : Dev nD → PrngReg)

/-- The query codes by coordinates. -/
def aq (c : Dev nD) : Row.QC := fun b h s d => (m ((c : Thread nD τ).loc main_arg0) : FVec Ideal S6x14x65536x64 .fp8e4m3) (ix4 b h s d)
/-- The query scales by coordinates. -/
def aqs (c : Dev nD) : Row.QS := fun b h s => (m ((c : Thread nD τ).loc main_arg1) : FVec Ideal S6x14x65536 .f32) (ix3 b h s)
/-- The key codes by coordinates. -/
def ak (c : Dev nD) : Row.KC := fun b h s d => (m ((c : Thread nD τ).loc main_arg2) : FVec Ideal S6x2x65536x64 .fp8e4m3) (ix4 b h s d)
/-- The key scales by coordinates. -/
def aks (c : Dev nD) : Row.KS := fun b h s => (m ((c : Thread nD τ).loc main_arg3) : FVec Ideal S6x2x65536 .f32) (ix3 b h s)

/-- The prepared queries. -/
def PQ (c : Dev nD) : FVec Ideal S84x512x8192 .bf16 :=
  prodF0 (codesF0 (m ((c : Thread nD τ).loc main_arg0))) (scalesF0 (m ((c : Thread nD τ).loc main_arg1)))
/-- The prepared keys. -/
def PK (c : Dev nD) : FVec Ideal S12x8192x512 .bf16 :=
  prodF1 (codesF1 (m ((c : Thread nD τ).loc main_arg2))) (scalesF1 (m ((c : Thread nD τ).loc main_arg3)))

/-- The main call finds the prepared queries. -/
theorem W4_q (c : Dev nD) : W4 m ρ c (Proc.devRef .tc main_v5) = PQ m c := by
  rw [W4_of m ρ c main_v5 (by decide), W3_of m ρ c main_v5 (by decide)]
  refine (W2_arr m ρ c 2).trans ((prep0_arr (V1 m ρ) c).trans ?_)
  have e1 : V1 m ρ c main_v1 = codesF0 (m ((c : Thread nD τ).loc main_arg0)) := after_codes0 (W0 m ρ c)
  have e2 : V1 m ρ c main_v4 = scalesF0 (m ((c : Thread nD τ).loc main_arg1)) := after_scales0 (W0 m ρ c)
  rw [e1, e2]
  rfl

/-- The main call finds the prepared keys. -/
theorem W4_k (c : Dev nD) : W4 m ρ c (Proc.devRef .tc main_v11) = PK m c := by
  refine (W4_arr m ρ c 2).trans ((prep1_arr (V3 m ρ) c).trans ?_)
  have a2 : W2 m ρ c (Proc.devRef .tc main_arg2) = m ((c : Thread nD τ).loc main_arg2) := W2_args m ρ c main_arg2 (by decide)
  have a3 : W2 m ρ c (Proc.devRef .tc main_arg3) = m ((c : Thread nD τ).loc main_arg3) := W2_args m ρ c main_arg3 (by decide)
  have e1 : V3 m ρ c main_v7 = codesF1 (m ((c : Thread nD τ).loc main_arg2)) := (after_codes1 (W2 m ρ c)).trans (congrArg codesF1 a2)
  have e2 : V3 m ρ c main_v10 = scalesF1 (m ((c : Thread nD τ).loc main_arg3)) := (after_scales1 (W2 m ρ c)).trans (congrArg scalesF1 a3)
  rw [e1, e2]
  rfl

/-- A prepared query at an index. -/
theorem PQ_at (c : Dev nD) (b : Fin 6) (h : Fin 14) (i : Fin 8192) (s : Fin 8) (d : Fin 64) (a : Fin 84) (ha : a.val = b.val * 14 + h.val) :
    @Eq EReal (PQ m c (ix3 a (depth (s, d)) (lane i)))
      (aq m c b h ⟨i.val * 8 + s.rev.val, by omega⟩ d * aqs m c b h ⟨i.val * 8 + s.rev.val, by omega⟩) := by
  have hd : (depth (s, d)).val = s.val * 64 + d.val := depth_val (s, d)
  have hs := Fin.val_rev s
  have l1 : (lane i).val / 128 = i.val / 128 := by unfold lane; dsimp only; omega
  have l2 : (lane i).val % 128 = i.val % 16 * 8 + i.val % 128 / 16 := by unfold lane; dsimp only; omega
  have a5 : (i.val % 16 * 8 + i.val % 128 / 16) % 8 = i.val % 128 / 16 := by omega
  have a6 : (i.val % 16 * 8 + i.val % 128 / 16) / 8 = i.val % 16 := by omega
  have a7 : (s.val * 64 + d.val) / 64 = s.val := by omega
  have a8 : i.val / 128 * 1024 + (i.val % 128 / 16 * 128 + i.val % 16 * 8) = i.val * 8 := by omega
  show prod0 _ _ a (depth (s, d)) (lane i) = _
  unfold prod0
  rw [codesF0_at, scalesF0_at]
  unfold aq aqs
  have eb : (⟨a.val / 14, by omega⟩ : Fin 6) = b := Fin.ext (by dsimp only; omega)
  have eh : (⟨a.val % 14, by omega⟩ : Fin 14) = h := Fin.ext (by dsimp only; omega)
  have ed : (⟨(depth (s, d)).val % 64, by omega⟩ : Fin 64) = d := Fin.ext (by dsimp only; omega)
  have et : tok0 (depth (s, d)) (lane i) = ⟨i.val * 8 + s.rev.val, by omega⟩ := by
    apply Fin.ext; unfold tok0; dsimp only; rw [l1, l2, hd, a5, a6, a7]; omega
  rw [eb, eh, ed, et]
  refine congrArg _ (congrArg _ (congrArg _ (Fin.ext ?_)))
  dsimp only; rw [l1, l2, hd, a5, a6, a7]; omega

/-- A prepared key at an index. -/
theorem PK_at (c : Dev nD) (b : Fin 6) (h : Fin 2) (g : Fin 512) (t : Fin 16) (s : Fin 8) (d : Fin 64) (a : Fin 12) (ha : a.val = b.val * 2 + h.val) :
    @Eq EReal (PK m c (ix3 a (rowOf g t) (depth (s, d))))
      (ak m c b h ⟨(g.val * 16 + t.val) * 8 + s.val, by omega⟩ d * aks m c b h ⟨(g.val * 16 + t.val) * 8 + s.val, by omega⟩) := by
  have hd : (depth (s, d)).val = s.val * 64 + d.val := depth_val (s, d)
  have l1 : (rowOf g t).val / 128 = g.val / 8 := by dsimp only [rowOf]; omega
  have l2 : (rowOf g t).val % 128 = 8 * t.val + g.val % 8 := by dsimp only [rowOf]; omega
  show prod1 _ _ a (depth (s, d)) (rowOf g t) = _
  unfold prod1
  rw [codesF1_at, scalesF1_at]
  unfold ak aks
  have eb : (⟨a.val / 2, by omega⟩ : Fin 6) = b := Fin.ext (by dsimp only; omega)
  have eh : (⟨a.val % 2, by omega⟩ : Fin 2) = h := Fin.ext (by dsimp only; omega)
  have ed : (⟨(depth (s, d)).val % 64, by omega⟩ : Fin 64) = d := Fin.ext (by dsimp only; omega)
  have et : tok1 (depth (s, d)) (rowOf g t) = ⟨(g.val * 16 + t.val) * 8 + s.val, by omega⟩ := by
    apply Fin.ext; unfold tok1; dsimp only at l1 l2 ⊢; rw [l1, l2, hd]; omega
  rw [eb, eh, ed, et]
  refine congrArg _ (congrArg _ (congrArg _ (Fin.ext ?_)))
  dsimp only at l1 l2 ⊢; rw [l1, l2, hd]; omega

/-- The kernel's row of scores is the row of scores. -/
theorem sco_eq (c : Dev nD) (b : Fin 6) (h : Fin 14) (i : Fin 8192) (a : Fin 84) (ha : a.val = b.val * 14 + h.val) :
    sco (PQ m c) (PK m c) a i = Row.score (aq m c) (aqs m c) (ak m c) (aks m c) b h i := by
  funext g t
  unfold sco Row.score
  split
  · unfold Row.dot
    rw [← Equiv.sum_comp depth, Fintype.sum_prod_type, Finset.sum_comm]
    refine Finset.sum_congr rfl fun d _ => Finset.sum_congr rfl fun s _ => ?_
    refine (congr (congrArg HMul.hMul (PK_at m c b ⟨h.val / 7, by omega⟩ g t s d _ (by dsimp only; omega))) (PQ_at m c b h i s d a ha)).trans ?_
    exact mul_comm _ _
  · rfl

/-- The kernel's block masses. -/
theorem blk_at (c : Dev nD) (b : Fin 6) (h : Fin 14) (u v : Fin 512) :
    @Eq EReal (W6 m ρ c (Proc.devRef .tc main_v16) (ix4 b h u v)) (Row.blk (aq m c) (aqs m c) (ak m c) (aks m c) b h u v) := by
  have e : W6 m ρ c (Proc.devRef .tc main_v16) = blkF (blkArr (PQ m c) (PK m c)) := by
    refine (after_blk (W5 m ρ c)).trans (congrArg blkF ?_)
    refine (W5_arr m ρ c 2).trans ((main_blk (V4 m ρ) c).trans ?_)
    exact congr (congrArg blkArr (W4_q m ρ c)) (W4_k m ρ c)
  rw [e, blkF_at]
  show blkAt (PQ m c) (PK m c) (⟨b.val * 14 + h.val, by omega⟩ : Fin 84) u v = _
  unfold blkAt Row.blk
  refine Finset.sum_congr rfl fun x _ => Finset.sum_congr rfl fun t _ => ?_
  rw [sco_eq m c b h _ _ rfl]

/-- The kernel's normalisers. -/
theorem lse_at (c : Dev nD) (b : Fin 6) (h : Fin 14) (i : Fin 8192) :
    @Eq EReal (W6 m ρ c (Proc.devRef .tc main_v15) (ix3 b h i)) (Row.lse (aq m c) (aqs m c) (ak m c) (aks m c) b h i) := by
  have e : W6 m ρ c (Proc.devRef .tc main_v15) = lseF (lseArr (PQ m c) (PK m c)) := by
    refine (after_lse (W5 m ρ c)).trans (congrArg lseF ?_)
    refine (W5_arr m ρ c 3).trans ((main_lse (V4 m ρ) c).trans ?_)
    exact congr (congrArg lseArr (W4_q m ρ c)) (W4_k m ρ c)
  rw [e, lseF_at]
  show lseAt (PQ m c) (PK m c) (⟨b.val * 14 + h.val, by omega⟩ : Fin 84) (rowAt ⟨i.val / 128 / 2, _⟩ ⟨i.val / 128 % 2 * 128 + i.val % 16 * 8 + i.val / 16 % 8, _⟩) = _
  have er : rowAt ⟨i.val / 128 / 2, by omega⟩ ⟨i.val / 128 % 2 * 128 + i.val % 16 * 8 + i.val / 16 % 8, by omega⟩ = i := by
    have e2 := qpos_in ⟨i.val % 256, by omega⟩
    have a1 : i.val % 256 / 128 = i.val / 128 % 2 := by omega
    have a2 : i.val % 256 % 16 = i.val % 16 := by omega
    have a3 : i.val % 256 / 16 % 8 = i.val / 16 % 8 := by omega
    dsimp only at e2
    rw [a1, a2, a3] at e2
    apply Fin.ext; unfold rowAt; dsimp only; rw [e2]; omega
  rw [er]
  unfold lseAt Row.lse
  rw [sco_eq m c b h _ _ rfl]
end

end Cert.KernelIdeal.Gen
-- ==== Proof.RefRun.lean ====
/- The reference's run, read at every array. -/
module

public import proofs.«01_k».proof.Proof.Gen.ReferenceIdeal.Frame
public import proofs.«01_k».proof.Proof.Gen.ReferenceIdeal.Launch
public import proofs.«01_k».proof.Proof.Gen.ReferenceIdeal.Skeleton
public import proofs.«01_k».proof.Proof.Gen.ReferenceIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The reference runs, and every array ends with what the last valuation says. -/
theorem ran : θ_run defs (onTc (τ := τ) (main (F := F))) ⟨m, fun _ => 0, ρ⟩ (fun r => ∀ c : Dev nD,
      ∀ b ∈ Pipeline.ucRefs τ sig, r.2.mem ((c : Dev nD), b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => h)

end Cert.ReferenceIdeal.Gen
-- ==== Proof.RefHost.lean ====
/- The reference's host program as functions of arrays, and each at an index. -/
module

public import proofs.«01_k».proof.Proof.RefRun
public import proofs.«01_k».proof.Proof.RowLemma
public import Idealize.ShloMosaic.Lib.Pointwise
public import Idealize.ShloMosaic.Lib.IdealHost
public import Idealize.ShloMosaic.Lib.StableHlo.RunRead
public import Idealize.ShloMosaic.Lib.Pipeline.ValueKit.Tiles
public import Idealize.ShloMosaic.Lib.WordCmp

@[expose] public section

set_option maxRecDepth 16384

noncomputable section

namespace Cert.ReferenceIdeal.Gen

open Idealize Idealize.ShloMosaic Idealize.ShloMosaic.TcCoe Idealize.SL.Sem Idealize.SL
open Cert.ReferenceIdeal Facts

/-- Scores times the scale, hidden positions at the bottom. -/
def hZ (q : FVec Ideal S6x2x7x8192x8x64 .bf16) (k : FVec Ideal S6x2x8192x8x64 .bf16) : FVec Ideal S6x2x7x8192x8192 .f32 :=
  select (broadcastInDim S6x2x7x8192x8192 ![3, 4] bcast_S8192x8192_S6x2x7x8192x8192_3_4
      (cmpi .sle (broadcastInDim S8192x8192 ![0, 1] bcast_S1x8192_S8192x8192_0_1 (broadcastInDim S1x8192 ![1] bcast_S8192_S1x8192_1 (iotaInDim S8192 32 0)))
        (broadcastInDim S8192x8192 ![0, 1] bcast_S8192x1_S8192x8192_0_1 (broadcastInDim S8192x1 ![0] bcast_S8192_S8192x1_0 (iotaInDim S8192 32 0)))))
    (mulf (Host.dotGeneral (φ₁ := .bf16) (φ₂ := .bf16) dot_S6x2x7x8192x8x64_S6x2x8192x8x64_S6x2x7x8192x8192_54_43_23_2_01_01 none (Host.reverse [4] q) k : FVec Ideal S6x2x7x8192x8192 .f32)
      (broadcastInDim S6x2x7x8192x8192 ![] bcast_S_S6x2x7x8192x8192 (constant S_ .f32 0x3C800000#32)))
    (broadcastInDim S6x2x7x8192x8192 ![] bcast_S_S6x2x7x8192x8192 (constant S_ .f32 0xFF800000#32))

/-- The peak of each row. -/
def hPeak (z : FVec Ideal S6x2x7x8192x8192 .f32) : FVec Ideal S6x2x7x8192x1 .f32 :=
  broadcastInDim S6x2x7x8192x1 ![0, 1, 2, 3] bcast_S6x2x7x8192_S6x2x7x8192x1_0_1_2_3
    (Host.reduce FloatOps.maximumf z (constant S_ .f32 0xFF800000#32) reducesTo_S6x2x7x8192x8192_S6x2x7x8192_d4 h_S_ : FVec Ideal S6x2x7x8192 .f32)

/-- The scores less their row's peak. -/
def hShift (z : FVec Ideal S6x2x7x8192x8192 .f32) : FVec Ideal S6x2x7x8192x8192 .f32 :=
  subf z (broadcastInDim S6x2x7x8192x8192 ![0, 1, 2, 3, 4] bcast_S6x2x7x8192x1_S6x2x7x8192x8192_0_1_2_3_4 (hPeak z))

/-- The logarithm of each row's sum of exponentials. -/
def hLog (z : FVec Ideal S6x2x7x8192x8192 .f32) : FVec Ideal S6x2x7x8192x1 .f32 :=
  Host.log (broadcastInDim S6x2x7x8192x1 ![0, 1, 2, 3] bcast_S6x2x7x8192_S6x2x7x8192x1_0_1_2_3
    (Host.reduceAdd (Host.exp (hShift z)) (constant S_ .f32 0x00000000#32) reducesTo_S6x2x7x8192x8192_S6x2x7x8192_d4 h_S_ : FVec Ideal S6x2x7x8192 .f32))

/-- The row probabilities. -/
def hP (z : FVec Ideal S6x2x7x8192x8192 .f32) : FVec Ideal S6x2x7x8192x8192 .f32 :=
  Host.exp (subf (hShift z) (broadcastInDim S6x2x7x8192x8192 ![0, 1, 2, 3, 4] bcast_S6x2x7x8192x1_S6x2x7x8192x8192_0_1_2_3_4 (hLog z)))

/-- The block masses. -/
def hBlk (z : FVec Ideal S6x2x7x8192x8192 .f32) : FVec Ideal S6x14x512x512 .f32 :=
  shapeCast S6x14x512x512 (Host.reduceAdd (shapeCast S6x2x7x512x16x512x16 (hP z) shapeCasts_S6x2x7x8192x8192_S6x2x7x512x16x512x16 : FVec Ideal S6x2x7x512x16x512x16 .f32)
    (constant S_ .f32 0x00000000#32) reducesTo_S6x2x7x512x16x512x16_S6x2x7x512x512_d4_6 h_S_ : FVec Ideal S6x2x7x512x512 .f32) shapeCasts_S6x2x7x512x512_S6x14x512x512

/-- The logarithms of the rows' lengths. -/
def hLen (v6 : IVec S8192 32) : FVec Ideal S8192 .f32 :=
  Host.log (sitofp .f32 (addi v6 (broadcastInDim S8192 ![] bcast_S_S8192 (constantI S_ 32 1#32))) : FVec Ideal S8192 .f32)

/-- The row normalisers less the logarithm of the row's length. -/
def hLse (z : Vec Ideal S6x2x7x8192x8192 .f32) (v6 : IVec S8192 32) : FVec Ideal S6x14x8192 .f32 :=
  shapeCast S6x14x8192 (subf (shapeCast S6x2x7x8192 (addf (hPeak z) (hLog z)) shapeCasts_S6x2x7x8192x1_S6x2x7x8192 : FVec Ideal S6x2x7x8192 .f32)
    (broadcastInDim S6x2x7x8192 ![0, 1, 2, 3] bcast_S1x1x1x8192_S6x2x7x8192_0_1_2_3 (broadcastInDim S1x1x1x8192 ![3] bcast_S8192_S1x1x1x8192_3
      (hLen v6)))) shapeCasts_S6x2x7x8192_S6x14x8192

/-- The last stretch leaves the row normalisers. -/
theorem after24_lse (V : Valuation τ sig (Elt Ideal)) :
    StableHlo.after hostOps2_4 V (Proc.devRef .tc main_v39) = hLse (V (Proc.devRef .tc main_v15)) (V (Proc.devRef .tc main_v6)) := by
  after_reads_simp
  rfl

/-- The last stretch leaves the block masses. -/
theorem after24_blk (V : Valuation τ sig (Elt Ideal)) :
    StableHlo.after hostOps2_4 V (Proc.devRef .tc main_v38) = hBlk (V (Proc.devRef .tc main_v15)) := by
  after_reads_simp
  rfl

/-- The flipped queries. -/
theorem after21_flip (V : Valuation τ sig (Elt Ideal)) :
    StableHlo.after hostOps2_1 V (Proc.devRef .tc main_v4) = (Host.reverse [4] (V (Proc.devRef .tc main_v1)) : FVec Ideal S6x2x7x8192x8x64 .bf16) := by
  after_reads_simp
  rfl

/-- The scores. -/
theorem after22_sc (V : Valuation τ sig (Elt Ideal)) :
    StableHlo.after hostOps2_2 V (Proc.devRef .tc main_v14) = (mulf (Host.dotGeneral (φ₁ := .bf16) (φ₂ := .bf16) dot_S6x2x7x8192x8x64_S6x2x8192x8x64_S6x2x7x8192x8192_54_43_23_2_01_01 none (V (Proc.devRef .tc main_v4) : FVec Ideal S6x2x7x8192x8x64 .bf16) (V (Proc.devRef .tc main_v3) : FVec Ideal S6x2x8192x8x64 .bf16) : FVec Ideal S6x2x7x8192x8192 .f32)
      (broadcastInDim S6x2x7x8192x8192 ![] bcast_S_S6x2x7x8192x8192 (constant S_ .f32 0x3C800000#32)) : FVec Ideal S6x2x7x8192x8192 .f32) := by
  after_reads_simp

/-- The mask. -/
theorem after22_mask (V : Valuation τ sig (Elt Ideal)) :
    StableHlo.after hostOps2_2 V (Proc.devRef .tc main_v12) = (cmpi .sle (broadcastInDim S8192x8192 ![0, 1] bcast_S1x8192_S8192x8192_0_1 (broadcastInDim S1x8192 ![1] bcast_S8192_S1x8192_1 (iotaInDim S8192 32 0)))
        (broadcastInDim S8192x8192 ![0, 1] bcast_S8192x1_S8192x8192_0_1 (broadcastInDim S8192x1 ![0] bcast_S8192_S8192x1_0 (iotaInDim S8192 32 0))) : IVec S8192x8192 1) := by
  after_reads_simp

/-- The bottom. -/
theorem after22_bot (V : Valuation τ sig (Elt Ideal)) :
    StableHlo.after hostOps2_2 V (Proc.devRef .tc main_cst_0) = (constant S_ .f32 0xFF800000#32 : FVec Ideal S_ .f32) := by
  after_reads_simp

/-- The masked scores. -/
theorem after23_where (V : Valuation τ sig (Elt Ideal)) :
    StableHlo.after hostOps2_3 V (Proc.devRef .tc main_v15)
      = (select (broadcastInDim S6x2x7x8192x8192 ![3, 4] bcast_S8192x8192_S6x2x7x8192x8192_3_4 (V (Proc.devRef .tc main_v12)) : IVec S6x2x7x8192x8192 1) (V (Proc.devRef .tc main_v14))
        (broadcastInDim S6x2x7x8192x8192 ![] bcast_S_S6x2x7x8192x8192 (V (Proc.devRef .tc main_cst_0))) : FVec Ideal S6x2x7x8192x8192 .f32) := by
  after_reads_simp
  simp only [StableHlo.TRef.ofBuf_toBuf]
  rfl

/-- The three stretches before leave the scores. -/
theorem after23_z (V : Valuation τ sig (Elt Ideal)) :
    StableHlo.after hostOps2_3 (StableHlo.after hostOps2_2 (StableHlo.after hostOps2_1 V)) (Proc.devRef .tc main_v15)
      = hZ (V (Proc.devRef .tc main_v1)) (V (Proc.devRef .tc main_v3)) := by
  have e3 : StableHlo.after hostOps2_1 V (Proc.devRef .tc main_v3) = V (Proc.devRef .tc main_v3) := by after_reads_simp
  rw [after23_where, after22_sc, after22_mask, after22_bot, after21_flip, e3]
  rfl

/-- And the row numbers. -/
theorem after23_iota (V : Valuation τ sig (Elt Ideal)) :
    StableHlo.after hostOps2_3 (StableHlo.after hostOps2_2 (StableHlo.after hostOps2_1 V)) (Proc.devRef .tc main_v6)
      = (iotaInDim S8192 32 0 : IVec S8192 32) := by
  after_reads_simp

end Cert.ReferenceIdeal.Gen
-- ==== Proof.RefIdeal.lean ====
/- The reference's host functions at an index. -/
module

public import proofs.«01_k».proof.Proof.RefHost
public import proofs.«01_k».proof.Proof.RowLemma
public import Idealize.ShloMosaic.Lib.Pointwise
public import Idealize.ShloMosaic.Lib.IdealHost
public import Idealize.ShloMosaic.Lib.StableHlo.RunRead
public import Idealize.ShloMosaic.Lib.Pipeline.ValueKit.Tiles
public import Idealize.ShloMosaic.Lib.WordCmp

@[expose] public section

set_option maxRecDepth 16384

noncomputable section

namespace Cert.ReferenceIdeal.Gen

open Idealize Idealize.ShloMosaic Idealize.ShloMosaic.TcCoe Idealize.SL.Sem Idealize.SL
open Cert.ReferenceIdeal Facts

/-- The word form of the mask. -/
theorem le_eq (j i : Fin 8192) : IntOp.cmpi .sle (BitVec.ofNat 32 j.val) (BitVec.ofNat 32 i.val) = if j.val ≤ i.val then 1#1 else 0#1 := by
  have hj : (BitVec.ofNat 32 j.val).toInt = (j.val : ℤ) := WordCmp.toInt_ofNat_of_lt (by have := j.isLt; omega)
  have hi : (BitVec.ofNat 32 i.val).toInt = (i.val : ℤ) := WordCmp.toInt_ofNat_of_lt (by have := i.isLt; omega)
  rw [WordCmp.cmpi_sle_eq, hj, hi]
  by_cases e : j.val ≤ i.val <;> simp [e]

/-- The scale, as the reference writes it. -/
theorem cs_eq : Ideal.ofBits .f32 0x3C800000#32 = Row.cs := by
  unfold Row.cs
  simp [Ideal.ofBits, Ideal.ieee, -EReal.coe_mul]
  norm_num

/-- The bottom, as the reference writes it. -/
theorem ninf_eq : Ideal.ofBits .f32 0xFF800000#32 = (⊥ : EReal) := by
  simp [Ideal.ofBits, Ideal.ieee]

/-- The raw score of query `i` and key `j`. -/
def hRaw (q : Vec Ideal S6x2x7x8192x8x64 .bf16) (k : Vec Ideal S6x2x8192x8x64 .bf16) (b : Fin 6) (h : Fin 2) (r : Fin 7) (i j : Fin 8192) : EReal :=
  ∑ d : Fin 64, ∑ s : Fin 8, q (ix6 b h r i s.rev d) * k (ix5 b h j s d)

/-- The masked scores at an index. -/
theorem hZ_at (q : Vec Ideal S6x2x7x8192x8x64 .bf16) (k : Vec Ideal S6x2x8192x8x64 .bf16) (b : Fin 6) (h : Fin 2) (r : Fin 7) (i j : Fin 8192) :
    hZ q k (ix5 b h r i j) = if j.val ≤ i.val then hRaw q k b h r i j * Row.cs else ⊥ := by
  pointwise [hZ]
  rw [le_eq, cs_eq, ninf_eq]
  split
  · exact rfl
  · exact rfl

/-- The peak at an index. -/
theorem hPeak_at (z : Vec Ideal S6x2x7x8192x8192 .f32) (b : Fin 6) (h : Fin 2) (r : Fin 7) (i : Fin 8192) : hPeak z (ix5 b h r i 0) = Finset.univ.sup fun j => z (ix5 b h r i j) := by
  pointwise [hPeak]
  rw [ninf_eq]
  rfl

/-- The shifted scores at an index. -/
theorem hShift_at (z : Vec Ideal S6x2x7x8192x8192 .f32) (b : Fin 6) (h : Fin 2) (r : Fin 7) (i j : Fin 8192) : hShift z (ix5 b h r i j) = z (ix5 b h r i j) - hPeak z (ix5 b h r i 0) := by
  pointwise [hShift]

/-- The logarithm of the row sum at an index. -/
theorem hLog_at (z : Vec Ideal S6x2x7x8192x8192 .f32) (b : Fin 6) (h : Fin 2) (r : Fin 7) (i : Fin 8192) : hLog z (ix5 b h r i 0) = Ideal.log (∑ x, Ideal.exp (hShift z (ix5 b h r i x))) := by
  pointwise [hLog]

/-- The probabilities at an index. -/
theorem hP_at (z : Vec Ideal S6x2x7x8192x8192 .f32) (b : Fin 6) (h : Fin 2) (r : Fin 7) (i j : Fin 8192) : hP z (ix5 b h r i j) = Ideal.exp (hShift z (ix5 b h r i j) - hLog z (ix5 b h r i 0)) := by
  pointwise [hP]

/-- A sum over the two inner axes of the blocked array. -/
theorem sum_cells (x : S6x2x7x512x16x512x16.Idx → EReal) (b : Fin 6) (h : Fin 2) (r : Fin 7) (u v : Fin 512) :
    Ideal.hostReduceAdd reducesTo_S6x2x7x512x16x512x16_S6x2x7x512x512_d4_6 x 0 (ix5 b h r u v)
      = ∑ p : Fin 16 × Fin 16, x (ix7 b h r u p.1 v p.2) := by
  unfold Ideal.hostReduceAdd
  rw [zero_add]
  refine Finset.sum_filter_eq_sum_of_fiber _ (fun p : Fin 16 × Fin 16 => (ix7 b h r u p.1 v p.2 : S6x2x7x512x16x512x16.Idx)) ?_ ?_ _
  · intro p p' e
    exact Prod.ext (congrFun e 4) (congrFun e 6)
  · intro i
    constructor
    · intro e
      refine ⟨(i 4, i 6), ?_⟩
      funext a; apply Fin.ext
      match a with
      | ⟨0, _⟩ => exact (congrArg Fin.val (congrFun e ⟨0, by decide⟩)).symm
      | ⟨1, _⟩ => exact (congrArg Fin.val (congrFun e ⟨1, by decide⟩)).symm
      | ⟨2, _⟩ => exact (congrArg Fin.val (congrFun e ⟨2, by decide⟩)).symm
      | ⟨3, _⟩ => exact (congrArg Fin.val (congrFun e ⟨3, by decide⟩)).symm
      | ⟨4, _⟩ => rfl
      | ⟨5, _⟩ => exact (congrArg Fin.val (congrFun e ⟨4, by decide⟩)).symm
      | ⟨6, _⟩ => rfl
    · rintro ⟨k, rfl⟩
      funext c
      apply Fin.ext
      match c with
      | ⟨0, _⟩ => rfl
      | ⟨1, _⟩ => rfl
      | ⟨2, _⟩ => rfl
      | ⟨3, _⟩ => rfl
      | ⟨4, _⟩ => rfl

/-- The probabilities, blocked, at an index. -/
theorem blocked_at (p : FVec Ideal S6x2x7x8192x8192 .f32) (b : Fin 6) (h : Fin 2) (r : Fin 7) (u v : Fin 512) (x y : Fin 16) :
    (shapeCast S6x2x7x512x16x512x16 p shapeCasts_S6x2x7x8192x8192_S6x2x7x512x16x512x16 : FVec Ideal S6x2x7x512x16x512x16 .f32) (ix7 b h r u x v y)
      = p (ix5 b h r ⟨u.val * 16 + x.val, by omega⟩ ⟨v.val * 16 + y.val, by omega⟩) := by
  pointwise

/-- The block masses at an index. -/
theorem hBlk_at (z : Vec Ideal S6x2x7x8192x8192 .f32) (b : Fin 6) (h : Fin 14) (u v : Fin 512) :
    hBlk z (ix4 b h u v) = ∑ x : Fin 16, ∑ y : Fin 16,
      hP z (ix5 b ⟨h.val / 7, by omega⟩ ⟨h.val % 7, by omega⟩ ⟨u.val * 16 + x.val, by omega⟩ ⟨v.val * 16 + y.val, by omega⟩) := by
  pointwise [hBlk]
  refine (sum_cells _ _ _ _ _ _).trans ?_
  rw [Fintype.sum_prod_type]
  refine Finset.sum_congr rfl fun x _ => Finset.sum_congr rfl fun y _ => ?_
  exact blocked_at _ _ _ _ _ _ _ _

/-- The logarithm of a row's length. -/
theorem hLen_at (i : Fin 8192) : hLen (iotaInDim S8192 32 0) (ix1 i) = Ideal.log (((i.val + 1 : ℕ) : ℝ) : EReal) := by
  have e : hLen (iotaInDim S8192 32 0) (ix1 i) = Ideal.log (FloatOps.sitofp (F := Ideal) .f32 (BitVec.ofNat 32 i.val + 1#32)) := rfl
  have h1 : (BitVec.ofNat 32 i.val + 1#32).toInt = ((i.val + 1 : ℕ) : ℤ) := by
    rw [← BitVec.ofNat_add i.val 1]
    exact WordCmp.toInt_ofNat_of_lt (by have := i.isLt; omega)
  rw [e]
  show Ideal.log ((((BitVec.ofNat 32 i.val + 1#32).toInt : ℝ)) : EReal) = _
  rw [h1]
  norm_cast

/-- Dropping the unit axis, at an index. -/
theorem drop_at (a : FVec Ideal S6x2x7x8192x1 .f32) (b : Fin 6) (h : Fin 2) (r : Fin 7) (i : Fin 8192) :
    (shapeCast S6x2x7x8192 a shapeCasts_S6x2x7x8192x1_S6x2x7x8192 : FVec Ideal S6x2x7x8192 .f32) (ix4 b h r i) = a (ix5 b h r i 0) := by
  pointwise

/-- Joining the head axes, at an index. -/
theorem join_at (a : FVec Ideal S6x2x7x8192 .f32) (b : Fin 6) (h : Fin 14) (i : Fin 8192) :
    (shapeCast S6x14x8192 a shapeCasts_S6x2x7x8192_S6x14x8192 : FVec Ideal S6x14x8192 .f32) (ix3 b h i)
      = a (ix4 b ⟨h.val / 7, by omega⟩ ⟨h.val % 7, by omega⟩ i) := by
  pointwise

/-- Spreading over the heads, at an index. -/
theorem spread_at (a : FVec Ideal S8192 .f32) (b : Fin 6) (h : Fin 2) (r : Fin 7) (i : Fin 8192) :
    (broadcastInDim S6x2x7x8192 ![0, 1, 2, 3] bcast_S1x1x1x8192_S6x2x7x8192_0_1_2_3 (broadcastInDim S1x1x1x8192 ![3] bcast_S8192_S1x1x1x8192_3 a) : FVec Ideal S6x2x7x8192 .f32) (ix4 b h r i) = a (ix1 i) := by
  pointwise

/-- A difference at an index. -/
theorem sub_at (a c : FVec Ideal S6x2x7x8192 .f32) (b : Fin 6) (h : Fin 2) (r : Fin 7) (i : Fin 8192) :
    subf a c (ix4 b h r i) = a (ix4 b h r i) - c (ix4 b h r i) := rfl

/-- A sum at an index. -/
theorem add_at (a c : FVec Ideal S6x2x7x8192x1 .f32) (b : Fin 6) (h : Fin 2) (r : Fin 7) (i : Fin 8192) :
    addf a c (ix5 b h r i 0) = a (ix5 b h r i 0) + c (ix5 b h r i 0) := rfl

/-- The row results at an index. -/
theorem hLse_at (z : Vec Ideal S6x2x7x8192x8192 .f32) (v6 : IVec S8192 32) (b : Fin 6) (h : Fin 14) (i : Fin 8192) :
    hLse z v6 (ix3 b h i) = hPeak z (ix5 b ⟨h.val / 7, by omega⟩ ⟨h.val % 7, by omega⟩ i 0)
      + hLog z (ix5 b ⟨h.val / 7, by omega⟩ ⟨h.val % 7, by omega⟩ i 0) - hLen v6 (ix1 i) := by
  unfold hLse
  rw [join_at, sub_at, drop_at, spread_at, add_at]

end Cert.ReferenceIdeal.Gen
-- ==== Proof.RefValue.lean ====
/- The reference's results as functions of the arguments. -/
module

public import proofs.«01_k».proof.Proof.RefIdeal
public import proofs.«01_k».proof.Proof.Spec
public import Idealize.ShloMosaic.Lib.Pipeline.ValueKit.Geometry

@[expose] public section

set_option maxRecDepth 16384

noncomputable section

namespace Cert.ReferenceIdeal.Gen

open Idealize Idealize.ShloMosaic Idealize.ShloMosaic.TcCoe Idealize.SL.Sem Idealize.SL
open Cert.ReferenceIdeal Facts

/-- The queries dequantised, at an index. -/
theorem pay0_at (x0 : FVec Ideal S6x14x65536x64 .fp8e4m3) (x1 : FVec Ideal S6x14x65536 .f32)
    (a : Fin 6) (b : Fin 14) (s : Fin 65536) (d : Fin 64) :
    out0_2 (F := Ideal) x0 x1 (ix4 a b s d) = x0 (ix4 a b s d) * x1 (ix3 a b s) := by
  rw [out0_2, View.canon_unit_zero (h := by funext a; fin_cases a <;> rfl), View.ld_unit_zero (h := by funext a; fin_cases a <;> rfl), View.ld_unit_zero (h := by funext a; fin_cases a <;> rfl)]
  pointwise [k0_pay1]

/-- The first call leaves the dequantised queries. -/
theorem dq_arr (V : (c : Dev nD) → (b : Ref sig .tc) → Buf (Elt Ideal) ((c : Thread nD τ).loc b)) (c : Dev nD) :
    (dat0 V c).arrAt 2 cfg0.N = out0_2 (F := Ideal) (V c main_arg0) (V c main_arg1) := by
  refine (dat0 V c).arrAt_eq_of_after_last 2 ⟨0, by decide⟩ (by decide +kernel) _ fun j => ?_
  refine (congrFun (after0_2 V c ⟨0, by decide⟩) _).trans ?_
  have e0 : iblk0 V c 0 ⟨0, by decide⟩ = V c main_arg0 := by
    funext x; blk_simp [iblk0]; refine congrArg _ ?_; funext a; apply Fin.ext; exact Pipeline.Window.rect_emb_val_of_index_zero _ _ _ rfl _
  have e1 : iblk0 V c 1 ⟨0, by decide⟩ = V c main_arg1 := by
    funext x; blk_simp [iblk0]; refine congrArg _ ?_; funext a; apply Fin.ext; exact Pipeline.Window.rect_emb_val_of_index_zero _ _ _ rfl _
  rw [e0, e1]
  rfl

/-- The reshape of the queries. -/
theorem after1 (V : Valuation τ sig (Elt Ideal)) (b : Fin 6) (h : Fin 2) (r : Fin 7) (i : Fin 8192) (s : Fin 8) (d : Fin 64) :
    (StableHlo.after hostOps1 V (Proc.devRef .tc main_v1) : FVec Ideal S6x2x7x8192x8x64 .f32) (ix6 b h r i s d)
      = (V (Proc.devRef .tc main_v0) : FVec Ideal S6x14x65536x64 .f32) (ix4 b ⟨h.val * 7 + r.val, by omega⟩ ⟨i.val * 8 + s.val, by omega⟩ d) := by
  have e : StableHlo.after hostOps1 V (Proc.devRef .tc main_v1)
    = shapeCast S6x2x7x8192x8x64 (V (Proc.devRef .tc main_v0) : FVec Ideal S6x14x65536x64 .f32) (by decide) := by
    after_reads_simp
    rfl
  rw [e]
  pointwise []
/-- The keys dequantised, at an index. -/
theorem pay1_at (x0 : FVec Ideal S6x2x65536x64 .fp8e4m3) (x1 : FVec Ideal S6x2x65536 .f32)
    (a : Fin 6) (b : Fin 2) (s : Fin 65536) (d : Fin 64) :
    out1_2 (F := Ideal) x0 x1 (ix4 a b s d) = x0 (ix4 a b s d) * x1 (ix3 a b s) := by
  rw [out1_2, View.canon_unit_zero (h := by funext a; fin_cases a <;> rfl), View.ld_unit_zero (h := by funext a; fin_cases a <;> rfl), View.ld_unit_zero (h := by funext a; fin_cases a <;> rfl)]
  pointwise [k1_pay1]

/-- The second call leaves the dequantised keys. -/
theorem dk_arr (V : (c : Dev nD) → (b : Ref sig .tc) → Buf (Elt Ideal) ((c : Thread nD τ).loc b)) (c : Dev nD) :
    (dat1 V c).arrAt 2 cfg1.N = out1_2 (F := Ideal) (V c main_arg2) (V c main_arg3) := by
  refine (dat1 V c).arrAt_eq_of_after_last 2 ⟨0, by decide⟩ (by decide +kernel) _ fun j => ?_
  refine (congrFun (after1_2 V c ⟨0, by decide⟩) _).trans ?_
  have e0 : iblk1 V c 0 ⟨0, by decide⟩ = V c main_arg2 := by
    funext x; blk_simp [iblk1]; refine congrArg _ ?_; funext a; apply Fin.ext; exact Pipeline.Window.rect_emb_val_of_index_zero _ _ _ rfl _
  have e1 : iblk1 V c 1 ⟨0, by decide⟩ = V c main_arg3 := by
    funext x; blk_simp [iblk1]; refine congrArg _ ?_; funext a; apply Fin.ext; exact Pipeline.Window.rect_emb_val_of_index_zero _ _ _ rfl _
  rw [e0, e1]
  rfl

/-- The reshape of the keys. -/
theorem after2 (V : Valuation τ sig (Elt Ideal)) (b : Fin 6) (h : Fin 2) (i : Fin 8192) (s : Fin 8) (d : Fin 64) :
    (StableHlo.after hostOps2 V (Proc.devRef .tc main_v3) : FVec Ideal S6x2x8192x8x64 .f32) (ix5 b h i s d)
      = (V (Proc.devRef .tc main_v2) : FVec Ideal S6x2x65536x64 .f32) (ix4 b h ⟨i.val * 8 + s.val, by omega⟩ d) := by
  have e : StableHlo.after hostOps2 V (Proc.devRef .tc main_v3)
    = shapeCast S6x2x8192x8x64 (V (Proc.devRef .tc main_v2) : FVec Ideal S6x2x65536x64 .f32) (by decide) := by
    after_reads_simp
    rfl
  rw [e]
  pointwise []

section
variable (m : (ℓ : Loc nD τ sig) → Buf (Elt Ideal) ℓ) (ρ : Dev nD → PrngReg)

/-- The query codes by coordinates. -/
def aq (c : Dev nD) : Row.QC := fun b h s d => (m ((c : Thread nD τ).loc main_arg0) : FVec Ideal S6x14x65536x64 .fp8e4m3) (ix4 b h s d)
/-- The query scales by coordinates. -/
def aqs (c : Dev nD) : Row.QS := fun b h s => (m ((c : Thread nD τ).loc main_arg1) : FVec Ideal S6x14x65536 .f32) (ix3 b h s)
/-- The key codes by coordinates. -/
def ak (c : Dev nD) : Row.KC := fun b h s d => (m ((c : Thread nD τ).loc main_arg2) : FVec Ideal S6x2x65536x64 .fp8e4m3) (ix4 b h s d)
/-- The key scales by coordinates. -/
def aks (c : Dev nD) : Row.KS := fun b h s => (m ((c : Thread nD τ).loc main_arg3) : FVec Ideal S6x2x65536 .f32) (ix3 b h s)

/-- The queries the scores read. -/
theorem q_at (c : Dev nD) (b : Fin 6) (h : Fin 2) (r : Fin 7) (i : Fin 8192) (s : Fin 8) (d : Fin 64) :
    @Eq EReal (W4 m ρ c (Proc.devRef .tc main_v1) (ix6 b h r i s d))
      (aq m c b ⟨h.val * 7 + r.val, by omega⟩ ⟨i.val * 8 + s.val, by omega⟩ d
        * aqs m c b ⟨h.val * 7 + r.val, by omega⟩ ⟨i.val * 8 + s.val, by omega⟩) := by
  rw [W4_of m ρ c main_v1 (by decide), W3_of m ρ c main_v1 (by decide)]
  refine (after1 (W1 m ρ c) b h r i s d).trans ?_
  have e : W1 m ρ c (Proc.devRef .tc main_v0) = _ := (W1_arr m ρ c 2).trans (dq_arr (V0 m ρ) c)
  rw [e]
  refine (pay0_at _ _ _ _ _ _).trans ?_
  rfl

/-- The keys the scores read. -/
theorem k_at (c : Dev nD) (b : Fin 6) (h : Fin 2) (i : Fin 8192) (s : Fin 8) (d : Fin 64) :
    @Eq EReal (W4 m ρ c (Proc.devRef .tc main_v3) (ix5 b h i s d))
      (ak m c b h ⟨i.val * 8 + s.val, by omega⟩ d * aks m c b h ⟨i.val * 8 + s.val, by omega⟩) := by
  refine (after2 (W3 m ρ c) b h i s d).trans ?_
  have e : W3 m ρ c (Proc.devRef .tc main_v2) = _ := (W3_arr m ρ c 2).trans (dk_arr (V2 m ρ) c)
  rw [e]
  refine (pay1_at _ _ _ _ _ _).trans ?_
  have e2 : V2 m ρ c main_arg2 = m ((c : Thread nD τ).loc main_arg2) := W2_args m ρ c main_arg2 (by decide)
  have e3 : V2 m ρ c main_arg3 = m ((c : Thread nD τ).loc main_arg3) := W2_args m ρ c main_arg3 (by decide)
  rw [e2, e3]
  rfl

/-- The reference's scores, the array. -/
def Z (c : Dev nD) : FVec Ideal S6x2x7x8192x8192 .f32 := hZ (W4 m ρ c (Proc.devRef .tc main_v1)) (W4 m ρ c (Proc.devRef .tc main_v3))

/-- A raw score of the reference is the dot product. -/
theorem raw_eq (c : Dev nD) (b : Fin 6) (h : Fin 14) (i j : Fin 8192) :
    hRaw (W4 m ρ c (Proc.devRef .tc main_v1)) (W4 m ρ c (Proc.devRef .tc main_v3)) b ⟨h.val / 7, by omega⟩ ⟨h.val % 7, by omega⟩ i j
      = Row.dot (aq m c) (aqs m c) (ak m c) (aks m c) b h i j := by
  unfold hRaw Row.dot
  refine Finset.sum_congr rfl fun d _ => Finset.sum_congr rfl fun s _ => ?_
  refine (congr (congrArg HMul.hMul (q_at m ρ c _ _ _ _ _ _)) (k_at m ρ c _ _ _ _ _)).trans ?_
  have e : (⟨h.val / 7 * 7 + h.val % 7, by omega⟩ : Fin 14) = h := Fin.ext (by dsimp only; omega)
  rw [e]

/-- A row of the reference's scores is the scaled row. -/
theorem Z_row (c : Dev nD) (b : Fin 6) (h : Fin 14) (i : Fin 8192) (p : Fin 512 × Fin 16) :
    Z m ρ c (ix5 b ⟨h.val / 7, by omega⟩ ⟨h.val % 7, by omega⟩ i (Row.flat p))
      = Row.score (aq m c) (aqs m c) (ak m c) (aks m c) b h i p.1 p.2 * Row.cs := by
  unfold Z
  rw [hZ_at, raw_eq m ρ c]
  unfold Row.score
  have e : Row.flat p = ⟨p.1.val * 16 + p.2.val, by omega⟩ := Fin.ext (Row.flat_val p)
  rw [e]
  by_cases hc : 16 * p.1.val + p.2.val ≤ i.val
  · rw [if_pos hc, if_pos (by dsimp only; omega)]
  · rw [if_neg hc, if_neg (by dsimp only; omega), Row.cs, Row.bot_mul_pos Row.cs_pos]

/-- The reference's peak. -/
theorem peak_eq (c : Dev nD) (b : Fin 6) (h : Fin 14) (i : Fin 8192) :
    hPeak (Z m ρ c) (ix5 b ⟨h.val / 7, by omega⟩ ⟨h.val % 7, by omega⟩ i 0)
      = Row.rm (Row.score (aq m c) (aqs m c) (ak m c) (aks m c) b h i) * Row.cs := by
  rw [hPeak_at]
  exact Row.flat_sup _ _ (Z_row m ρ c b h i)

/-- The reference's total. -/
theorem log_eq (c : Dev nD) (b : Fin 6) (h : Fin 14) (i : Fin 8192) :
    hLog (Z m ρ c) (ix5 b ⟨h.val / 7, by omega⟩ ⟨h.val % 7, by omega⟩ i 0)
      = Ideal.log (Row.rt (Row.score (aq m c) (aqs m c) (ak m c) (aks m c) b h i)) := by
  rw [hLog_at, Row.flat_sum]
  unfold Row.rt
  congr 1
  refine Finset.sum_congr rfl fun g _ => Finset.sum_congr rfl fun t _ => ?_
  rw [hShift_at, peak_eq m ρ c, Z_row m ρ c b h i (g, t)]

/-- The reference's block masses. -/
theorem blk_at (c : Dev nD) (b : Fin 6) (h : Fin 14) (u v : Fin 512) :
    @Eq EReal (W8 m ρ c (Proc.devRef .tc main_v38) (ix4 b h u v)) (Row.blk (aq m c) (aqs m c) (ak m c) (aks m c) b h u v) := by
  have e : W8 m ρ c (Proc.devRef .tc main_v38) = hBlk (Z m ρ c) :=
    (after24_blk _).trans (congrArg hBlk (after23_z (W4 m ρ c)))
  rw [e, hBlk_at]
  unfold Row.blk
  refine Finset.sum_congr rfl fun x _ => Finset.sum_congr rfl fun t _ => ?_
  have ef : (⟨v.val * 16 + t.val, by omega⟩ : Fin 8192) = Row.flat (v, t) := Fin.ext (Row.flat_val (v, t)).symm
  rw [ef, hP_at, hShift_at, peak_eq m ρ c, log_eq m ρ c, Z_row m ρ c]

/-- The reference's normalisers. -/
theorem lse_at (c : Dev nD) (b : Fin 6) (h : Fin 14) (i : Fin 8192) :
    @Eq EReal (W8 m ρ c (Proc.devRef .tc main_v39) (ix3 b h i)) (Row.lse (aq m c) (aqs m c) (ak m c) (aks m c) b h i) := by
  have e : W8 m ρ c (Proc.devRef .tc main_v39) = hLse (Z m ρ c) (iotaInDim S8192 32 0) :=
    (after24_lse _).trans (congr (congrArg hLse (after23_z (W4 m ρ c))) (after23_iota (W4 m ρ c)))
  rw [e, hLse_at, peak_eq m ρ c, log_eq m ρ c, hLen_at]
  rfl

end

end Cert.ReferenceIdeal.Gen
-- ==== Proof.Algebraic.lean ====
/- The kernel and the reference leave equal results. -/
module

public import proofs.«01_k».proof.Defs
public import proofs.«01_k».proof.Proof.KernelValue
public import proofs.«01_k».proof.Proof.RefValue

@[expose] public section

set_option maxRecDepth 16384

noncomputable section

namespace Cert.Algebraic

open Idealize Idealize.ShloMosaic Idealize.ShloMosaic.TcCoe Idealize.SL.Sem Idealize.SL

/-- The facts of the kernel program. -/
instance : Cert.KernelIdeal.Facts := Cert.KernelIdeal.Gen.facts
/-- The facts of the reference program. -/
instance : Cert.ReferenceIdeal.Facts := Cert.ReferenceIdeal.Gen.facts

section
variable (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)

/-- The block masses agree. -/
theorem blk (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    @Eq ((⟨4, ![6, 14, 512, 512]⟩ : Shape).Idx → EReal) (Cert.ReferenceIdeal.Gen.W8 m' g' c (Proc.devRef .tc Cert.ReferenceIdeal.main_v38))
      (Cert.KernelIdeal.Gen.W6 m g c (Proc.devRef .tc Cert.KernelIdeal.main_v16)) := by
  have q : Cert.ReferenceIdeal.Gen.aq m' c = Cert.KernelIdeal.Gen.aq m c := by
    unfold Cert.ReferenceIdeal.Gen.aq Cert.KernelIdeal.Gen.aq; rw [h0]
  have qs : Cert.ReferenceIdeal.Gen.aqs m' c = Cert.KernelIdeal.Gen.aqs m c := by
    unfold Cert.ReferenceIdeal.Gen.aqs Cert.KernelIdeal.Gen.aqs; rw [h1]
  have k : Cert.ReferenceIdeal.Gen.ak m' c = Cert.KernelIdeal.Gen.ak m c := by
    unfold Cert.ReferenceIdeal.Gen.ak Cert.KernelIdeal.Gen.ak; rw [h2]
  have ks : Cert.ReferenceIdeal.Gen.aks m' c = Cert.KernelIdeal.Gen.aks m c := by
    unfold Cert.ReferenceIdeal.Gen.aks Cert.KernelIdeal.Gen.aks; rw [h3]
  funext i
  have e : i = ix4 (i 0) (i 1) (i 2) (i 3) := by
    funext a; match a with | 0 => rfl | 1 => rfl | 2 => rfl | 3 => rfl
  rw [e]
  refine (Cert.ReferenceIdeal.Gen.blk_at m' g' c (i 0) (i 1) (i 2) (i 3)).trans ?_
  refine Eq.trans ?_ (Cert.KernelIdeal.Gen.blk_at m g c (i 0) (i 1) (i 2) (i 3)).symm
  rw [q, qs, k, ks]

/-- The normalisers agree. -/
theorem lse (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    @Eq ((⟨3, ![6, 14, 8192]⟩ : Shape).Idx → EReal) (Cert.ReferenceIdeal.Gen.W8 m' g' c (Proc.devRef .tc Cert.ReferenceIdeal.main_v39))
      (Cert.KernelIdeal.Gen.W6 m g c (Proc.devRef .tc Cert.KernelIdeal.main_v15)) := by
  have q : Cert.ReferenceIdeal.Gen.aq m' c = Cert.KernelIdeal.Gen.aq m c := by
    unfold Cert.ReferenceIdeal.Gen.aq Cert.KernelIdeal.Gen.aq; rw [h0]
  have qs : Cert.ReferenceIdeal.Gen.aqs m' c = Cert.KernelIdeal.Gen.aqs m c := by
    unfold Cert.ReferenceIdeal.Gen.aqs Cert.KernelIdeal.Gen.aqs; rw [h1]
  have k : Cert.ReferenceIdeal.Gen.ak m' c = Cert.KernelIdeal.Gen.ak m c := by
    unfold Cert.ReferenceIdeal.Gen.ak Cert.KernelIdeal.Gen.ak; rw [h2]
  have ks : Cert.ReferenceIdeal.Gen.aks m' c = Cert.KernelIdeal.Gen.aks m c := by
    unfold Cert.ReferenceIdeal.Gen.aks Cert.KernelIdeal.Gen.aks; rw [h3]
  funext i
  have e : i = ix3 (i 0) (i 1) (i 2) := by
    funext a; match a with | 0 => rfl | 1 => rfl | 2 => rfl
  rw [e]
  refine (Cert.ReferenceIdeal.Gen.lse_at m' g' c (i 0) (i 1) (i 2)).trans ?_
  refine Eq.trans ?_ (Cert.KernelIdeal.Gen.lse_at m g c (i 0) (i 1) (i 2)).symm
  rw [q, qs, k, ks]
end

/-- The kernel and the reference, from equal arguments, both run and leave equal results. -/
theorem algebraic : @Cert.algebraic_KernelIdeal_ReferenceIdeal Cert.KernelIdeal.Gen.facts Cert.ReferenceIdeal.Gen.facts := by
  intro m g m' g' _ hargs
  refine ⟨fun c => Cert.KernelIdeal.Gen.W6 m g c (Proc.devRef .tc Cert.KernelIdeal.main_v16),
    fun c => Cert.KernelIdeal.Gen.W6 m g c (Proc.devRef .tc Cert.KernelIdeal.main_v15), ?_, ?_⟩
  · exact (θ_run Cert.KernelIdeal.defs _ _).mono (fun _ h c =>
      ⟨h.1 c _ (Cert.KernelIdeal.Gen.mem_uc Cert.KernelIdeal.main_v16 (by decide)),
       h.1 c _ (Cert.KernelIdeal.Gen.mem_uc Cert.KernelIdeal.main_v15 (by decide)),
       (h.1 c _ (Cert.KernelIdeal.Gen.mem_uc Cert.KernelIdeal.main_arg0 (by decide))).trans (Cert.KernelIdeal.Gen.W6_main_arg0 m g c),
       (h.1 c _ (Cert.KernelIdeal.Gen.mem_uc Cert.KernelIdeal.main_arg1 (by decide))).trans (Cert.KernelIdeal.Gen.W6_main_arg1 m g c),
       (h.1 c _ (Cert.KernelIdeal.Gen.mem_uc Cert.KernelIdeal.main_arg2 (by decide))).trans (Cert.KernelIdeal.Gen.W6_main_arg2 m g c),
       (h.1 c _ (Cert.KernelIdeal.Gen.mem_uc Cert.KernelIdeal.main_arg3 (by decide))).trans (Cert.KernelIdeal.Gen.W6_main_arg3 m g c)⟩)
      (Cert.KernelIdeal.Gen.ran m g)
  · exact (θ_run Cert.ReferenceIdeal.defs _ _).mono (fun _ h c =>
      ⟨(h c _ (Cert.ReferenceIdeal.Gen.mem_uc Cert.ReferenceIdeal.main_v38 (by decide))).trans
        (blk m g m' g' c (hargs c).1 (hargs c).2.1 (hargs c).2.2.1 (hargs c).2.2.2),
       (h c _ (Cert.ReferenceIdeal.Gen.mem_uc Cert.ReferenceIdeal.main_v39 (by decide))).trans
        (lse m g m' g' c (hargs c).1 (hargs c).2.1 (hargs c).2.2.1 (hargs c).2.2.2),
       (h c _ (Cert.ReferenceIdeal.Gen.mem_uc Cert.ReferenceIdeal.main_arg0 (by decide))).trans (Cert.ReferenceIdeal.Gen.W8_main_arg0 m' g' c),
       (h c _ (Cert.ReferenceIdeal.Gen.mem_uc Cert.ReferenceIdeal.main_arg1 (by decide))).trans (Cert.ReferenceIdeal.Gen.W8_main_arg1 m' g' c),
       (h c _ (Cert.ReferenceIdeal.Gen.mem_uc Cert.ReferenceIdeal.main_arg2 (by decide))).trans (Cert.ReferenceIdeal.Gen.W8_main_arg2 m' g' c),
       (h c _ (Cert.ReferenceIdeal.Gen.mem_uc Cert.ReferenceIdeal.main_arg3 (by decide))).trans (Cert.ReferenceIdeal.Gen.W8_main_arg3 m' g' c)⟩)
      (Cert.ReferenceIdeal.Gen.ran m' g')

end Cert.Algebraic
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.BitsRunFrame
public import proofs.«01_k».proof.Proof.RunFrame
public import proofs.«01_k».proof.Proof.Algebraic
public import Idealize.ShloMosaic.Adequacy
public import Idealize.ShloMosaic.Init

@[expose] public section

noncomputable section

namespace Cert.Proof

open Idealize.ShloMosaic Idealize.SL.Sem

/-- Each named constant of the idealized kernel is carried by the float literal the kernel writes. -/
theorem preserves : Cert.preserves_Kernel_KernelIdeal :=
  ⟨IdealRules.named_const.statement Cert.KernelIdeal.κ "exp2_scale" .f32 _ _ rfl,
    IdealRules.named_const.statement Cert.KernelIdeal.κ "mask" .f32 _ _ rfl,
    IdealRules.named_const.statement Cert.KernelIdeal.κ "log2_e" .f32 _ _ rfl,
    IdealRules.named_const.statement Cert.KernelIdeal.κ "ln_2" .f32 _ _ rfl⟩

/-- Everything claimed of the kernel and its reference. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, preserves, Cert.Algebraic.algebraic⟩

end Cert.Proof

end
